-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_finite.lean ====
abbrev S65536x1024 : Shape := ⟨2, ![65536, 1024]⟩
abbrev S1024 : Shape := ⟨1, ![1024]⟩
abbrev S1024x3072 : Shape := ⟨2, ![1024, 3072]⟩
abbrev S16x15x31 : Shape := ⟨3, ![16, 15, 31]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S65536x1024 .f32) (main_arg1 : FVec F S1024 .f32) (main_arg2 : FVec F S1024x3072 .f32) (main_arg3 : FVec F S16x15x31 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S16x15x31 .f32 := Host.absf main_arg3
  let main_cst_2 : FVec F S_ .f32 := constant S_ .f32 0x7F800000#32
  let main_v10 : FVec F S16x15x31 .f32 := broadcastInDim S16x15x31 ![] bcast_S_S16x15x31 main_cst_2
  let main_v11 : IVec S16x15x31 1 := cmpf .olt main_v9 main_v10
  let main_c_3 : IVec S_ 1 := constantI S_ 1 1#1
  let main_v12 : IVec S_ 1 := (fun x v => Host.reduce IntOp.andi x v reducesTo_S16x15x31_S_d0_1_2 h_S_) main_v11 main_c_3
  let main_v13 : IVec S_ 1 := andi main_v8 main_v12
  main_v13
-- ==== Kernel.lean ====
abbrev S65536x1024 : Shape := ⟨2, ![65536, 1024]⟩
abbrev S1024 : Shape := ⟨1, ![1024]⟩
abbrev S1024x3072 : Shape := ⟨2, ![1024, 3072]⟩
abbrev S16x15x31 : Shape := ⟨3, ![16, 15, 31]⟩
abbrev S1x1024 : Shape := ⟨2, ![1, 1024]⟩
abbrev S65536x3072 : Shape := ⟨2, ![65536, 3072]⟩
abbrev S1024x1024 : Shape := ⟨2, ![1024, 1024]⟩
abbrev S1024x1 : Shape := ⟨2, ![1024, 1]⟩
abbrev S1024x2048 : Shape := ⟨2, ![1024, 2048]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x31x1x1 : Shape := ⟨5, ![16, 15, 31, 1, 1]⟩
abbrev S1x1x31x64x64 : Shape := ⟨5, ![1, 1, 31, 64, 64]⟩
abbrev S16x15x31x64x64 : Shape := ⟨5, ![16, 15, 31, 64, 64]⟩
abbrev S16x15x64x64 : Shape := ⟨4, ![16, 15, 64, 64]⟩
abbrev S1x1x64x64 : Shape := ⟨4, ![1, 1, 64, 64]⟩
abbrev S16x14x64x64 : Shape := ⟨4, ![16, 14, 64, 64]⟩
abbrev S16x14x64x128 : Shape := ⟨4, ![16, 14, 64, 128]⟩
abbrev S8x2x14x64x128 : Shape := ⟨5, ![8, 2, 14, 64, 128]⟩
abbrev S8x14x2x64x128 : Shape := ⟨5, ![8, 14, 2, 64, 128]⟩
abbrev S8x14x128x128 : Shape := ⟨4, ![8, 14, 128, 128]⟩
abbrev S8192x128 : Shape := ⟨2, ![8192, 128]⟩
abbrev S1x14x128x128 : Shape := ⟨4, ![1, 14, 128, 128]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 69
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S16x15x31, .f32⟩
  | .hbm, ⟨4, _⟩ => ⟨S1x1024, .f32⟩
  | .hbm, ⟨5, _⟩ => ⟨S1024x3072, .bf16⟩
  | .hbm, ⟨6, _⟩ => ⟨S65536x3072, .bf16⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S1x64, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S1x64, .i32⟩
  | .hbm, ⟨34, _⟩ => ⟨S64x1, .i32⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S64x64, .i1⟩
  | .hbm, ⟨42, _⟩ => ⟨S1x64x64, .i32⟩
  | .hbm, ⟨43, _⟩ => ⟨S31, .i32⟩
  | .hbm, ⟨44, _⟩ => ⟨S31x1x1, .i32⟩
  | .hbm, ⟨45, _⟩ => ⟨S31x64x64, .i32⟩
  | .hbm, ⟨46, _⟩ => ⟨S31x64x64, .i32⟩
  | .hbm, ⟨47, _⟩ => ⟨S31x64x64, .i1⟩
  | .hbm, ⟨48, _⟩ => ⟨S31x64x64, .f32⟩
  | .hbm, ⟨49, _⟩ => ⟨S16x15x31x1x1, .f32⟩
  | .hbm, ⟨50, _⟩ => ⟨S1x1x31x64x64, .f32⟩
  | .hbm, ⟨51, _⟩ => ⟨S16x15x31x64x64, .f32⟩
  | .hbm, ⟨52, _⟩ => ⟨S16x15x31x64x64, .f32⟩
  | .hbm, ⟨53, _⟩ => ⟨S16x15x31x64x64, .f32⟩
  | .hbm, ⟨54, _⟩ => ⟨S_, .f32⟩
  | .hbm, ⟨55, _⟩ => ⟨S16x15x64x64, .f32⟩
  | .hbm, ⟨56, _⟩ => ⟨S1x1x64x64, .i1⟩
  | .hbm, ⟨57, _⟩ => ⟨S_, .f32⟩
  | .hbm, ⟨58, _⟩ => ⟨S_, .f32⟩
  | .hbm, ⟨59, _⟩ => ⟨S16x15x64x64, .i1⟩
  | .hbm, ⟨60, _⟩ => ⟨S16x15x64x64, .f32⟩
  | .hbm, ⟨61, _⟩ => ⟨S16x15x64x64, .f32⟩
  | .hbm, ⟨62, _⟩ => ⟨S16x14x64x64, .f32⟩
  | .hbm, ⟨63, _⟩ => ⟨S16x14x64x64, .f32⟩
  | .hbm, ⟨64, _⟩ => ⟨S16x14x64x128, .f32⟩
  | .hbm, ⟨65, _⟩ => ⟨S8x2x14x64x128, .f32⟩
  | .hbm, ⟨66, _⟩ => ⟨S8x14x2x64x128, .f32⟩
  | .hbm, ⟨67, _⟩ => ⟨S8x14x128x128, .f32⟩
  | .hbm, ⟨68, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S1x14x128x128, .f32⟩
  | .local _ .vmem, ⟨13, _⟩ => ⟨S1x14x128x128, .f32⟩
  | .local _ .vmem, ⟨14, _⟩ => ⟨S8192x128, .bf16⟩
  | .local _ .vmem, ⟨15, _⟩ => ⟨S8192x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

@[reducible] def k1_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32 : BitVec 32 := 32#32
  let v4 : BitVec 32 := Scalar.muli arg7 c32_i32
  let c0_i32_1 : BitVec 32 := 0#32
  let v5 : BitVec 32 := Scalar.addi v4 c0_i32_1
  let c64_i32_4 : BitVec 32 := 64#32
  let v9 : BitVec 32 := Scalar.muli v5 c64_i32_4
  v9
def k1_mult2 (k1_t1 : Fin k1_t1_loop.trips) : BitVec 32 :=
  let c120_i32 : BitVec 32 := 120#32
  let c0_i32_3 : BitVec 32 := 0#32
  let c0_i32 : BitVec 32 := 0#32
  let c1_i32 : BitVec 32 := 1#32
  let arg7 : BitVec 32 := Scf.iv c0_i32 c1_i32 k1_t1
  let c32_i32 : BitVec 32 := 32#32
  let v4 : BitVec 32 := Scalar.muli arg7 c32_i32
  let c0_i32_1 : BitVec 32 := 0#32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c120_i32 v7
  let c64_i32_5 : BitVec 32 := 64#32
  let v11 : BitVec 32 := Scalar.muli v8 c64_i32_5
  v11
def k1_off1 (k1_t1 : Fin k1_t1_loop.trips) (c0_i32_1 : BitVec 32) : Fin 2 → Nat :=
  let c0_i32 : BitVec 32 := 0#32
  let c1_i32 : BitVec 32 := 1#32
  let arg7 : BitVec 32 := Scf.iv c0_i32 c1_i32 k1_t1
  let c32_i32 : BitVec 32 := 32#32
  let v4 : BitVec 32 := Scalar.muli arg7 c32_i32
  let v5 : BitVec 32 := Scalar.addi v4 c0_i32_1
  let c64_i32_4 : BitVec 32 := 64#32
  let v9 : BitVec 32 := Scalar.muli v5 c64_i32_4
  let v10 : BitVec 32 := v9
  let v13 : Index := Scalar.indexCast v10
  let c0 : Index := 0#32
  ![v13.toNat, 0]
def k1_off2 (k1_t1 : Fin k1_t1_loop.trips) (c0_i32_1 : BitVec 32) : Fin 2 → Nat :=
  let c120_i32 : BitVec 32 := 120#32
  let c0_i32_3 : BitVec 32 := 0#32
  let c0_i32 : BitVec 32 := 0#32
  let c1_i32 : BitVec 32 := 1#32
  let arg7 : BitVec 32 := Scf.iv c0_i32 c1_i32 k1_t1
  let c32_i32 : BitVec 32 := 32#32
  let v4 : BitVec 32 := Scalar.muli arg7 c32_i32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c120_i32 v7
  let c64_i32_5 : BitVec 32 := 64#32
  let v11 : BitVec 32 := Scalar.muli v8 c64_i32_5
  let v12 : BitVec 32 := v11
  let v20 : Index := Scalar.indexCast v12
  let c0_6 : Index := 0#32
  ![v20.toNat, 0]
def k1_off3 (k1_t1 : Fin k1_t1_loop.trips) (c0_i32_1 : BitVec 32) (c0_i32_8 : BitVec 32) : Fin 4 → Nat :=
  let c0_9 : Index := 0#32
  let c120_i32 : BitVec 32 := 120#32
  let c0_i32_3 : BitVec 32 := 0#32
  let c0_i32 : BitVec 32 := 0#32
  let c1_i32 : BitVec 32 := 1#32
  let arg7 : BitVec 32 := Scf.iv c0_i32 c1_i32 k1_t1
  let c32_i32 : BitVec 32 := 32#32
  let v4 : BitVec 32 := Scalar.muli arg7 c32_i32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c120_i32 v7
  let v24 : BitVec 32 := Scalar.subi v8 v5
  let c7_i32 : BitVec 32 := 7#32
  let v25 : BitVec 32 := Scalar.addi v24 c7_i32
  let v26 : BitVec 32 := Scalar.addi v25 c0_i32_8
  let v27 : Index := Scalar.indexCast v26
  let c0_10 : Index := 0#32
  let c0_11 : Index := 0#32
  ![0, v27.toNat, 0, 0]
def k1_mult3 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_23 : BitVec 32 := 32#32
  let v46 : BitVec 32 := Scalar.muli arg7 c32_i32_23
  let c1_i32_24 : BitVec 32 := 1#32
  let v47 : BitVec 32 := Scalar.addi v46 c1_i32_24
  let c64_i32_28 : BitVec 32 := 64#32
  let v51 : BitVec 32 := Scalar.muli v47 c64_i32_28
  v51
def k1_mult4 (k1_t1 : Fin k1_t1_loop.trips) : BitVec 32 :=
  let c120_i32_27 : BitVec 32 := 120#32
  let c0_i32_26 : BitVec 32 := 0#32
  let c0_i32 : BitVec 32 := 0#32
  let c1_i32 : BitVec 32 := 1#32
  let arg7 : BitVec 32 := Scf.iv c0_i32 c1_i32 k1_t1
  let c32_i32_23 : BitVec 32 := 32#32
  let v46 : BitVec 32 := Scalar.muli arg7 c32_i32_23
  let c1_i32_24 : BitVec 32 := 1#32
  let v47 : BitVec 32 := Scalar.addi v46 c1_i32_24
  let c4_i32_25 : BitVec 32 := 4#32
  let v48 : BitVec 32 := Scalar.subi v47 c4_i32_25
  let v49 : BitVec 32 := Scalar.maxsi c0_i32_26 v48
  let v50 : BitVec 32 := Scalar.minsi c120_i32_27 v49
  let c64_i32_29 : BitVec 32 := 64#32
  let v53 : BitVec 32 := Scalar.muli v50 c64_i32_29
  v53
def k1_mult5 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_52 : BitVec 32 := 32#32
  let v88 : BitVec 32 := Scalar.muli arg7 c32_i32_52
  let c2_i32_53 : BitVec 32 := 2#32
  let v89 : BitVec 32 := Scalar.addi v88 c2_i32_53
  let c64_i32_57 : BitVec 32 := 64#32
  let v93 : BitVec 32 := Scalar.muli v89 c64_i32_57
  v93
def k1_mult6 (k1_t1 : Fin k1_t1_loop.trips) : BitVec 32 :=
  let c120_i32_56 : BitVec 32 := 120#32
  let c0_i32_55 : BitVec 32 := 0#32
  let c0_i32 : BitVec 32 := 0#32
  let c1_i32 : BitVec 32 := 1#32
  let arg7 : BitVec 32 := Scf.iv c0_i32 c1_i32 k1_t1
  let c32_i32_52 : BitVec 32 := 32#32
  let v88 : BitVec 32 := Scalar.muli arg7 c32_i32_52
  let c2_i32_53 : BitVec 32 := 2#32
  let v89 : BitVec 32 := Scalar.addi v88 c2_i32_53
  let c4_i32_54 : BitVec 32 := 4#32
  let v90 : BitVec 32 := Scalar.subi v89 c4_i32_54
  let v91 : BitVec 32 := Scalar.maxsi c0_i32_55 v90
  let v92 : BitVec 32 := Scalar.minsi c120_i32_56 v91
  let c64_i32_58 : BitVec 32 := 64#32
  let v95 : BitVec 32 := Scalar.muli v92 c64_i32_58
  v95
def k1_mult7 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_81 : BitVec 32 := 32#32
  let v130 : BitVec 32 := Scalar.muli arg7 c32_i32_81
  let c3_i32 : BitVec 32 := 3#32
  let v131 : BitVec 32 := Scalar.addi v130 c3_i32
  let c64_i32_85 : BitVec 32 := 64#32
  let v135 : BitVec 32 := Scalar.muli v131 c64_i32_85
  v135
def k1_mult8 (k1_t1 : Fin k1_t1_loop.trips) : BitVec 32 :=
  let c120_i32_84 : BitVec 32 := 120#32
  let c0_i32_83 : BitVec 32 := 0#32
  let c0_i32 : BitVec 32 := 0#32
  let c1_i32 : BitVec 32 := 1#32
  let arg7 : BitVec 32 := Scf.iv c0_i32 c1_i32 k1_t1
  let c32_i32_81 : BitVec 32 := 32#32
  let v130 : BitVec 32 := Scalar.muli arg7 c32_i32_81
  let c3_i32 : BitVec 32 := 3#32
  let v131 : BitVec 32 := Scalar.addi v130 c3_i32
  let c4_i32_82 : BitVec 32 := 4#32
  let v132 : BitVec 32 := Scalar.subi v131 c4_i32_82
  let v133 : BitVec 32 := Scalar.maxsi c0_i32_83 v132
  let v134 : BitVec 32 := Scalar.minsi c120_i32_84 v133
  let c64_i32_86 : BitVec 32 := 64#32
  let v137 : BitVec 32 := Scalar.muli v134 c64_i32_86
  v137
def k1_mult9 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_109 : BitVec 32 := 32#32
  let v172 : BitVec 32 := Scalar.muli arg7 c32_i32_109
  let c4_i32_110 : BitVec 32 := 4#32
  let v173 : BitVec 32 := Scalar.addi v172 c4_i32_110
  let c64_i32_114 : BitVec 32 := 64#32
  let v177 : BitVec 32 := Scalar.muli v173 c64_i32_114
  v177
def k1_mult10 (k1_t1 : Fin k1_t1_loop.trips) : BitVec 32 :=
  let c120_i32_113 : BitVec 32 := 120#32
  let c0_i32_112 : BitVec 32 := 0#32
  let c0_i32 : BitVec 32 := 0#32
  let c1_i32 : BitVec 32 := 1#32
  let arg7 : BitVec 32 := Scf.iv c0_i32 c1_i32 k1_t1
  let c32_i32_109 : BitVec 32 := 32#32
  let v172 : BitVec 32 := Scalar.muli arg7 c32_i32_109
  let c4_i32_110 : BitVec 32 := 4#32
  let v173 : BitVec 32 := Scalar.addi v172 c4_i32_110
  let c4_i32_111 : BitVec 32 := 4#32
  let v174 : BitVec 32 := Scalar.subi v173 c4_i32_111
  let v175 : BitVec 32 := Scalar.maxsi c0_i32_112 v174
  let v176 : BitVec 32 := Scalar.minsi c120_i32_113 v175
  let c64_i32_115 : BitVec 32 := 64#32
  let v179 : BitVec 32 := Scalar.muli v176 c64_i32_115
  v179
def k1_mult11 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_138 : BitVec 32 := 32#32
  let v214 : BitVec 32 := Scalar.muli arg7 c32_i32_138
  let c5_i32 : BitVec 32 := 5#32
  let v215 : BitVec 32 := Scalar.addi v214 c5_i32
  let c64_i32_142 : BitVec 32 := 64#32
  let v219 : BitVec 32 := Scalar.muli v215 c64_i32_142
  v219
def k1_mult12 (k1_t1 : Fin k1_t1_loop.trips) : BitVec 32 :=
  let c120_i32_141 : BitVec 32 := 120#32
  let c0_i32_140 : BitVec 32 := 0#32
  let c0_i32 : BitVec 32 := 0#32
  let c1_i32 : BitVec 32 := 1#32
  let arg7 : BitVec 32 := Scf.iv c0_i32 c1_i32 k1_t1
  let c32_i32_138 : BitVec 32 := 32#32
  let v214 : BitVec 32 := Scalar.muli arg7 c32_i32_138
  let c5_i32 : BitVec 32 := 5#32
  let v215 : BitVec 32 := Scalar.addi v214 c5_i32
  let c4_i32_139 : BitVec 32 := 4#32
  let v216 : BitVec 32 := Scalar.subi v215 c4_i32_139
  let v217 : BitVec 32 := Scalar.maxsi c0_i32_140 v216
  let v218 : BitVec 32 := Scalar.minsi c120_i32_141 v217
  let c64_i32_143 : BitVec 32 := 64#32
  let v221 : BitVec 32 := Scalar.muli v218 c64_i32_143
  v221
def k1_mult13 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_166 : BitVec 32 := 32#32
  let v256 : BitVec 32 := Scalar.muli arg7 c32_i32_166
  let c6_i32_167 : BitVec 32 := 6#32
  let v257 : BitVec 32 := Scalar.addi v256 c6_i32_167
  let c64_i32_171 : BitVec 32 := 64#32
  let v261 : BitVec 32 := Scalar.muli v257 c64_i32_171
  v261
def k1_mult14 (k1_t1 : Fin k1_t1_loop.trips) : BitVec 32 :=
  let c120_i32_170 : BitVec 32 := 120#32
  let c0_i32_169 : BitVec 32 := 0#32
  let c0_i32 : BitVec 32 := 0#32
  let c1_i32 : BitVec 32 := 1#32
  let arg7 : BitVec 32 := Scf.iv c0_i32 c1_i32 k1_t1
  let c32_i32_166 : BitVec 32 := 32#32
  let v256 : BitVec 32 := Scalar.muli arg7 c32_i32_166
  let c6_i32_167 : BitVec 32 := 6#32
  let v257 : BitVec 32 := Scalar.addi v256 c6_i32_167
  let c4_i32_168 : BitVec 32 := 4#32
  let v258 : BitVec 32 := Scalar.subi v257 c4_i32_168
  let v259 : BitVec 32 := Scalar.maxsi c0_i32_169 v258
  let v260 : BitVec 32 := Scalar.minsi c120_i32_170 v259
  let c64_i32_172 : BitVec 32 := 64#32
  let v263 : BitVec 32 := Scalar.muli v260 c64_i32_172
  v263
def k1_mult15 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_195 : BitVec 32 := 32#32
  let v298 : BitVec 32 := Scalar.muli arg7 c32_i32_195
  let c7_i32_196 : BitVec 32 := 7#32
  let v299 : BitVec 32 := Scalar.addi v298 c7_i32_196
  let c64_i32_200 : BitVec 32 := 64#32
  let v303 : BitVec 32 := Scalar.muli v299 c64_i32_200
  v303
def k1_mult16 (k1_t1 : Fin k1_t1_loop.trips) : BitVec 32 :=
  let c120_i32_199 : BitVec 32 := 120#32
  let c0_i32_198 : BitVec 32 := 0#32
  let c0_i32 : BitVec 32 := 0#32
  let c1_i32 : BitVec 32 := 1#32
  let arg7 : BitVec 32 := Scf.iv c0_i32 c1_i32 k1_t1
  let c32_i32_195 : BitVec 32 := 32#32
  let v298 : BitVec 32 := Scalar.muli arg7 c32_i32_195
  let c7_i32_196 : BitVec 32 := 7#32
  let v299 : BitVec 32 := Scalar.addi v298 c7_i32_196
  let c4_i32_197 : BitVec 32 := 4#32
  let v300 : BitVec 32 := Scalar.subi v299 c4_i32_197
  let v301 : BitVec 32 := Scalar.maxsi c0_i32_198 v300
  let v302 : BitVec 32 := Scalar.minsi c120_i32_199 v301
  let c64_i32_201 : BitVec 32 := 64#32
  let v305 : BitVec 32 := Scalar.muli v302 c64_i32_201
  v305
def k1_mult17 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_224 : BitVec 32 := 32#32
  let v340 : BitVec 32 := Scalar.muli arg7 c32_i32_224
  let c8_i32 : BitVec 32 := 8#32
  let v341 : BitVec 32 := Scalar.addi v340 c8_i32
  let c64_i32_228 : BitVec 32 := 64#32
  let v345 : BitVec 32 := Scalar.muli v341 c64_i32_228
  v345
def k1_mult18 (k1_t1 : Fin k1_t1_loop.trips) : BitVec 32 :=
  let c120_i32_227 : BitVec 32 := 120#32
  let c0_i32_226 : BitVec 32 := 0#32
  let c0_i32 : BitVec 32 := 0#32
  let c1_i32 : BitVec 32 := 1#32
  let arg7 : BitVec 32 := Scf.iv c0_i32 c1_i32 k1_t1
  let c32_i32_224 : BitVec 32 := 32#32
  let v340 : BitVec 32 := Scalar.muli arg7 c32_i32_224
  let c8_i32 : BitVec 32 := 8#32
  let v341 : BitVec 32 := Scalar.addi v340 c8_i32
  let c4_i32_225 : BitVec 32 := 4#32
  let v342 : BitVec 32 := Scalar.subi v341 c4_i32_225
  let v343 : BitVec 32 := Scalar.maxsi c0_i32_226 v342
  let v344 : BitVec 32 := Scalar.minsi c120_i32_227 v343
  let c64_i32_229 : BitVec 32 := 64#32
  let v347 : BitVec 32 := Scalar.muli v344 c64_i32_229
  v347
def k1_mult19 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_252 : BitVec 32 := 32#32
  let v382 : BitVec 32 := Scalar.muli arg7 c32_i32_252
  let c9_i32 : BitVec 32 := 9#32
  let v383 : BitVec 32 := Scalar.addi v382 c9_i32
  let c64_i32_256 : BitVec 32 := 64#32
  let v387 : BitVec 32 := Scalar.muli v383 c64_i32_256
  v387
def k1_mult20 (k1_t1 : Fin k1_t1_loop.trips) : BitVec 32 :=
  let c120_i32_255 : BitVec 32 := 120#32
  let c0_i32_254 : BitVec 32 := 0#32
  let c0_i32 : BitVec 32 := 0#32
  let c1_i32 : BitVec 32 := 1#32
  let arg7 : BitVec 32 := Scf.iv c0_i32 c1_i32 k1_t1
  let c32_i32_252 : BitVec 32 := 32#32
  let v382 : BitVec 32 := Scalar.muli arg7 c32_i32_252
  let c9_i32 : BitVec 32 := 9#32
  let v383 : BitVec 32 := Scalar.addi v382 c9_i32
  let c4_i32_253 : BitVec 32 := 4#32
  let v384 : BitVec 32 := Scalar.subi v383 c4_i32_253
  let v385 : BitVec 32 := Scalar.maxsi c0_i32_254 v384
  let v386 : BitVec 32 := Scalar.minsi c120_i32_255 v385
  let c64_i32_257 : BitVec 32 := 64#32
  let v389 : BitVec 32 := Scalar.muli v386 c64_i32_257
  v389
def k1_mult21 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_280 : BitVec 32 := 32#32
  let v424 : BitVec 32 := Scalar.muli arg7 c32_i32_280
  let c10_i32 : BitVec 32 := 10#32
  let v425 : BitVec 32 := Scalar.addi v424 c10_i32
  let c64_i32_284 : BitVec 32 := 64#32
  let v429 : BitVec 32 := Scalar.muli v425 c64_i32_284
  v429
def k1_mult22 (k1_t1 : Fin k1_t1_loop.trips) : BitVec 32 :=
  let c120_i32_283 : BitVec 32 := 120#32
  let c0_i32_282 : BitVec 32 := 0#32
  let c0_i32 : BitVec 32 := 0#32
  let c1_i32 : BitVec 32 := 1#32
  let arg7 : BitVec 32 := Scf.iv c0_i32 c1_i32 k1_t1
  let c32_i32_280 : BitVec 32 := 32#32
  let v424 : BitVec 32 := Scalar.muli arg7 c32_i32_280
  let c10_i32 : BitVec 32 := 10#32
  let v425 : BitVec 32 := Scalar.addi v424 c10_i32
  let c4_i32_281 : BitVec 32 := 4#32
  let v426 : BitVec 32 := Scalar.subi v425 c4_i32_281
  let v427 : BitVec 32 := Scalar.maxsi c0_i32_282 v426
  let v428 : BitVec 32 := Scalar.minsi c120_i32_283 v427
  let c64_i32_285 : BitVec 32 := 64#32
  let v431 : BitVec 32 := Scalar.muli v428 c64_i32_285
  v431
def k1_mult23 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_308 : BitVec 32 := 32#32
  let v466 : BitVec 32 := Scalar.muli arg7 c32_i32_308
  let c11_i32 : BitVec 32 := 11#32
  let v467 : BitVec 32 := Scalar.addi v466 c11_i32
  let c64_i32_312 : BitVec 32 := 64#32
  let v471 : BitVec 32 := Scalar.muli v467 c64_i32_312
  v471
def k1_mult24 (k1_t1 : Fin k1_t1_loop.trips) : BitVec 32 :=
  let c120_i32_311 : BitVec 32 := 120#32
  let c0_i32_310 : BitVec 32 := 0#32
  let c0_i32 : BitVec 32 := 0#32
  let c1_i32 : BitVec 32 := 1#32
  let arg7 : BitVec 32 := Scf.iv c0_i32 c1_i32 k1_t1
  let c32_i32_308 : BitVec 32 := 32#32
  let v466 : BitVec 32 := Scalar.muli arg7 c32_i32_308
  let c11_i32 : BitVec 32 := 11#32
  let v467 : BitVec 32 := Scalar.addi v466 c11_i32
  let c4_i32_309 : BitVec 32 := 4#32
  let v468 : BitVec 32 := Scalar.subi v467 c4_i32_309
  let v469 : BitVec 32 := Scalar.maxsi c0_i32_310 v468
  let v470 : BitVec 32 := Scalar.minsi c120_i32_311 v469
  let c64_i32_313 : BitVec 32 := 64#32
  let v473 : BitVec 32 := Scalar.muli v470 c64_i32_313
  v473
def k1_mult25 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_336 : BitVec 32 := 32#32
  let v508 : BitVec 32 := Scalar.muli arg7 c32_i32_336
  let c12_i32 : BitVec 32 := 12#32
  let v509 : BitVec 32 := Scalar.addi v508 c12_i32
  let c64_i32_340 : BitVec 32 := 64#32
  let v513 : BitVec 32 := Scalar.muli v509 c64_i32_340
  v513
def k1_mult26 (k1_t1 : Fin k1_t1_loop.trips) : BitVec 32 :=
  let c120_i32_339 : BitVec 32 := 120#32
  let c0_i32_338 : BitVec 32 := 0#32
  let c0_i32 : BitVec 32 := 0#32
  let c1_i32 : BitVec 32 := 1#32
  let arg7 : BitVec 32 := Scf.iv c0_i32 c1_i32 k1_t1
  let c32_i32_336 : BitVec 32 := 32#32
  let v508 : BitVec 32 := Scalar.muli arg7 c32_i32_336
  let c12_i32 : BitVec 32 := 12#32
  let v509 : BitVec 32 := Scalar.addi v508 c12_i32
  let c4_i32_337 : BitVec 32 := 4#32
  let v510 : BitVec 32 := Scalar.subi v509 c4_i32_337
  let v511 : BitVec 32 := Scalar.maxsi c0_i32_338 v510
  let v512 : BitVec 32 := Scalar.minsi c120_i32_339 v511
  let c64_i32_341 : BitVec 32 := 64#32
  let v515 : BitVec 32 := Scalar.muli v512 c64_i32_341
  v515
def k1_mult27 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_364 : BitVec 32 := 32#32
  let v550 : BitVec 32 := Scalar.muli arg7 c32_i32_364
  let c13_i32 : BitVec 32 := 13#32
  let v551 : BitVec 32 := Scalar.addi v550 c13_i32
  let c64_i32_368 : BitVec 32 := 64#32
  let v555 : BitVec 32 := Scalar.muli v551 c64_i32_368
  v555
def k1_mult28 (k1_t1 : Fin k1_t1_loop.trips) : BitVec 32 :=
  let c120_i32_367 : BitVec 32 := 120#32
  let c0_i32_366 : BitVec 32 := 0#32
  let c0_i32 : BitVec 32 := 0#32
  let c1_i32 : BitVec 32 := 1#32
  let arg7 : BitVec 32 := Scf.iv c0_i32 c1_i32 k1_t1
  let c32_i32_364 : BitVec 32 := 32#32
  let v550 : BitVec 32 := Scalar.muli arg7 c32_i32_364
  let c13_i32 : BitVec 32 := 13#32
  let v551 : BitVec 32 := Scalar.addi v550 c13_i32
  let c4_i32_365 : BitVec 32 := 4#32
  let v552 : BitVec 32 := Scalar.subi v551 c4_i32_365
  let v553 : BitVec 32 := Scalar.maxsi c0_i32_366 v552
  let v554 : BitVec 32 := Scalar.minsi c120_i32_367 v553
  let c64_i32_369 : BitVec 32 := 64#32
  let v557 : BitVec 32 := Scalar.muli v554 c64_i32_369
  v557
def k1_mult29 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_392 : BitVec 32 := 32#32
  let v592 : BitVec 32 := Scalar.muli arg7 c32_i32_392
  let c14_i32 : BitVec 32 := 14#32
  let v593 : BitVec 32 := Scalar.addi v592 c14_i32
  let c64_i32_396 : BitVec 32 := 64#32
  let v597 : BitVec 32 := Scalar.muli v593 c64_i32_396
  v597
def k1_mult30 (k1_t1 : Fin k1_t1_loop.trips) : BitVec 32 :=
  let c120_i32_395 : BitVec 32 := 120#32
  let c0_i32_394 : BitVec 32 := 0#32
  let c0_i32 : BitVec 32 := 0#32
  let c1_i32 : BitVec 32 := 1#32
  let arg7 : BitVec 32 := Scf.iv c0_i32 c1_i32 k1_t1
  let c32_i32_392 : BitVec 32 := 32#32
  let v592 : BitVec 32 := Scalar.muli arg7 c32_i32_392
  let c14_i32 : BitVec 32 := 14#32
  let v593 : BitVec 32 := Scalar.addi v592 c14_i32
  let c4_i32_393 : BitVec 32 := 4#32
  let v594 : BitVec 32 := Scalar.subi v593 c4_i32_393
  let v595 : BitVec 32 := Scalar.maxsi c0_i32_394 v594
  let v596 : BitVec 32 := Scalar.minsi c120_i32_395 v595
  let c64_i32_397 : BitVec 32 := 64#32
  let v599 : BitVec 32 := Scalar.muli v596 c64_i32_397
  v599
def k1_mult31 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_420 : BitVec 32 := 32#32
  let v634 : BitVec 32 := Scalar.muli arg7 c32_i32_420
  let c15_i32 : BitVec 32 := 15#32
  let v635 : BitVec 32 := Scalar.addi v634 c15_i32
  let c64_i32_424 : BitVec 32 := 64#32
  let v639 : BitVec 32 := Scalar.muli v635 c64_i32_424
  v639
def k1_mult32 (k1_t1 : Fin k1_t1_loop.trips) : BitVec 32 :=
  let c120_i32_423 : BitVec 32 := 120#32
  let c0_i32_422 : BitVec 32 := 0#32
  let c0_i32 : BitVec 32 := 0#32
  let c1_i32 : BitVec 32 := 1#32
  let arg7 : BitVec 32 := Scf.iv c0_i32 c1_i32 k1_t1
  let c32_i32_420 : BitVec 32 := 32#32
  let v634 : BitVec 32 := Scalar.muli arg7 c32_i32_420
  let c15_i32 : BitVec 32 := 15#32
  let v635 : BitVec 32 := Scalar.addi v634 c15_i32
  let c4_i32_421 : BitVec 32 := 4#32
  let v636 : BitVec 32 := Scalar.subi v635 c4_i32_421
  let v637 : BitVec 32 := Scalar.maxsi c0_i32_422 v636
  let v638 : BitVec 32 := Scalar.minsi c120_i32_423 v637
  let c64_i32_425 : BitVec 32 := 64#32
  let v641 : BitVec 32 := Scalar.muli v638 c64_i32_425
  v641
def k1_mult33 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_448 : BitVec 32 := 32#32
  let v676 : BitVec 32 := Scalar.muli arg7 c32_i32_448
  let c16_i32 : BitVec 32 := 16#32
  let v677 : BitVec 32 := Scalar.addi v676 c16_i32
  let c64_i32_452 : BitVec 32 := 64#32
  let v681 : BitVec 32 := Scalar.muli v677 c64_i32_452
  v681
def k1_mult34 (k1_t1 : Fin k1_t1_loop.trips) : BitVec 32 :=
  let c120_i32_451 : BitVec 32 := 120#32
  let c0_i32_450 : BitVec 32 := 0#32
  let c0_i32 : BitVec 32 := 0#32
  let c1_i32 : BitVec 32 := 1#32
  let arg7 : BitVec 32 := Scf.iv c0_i32 c1_i32 k1_t1
  let c32_i32_448 : BitVec 32 := 32#32
  let v676 : BitVec 32 := Scalar.muli arg7 c32_i32_448
  let c16_i32 : BitVec 32 := 16#32
  let v677 : BitVec 32 := Scalar.addi v676 c16_i32
  let c4_i32_449 : BitVec 32 := 4#32
  let v678 : BitVec 32 := Scalar.subi v677 c4_i32_449
  let v679 : BitVec 32 := Scalar.maxsi c0_i32_450 v678
  let v680 : BitVec 32 := Scalar.minsi c120_i32_451 v679
  let c64_i32_453 : BitVec 32 := 64#32
  let v683 : BitVec 32 := Scalar.muli v680 c64_i32_453
  v683
def k1_mult35 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_476 : BitVec 32 := 32#32
  let v718 : BitVec 32 := Scalar.muli arg7 c32_i32_476
  let c17_i32 : BitVec 32 := 17#32
  let v719 : BitVec 32 := Scalar.addi v718 c17_i32
  let c64_i32_480 : BitVec 32 := 64#32
  let v723 : BitVec 32 := Scalar.muli v719 c64_i32_480
  v723
def k1_mult36 (k1_t1 : Fin k1_t1_loop.trips) : BitVec 32 :=
  let c120_i32_479 : BitVec 32 := 120#32
  let c0_i32_478 : BitVec 32 := 0#32
  let c0_i32 : BitVec 32 := 0#32
  let c1_i32 : BitVec 32 := 1#32
  let arg7 : BitVec 32 := Scf.iv c0_i32 c1_i32 k1_t1
  let c32_i32_476 : BitVec 32 := 32#32
  let v718 : BitVec 32 := Scalar.muli arg7 c32_i32_476
  let c17_i32 : BitVec 32 := 17#32
  let v719 : BitVec 32 := Scalar.addi v718 c17_i32
  let c4_i32_477 : BitVec 32 := 4#32
  let v720 : BitVec 32 := Scalar.subi v719 c4_i32_477
  let v721 : BitVec 32 := Scalar.maxsi c0_i32_478 v720
  let v722 : BitVec 32 := Scalar.minsi c120_i32_479 v721
  let c64_i32_481 : BitVec 32 := 64#32
  let v725 : BitVec 32 := Scalar.muli v722 c64_i32_481
  v725
def k1_mult37 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_504 : BitVec 32 := 32#32
  let v760 : BitVec 32 := Scalar.muli arg7 c32_i32_504
  let c18_i32 : BitVec 32 := 18#32
  let v761 : BitVec 32 := Scalar.addi v760 c18_i32
  let c64_i32_508 : BitVec 32 := 64#32
  let v765 : BitVec 32 := Scalar.muli v761 c64_i32_508
  v765
def k1_mult38 (k1_t1 : Fin k1_t1_loop.trips) : BitVec 32 :=
  let c120_i32_507 : BitVec 32 := 120#32
  let c0_i32_506 : BitVec 32 := 0#32
  let c0_i32 : BitVec 32 := 0#32
  let c1_i32 : BitVec 32 := 1#32
  let arg7 : BitVec 32 := Scf.iv c0_i32 c1_i32 k1_t1
  let c32_i32_504 : BitVec 32 := 32#32
  let v760 : BitVec 32 := Scalar.muli arg7 c32_i32_504
  let c18_i32 : BitVec 32 := 18#32
  let v761 : BitVec 32 := Scalar.addi v760 c18_i32
  let c4_i32_505 : BitVec 32 := 4#32
  let v762 : BitVec 32 := Scalar.subi v761 c4_i32_505
  let v763 : BitVec 32 := Scalar.maxsi c0_i32_506 v762
  let v764 : BitVec 32 := Scalar.minsi c120_i32_507 v763
  let c64_i32_509 : BitVec 32 := 64#32
  let v767 : BitVec 32 := Scalar.muli v764 c64_i32_509
  v767
def k1_mult39 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_532 : BitVec 32 := 32#32
  let v802 : BitVec 32 := Scalar.muli arg7 c32_i32_532
  let c19_i32 : BitVec 32 := 19#32
  let v803 : BitVec 32 := Scalar.addi v802 c19_i32
  let c64_i32_536 : BitVec 32 := 64#32
  let v807 : BitVec 32 := Scalar.muli v803 c64_i32_536
  v807
def k1_mult40 (k1_t1 : Fin k1_t1_loop.trips) : BitVec 32 :=
  let c120_i32_535 : BitVec 32 := 120#32
  let c0_i32_534 : BitVec 32 := 0#32
  let c0_i32 : BitVec 32 := 0#32
  let c1_i32 : BitVec 32 := 1#32
  let arg7 : BitVec 32 := Scf.iv c0_i32 c1_i32 k1_t1
  let c32_i32_532 : BitVec 32 := 32#32
  let v802 : BitVec 32 := Scalar.muli arg7 c32_i32_532
  let c19_i32 : BitVec 32 := 19#32
  let v803 : BitVec 32 := Scalar.addi v802 c19_i32
  let c4_i32_533 : BitVec 32 := 4#32
  let v804 : BitVec 32 := Scalar.subi v803 c4_i32_533
  let v805 : BitVec 32 := Scalar.maxsi c0_i32_534 v804
  let v806 : BitVec 32 := Scalar.minsi c120_i32_535 v805
  let c64_i32_537 : BitVec 32 := 64#32
  let v809 : BitVec 32 := Scalar.muli v806 c64_i32_537
  v809
def k1_mult41 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_560 : BitVec 32 := 32#32
  let v844 : BitVec 32 := Scalar.muli arg7 c32_i32_560
  let c20_i32 : BitVec 32 := 20#32
  let v845 : BitVec 32 := Scalar.addi v844 c20_i32
  let c64_i32_564 : BitVec 32 := 64#32
  let v849 : BitVec 32 := Scalar.muli v845 c64_i32_564
  v849
def k1_mult42 (k1_t1 : Fin k1_t1_loop.trips) : BitVec 32 :=
  let c120_i32_563 : BitVec 32 := 120#32
  let c0_i32_562 : BitVec 32 := 0#32
  let c0_i32 : BitVec 32 := 0#32
  let c1_i32 : BitVec 32 := 1#32
  let arg7 : BitVec 32 := Scf.iv c0_i32 c1_i32 k1_t1
  let c32_i32_560 : BitVec 32 := 32#32
  let v844 : BitVec 32 := Scalar.muli arg7 c32_i32_560
  let c20_i32 : BitVec 32 := 20#32
  let v845 : BitVec 32 := Scalar.addi v844 c20_i32
  let c4_i32_561 : BitVec 32 := 4#32
  let v846 : BitVec 32 := Scalar.subi v845 c4_i32_561
  let v847 : BitVec 32 := Scalar.maxsi c0_i32_562 v846
  let v848 : BitVec 32 := Scalar.minsi c120_i32_563 v847
  let c64_i32_565 : BitVec 32 := 64#32
  let v851 : BitVec 32 := Scalar.muli v848 c64_i32_565
  v851
def k1_mult43 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_588 : BitVec 32 := 32#32
  let v886 : BitVec 32 := Scalar.muli arg7 c32_i32_588
  let c21_i32 : BitVec 32 := 21#32
  let v887 : BitVec 32 := Scalar.addi v886 c21_i32
  let c64_i32_592 : BitVec 32 := 64#32
  let v891 : BitVec 32 := Scalar.muli v887 c64_i32_592
  v891
def k1_mult44 (k1_t1 : Fin k1_t1_loop.trips) : BitVec 32 :=
  let c120_i32_591 : BitVec 32 := 120#32
  let c0_i32_590 : BitVec 32 := 0#32
  let c0_i32 : BitVec 32 := 0#32
  let c1_i32 : BitVec 32 := 1#32
  let arg7 : BitVec 32 := Scf.iv c0_i32 c1_i32 k1_t1
  let c32_i32_588 : BitVec 32 := 32#32
  let v886 : BitVec 32 := Scalar.muli arg7 c32_i32_588
  let c21_i32 : BitVec 32 := 21#32
  let v887 : BitVec 32 := Scalar.addi v886 c21_i32
  let c4_i32_589 : BitVec 32 := 4#32
  let v888 : BitVec 32 := Scalar.subi v887 c4_i32_589
  let v889 : BitVec 32 := Scalar.maxsi c0_i32_590 v888
  let v890 : BitVec 32 := Scalar.minsi c120_i32_591 v889
  let c64_i32_593 : BitVec 32 := 64#32
  let v893 : BitVec 32 := Scalar.muli v890 c64_i32_593
  v893
def k1_mult45 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_616 : BitVec 32 := 32#32
  let v928 : BitVec 32 := Scalar.muli arg7 c32_i32_616
  let c22_i32 : BitVec 32 := 22#32
  let v929 : BitVec 32 := Scalar.addi v928 c22_i32
  let c64_i32_620 : BitVec 32 := 64#32
  let v933 : BitVec 32 := Scalar.muli v929 c64_i32_620
  v933
def k1_mult46 (k1_t1 : Fin k1_t1_loop.trips) : BitVec 32 :=
  let c120_i32_619 : BitVec 32 := 120#32
  let c0_i32_618 : BitVec 32 := 0#32
  let c0_i32 : BitVec 32 := 0#32
  let c1_i32 : BitVec 32 := 1#32
  let arg7 : BitVec 32 := Scf.iv c0_i32 c1_i32 k1_t1
  let c32_i32_616 : BitVec 32 := 32#32
  let v928 : BitVec 32 := Scalar.muli arg7 c32_i32_616
  let c22_i32 : BitVec 32 := 22#32
  let v929 : BitVec 32 := Scalar.addi v928 c22_i32
  let c4_i32_617 : BitVec 32 := 4#32
  let v930 : BitVec 32 := Scalar.subi v929 c4_i32_617
  let v931 : BitVec 32 := Scalar.maxsi c0_i32_618 v930
  let v932 : BitVec 32 := Scalar.minsi c120_i32_619 v931
  let c64_i32_621 : BitVec 32 := 64#32
  let v935 : BitVec 32 := Scalar.muli v932 c64_i32_621
  v935
def k1_mult47 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_644 : BitVec 32 := 32#32
  let v970 : BitVec 32 := Scalar.muli arg7 c32_i32_644
  let c23_i32 : BitVec 32 := 23#32
  let v971 : BitVec 32 := Scalar.addi v970 c23_i32
  let c64_i32_648 : BitVec 32 := 64#32
  let v975 : BitVec 32 := Scalar.muli v971 c64_i32_648
  v975
def k1_mult48 (k1_t1 : Fin k1_t1_loop.trips) : BitVec 32 :=
  let c120_i32_647 : BitVec 32 := 120#32
  let c0_i32_646 : BitVec 32 := 0#32
  let c0_i32 : BitVec 32 := 0#32
  let c1_i32 : BitVec 32 := 1#32
  let arg7 : BitVec 32 := Scf.iv c0_i32 c1_i32 k1_t1
  let c32_i32_644 : BitVec 32 := 32#32
  let v970 : BitVec 32 := Scalar.muli arg7 c32_i32_644
  let c23_i32 : BitVec 32 := 23#32
  let v971 : BitVec 32 := Scalar.addi v970 c23_i32
  let c4_i32_645 : BitVec 32 := 4#32
  let v972 : BitVec 32 := Scalar.subi v971 c4_i32_645
  let v973 : BitVec 32 := Scalar.maxsi c0_i32_646 v972
  let v974 : BitVec 32 := Scalar.minsi c120_i32_647 v973
  let c64_i32_649 : BitVec 32 := 64#32
  let v977 : BitVec 32 := Scalar.muli v974 c64_i32_649
  v977
def k1_mult49 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_672 : BitVec 32 := 32#32
  let v1012 : BitVec 32 := Scalar.muli arg7 c32_i32_672
  let c24_i32 : BitVec 32 := 24#32
  let v1013 : BitVec 32 := Scalar.addi v1012 c24_i32
  let c64_i32_676 : BitVec 32 := 64#32
  let v1017 : BitVec 32 := Scalar.muli v1013 c64_i32_676
  v1017
def k1_mult50 (k1_t1 : Fin k1_t1_loop.trips) : BitVec 32 :=
  let c120_i32_675 : BitVec 32 := 120#32
  let c0_i32_674 : BitVec 32 := 0#32
  let c0_i32 : BitVec 32 := 0#32
  let c1_i32 : BitVec 32 := 1#32
  let arg7 : BitVec 32 := Scf.iv c0_i32 c1_i32 k1_t1
  let c32_i32_672 : BitVec 32 := 32#32
  let v1012 : BitVec 32 := Scalar.muli arg7 c32_i32_672
  let c24_i32 : BitVec 32 := 24#32
  let v1013 : BitVec 32 := Scalar.addi v1012 c24_i32
  let c4_i32_673 : BitVec 32 := 4#32
  let v1014 : BitVec 32 := Scalar.subi v1013 c4_i32_673
  let v1015 : BitVec 32 := Scalar.maxsi c0_i32_674 v1014
  let v1016 : BitVec 32 := Scalar.minsi c120_i32_675 v1015
  let c64_i32_677 : BitVec 32 := 64#32
  let v1019 : BitVec 32 := Scalar.muli v1016 c64_i32_677
  v1019
def k1_mult51 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_700 : BitVec 32 := 32#32
  let v1054 : BitVec 32 := Scalar.muli arg7 c32_i32_700
  let c25_i32 : BitVec 32 := 25#32
  let v1055 : BitVec 32 := Scalar.addi v1054 c25_i32
  let c64_i32_704 : BitVec 32 := 64#32
  let v1059 : BitVec 32 := Scalar.muli v1055 c64_i32_704
  v1059
def k1_mult52 (k1_t1 : Fin k1_t1_loop.trips) : BitVec 32 :=
  let c120_i32_703 : BitVec 32 := 120#32
  let c0_i32_702 : BitVec 32 := 0#32
  let c0_i32 : BitVec 32 := 0#32
  let c1_i32 : BitVec 32 := 1#32
  let arg7 : BitVec 32 := Scf.iv c0_i32 c1_i32 k1_t1
  let c32_i32_700 : BitVec 32 := 32#32
  let v1054 : BitVec 32 := Scalar.muli arg7 c32_i32_700
  let c25_i32 : BitVec 32 := 25#32
  let v1055 : BitVec 32 := Scalar.addi v1054 c25_i32
  let c4_i32_701 : BitVec 32 := 4#32
  let v1056 : BitVec 32 := Scalar.subi v1055 c4_i32_701
  let v1057 : BitVec 32 := Scalar.maxsi c0_i32_702 v1056
  let v1058 : BitVec 32 := Scalar.minsi c120_i32_703 v1057
  let c64_i32_705 : BitVec 32 := 64#32
  let v1061 : BitVec 32 := Scalar.muli v1058 c64_i32_705
  v1061
def k1_mult53 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_728 : BitVec 32 := 32#32
  let v1096 : BitVec 32 := Scalar.muli arg7 c32_i32_728
  let c26_i32 : BitVec 32 := 26#32
  let v1097 : BitVec 32 := Scalar.addi v1096 c26_i32
  let c64_i32_732 : BitVec 32 := 64#32
  let v1101 : BitVec 32 := Scalar.muli v1097 c64_i32_732
  v1101
def k1_mult54 (k1_t1 : Fin k1_t1_loop.trips) : BitVec 32 :=
  let c120_i32_731 : BitVec 32 := 120#32
  let c0_i32_730 : BitVec 32 := 0#32
  let c0_i32 : BitVec 32 := 0#32
  let c1_i32 : BitVec 32 := 1#32
  let arg7 : BitVec 32 := Scf.iv c0_i32 c1_i32 k1_t1
  let c32_i32_728 : BitVec 32 := 32#32
  let v1096 : BitVec 32 := Scalar.muli arg7 c32_i32_728
  let c26_i32 : BitVec 32 := 26#32
  let v1097 : BitVec 32 := Scalar.addi v1096 c26_i32
  let c4_i32_729 : BitVec 32 := 4#32
  let v1098 : BitVec 32 := Scalar.subi v1097 c4_i32_729
  let v1099 : BitVec 32 := Scalar.maxsi c0_i32_730 v1098
  let v1100 : BitVec 32 := Scalar.minsi c120_i32_731 v1099
  let c64_i32_733 : BitVec 32 := 64#32
  let v1103 : BitVec 32 := Scalar.muli v1100 c64_i32_733
  v1103
def k1_mult55 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_756 : BitVec 32 := 32#32
  let v1138 : BitVec 32 := Scalar.muli arg7 c32_i32_756
  let c27_i32 : BitVec 32 := 27#32
  let v1139 : BitVec 32 := Scalar.addi v1138 c27_i32
  let c64_i32_760 : BitVec 32 := 64#32
  let v1143 : BitVec 32 := Scalar.muli v1139 c64_i32_760
  v1143
def k1_mult56 (k1_t1 : Fin k1_t1_loop.trips) : BitVec 32 :=
  let c120_i32_759 : BitVec 32 := 120#32
  let c0_i32_758 : BitVec 32 := 0#32
  let c0_i32 : BitVec 32 := 0#32
  let c1_i32 : BitVec 32 := 1#32
  let arg7 : BitVec 32 := Scf.iv c0_i32 c1_i32 k1_t1
  let c32_i32_756 : BitVec 32 := 32#32
  let v1138 : BitVec 32 := Scalar.muli arg7 c32_i32_756
  let c27_i32 : BitVec 32 := 27#32
  let v1139 : BitVec 32 := Scalar.addi v1138 c27_i32
  let c4_i32_757 : BitVec 32 := 4#32
  let v1140 : BitVec 32 := Scalar.subi v1139 c4_i32_757
  let v1141 : BitVec 32 := Scalar.maxsi c0_i32_758 v1140
  let v1142 : BitVec 32 := Scalar.minsi c120_i32_759 v1141
  let c64_i32_761 : BitVec 32 := 64#32
  let v1145 : BitVec 32 := Scalar.muli v1142 c64_i32_761
  v1145
def k1_mult57 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_784 : BitVec 32 := 32#32
  let v1180 : BitVec 32 := Scalar.muli arg7 c32_i32_784
  let c28_i32 : BitVec 32 := 28#32
  let v1181 : BitVec 32 := Scalar.addi v1180 c28_i32
  let c64_i32_788 : BitVec 32 := 64#32
  let v1185 : BitVec 32 := Scalar.muli v1181 c64_i32_788
  v1185
def k1_mult58 (k1_t1 : Fin k1_t1_loop.trips) : BitVec 32 :=
  let c120_i32_787 : BitVec 32 := 120#32
  let c0_i32_786 : BitVec 32 := 0#32
  let c0_i32 : BitVec 32 := 0#32
  let c1_i32 : BitVec 32 := 1#32
  let arg7 : BitVec 32 := Scf.iv c0_i32 c1_i32 k1_t1
  let c32_i32_784 : BitVec 32 := 32#32
  let v1180 : BitVec 32 := Scalar.muli arg7 c32_i32_784
  let c28_i32 : BitVec 32 := 28#32
  let v1181 : BitVec 32 := Scalar.addi v1180 c28_i32
  let c4_i32_785 : BitVec 32 := 4#32
  let v1182 : BitVec 32 := Scalar.subi v1181 c4_i32_785
  let v1183 : BitVec 32 := Scalar.maxsi c0_i32_786 v1182
  let v1184 : BitVec 32 := Scalar.minsi c120_i32_787 v1183
  let c64_i32_789 : BitVec 32 := 64#32
  let v1187 : BitVec 32 := Scalar.muli v1184 c64_i32_789
  v1187
def k1_mult59 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_812 : BitVec 32 := 32#32
  let v1222 : BitVec 32 := Scalar.muli arg7 c32_i32_812
  let c29_i32 : BitVec 32 := 29#32
  let v1223 : BitVec 32 := Scalar.addi v1222 c29_i32
  let c64_i32_816 : BitVec 32 := 64#32
  let v1227 : BitVec 32 := Scalar.muli v1223 c64_i32_816
  v1227
def k1_mult60 (k1_t1 : Fin k1_t1_loop.trips) : BitVec 32 :=
  let c120_i32_815 : BitVec 32 := 120#32
  let c0_i32_814 : BitVec 32 := 0#32
  let c0_i32 : BitVec 32 := 0#32
  let c1_i32 : BitVec 32 := 1#32
  let arg7 : BitVec 32 := Scf.iv c0_i32 c1_i32 k1_t1
  let c32_i32_812 : BitVec 32 := 32#32
  let v1222 : BitVec 32 := Scalar.muli arg7 c32_i32_812
  let c29_i32 : BitVec 32 := 29#32
  let v1223 : BitVec 32 := Scalar.addi v1222 c29_i32
  let c4_i32_813 : BitVec 32 := 4#32
  let v1224 : BitVec 32 := Scalar.subi v1223 c4_i32_813
  let v1225 : BitVec 32 := Scalar.maxsi c0_i32_814 v1224
  let v1226 : BitVec 32 := Scalar.minsi c120_i32_815 v1225
  let c64_i32_817 : BitVec 32 := 64#32
  let v1229 : BitVec 32 := Scalar.muli v1226 c64_i32_817
  v1229
def k1_mult61 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_840 : BitVec 32 := 32#32
  let v1264 : BitVec 32 := Scalar.muli arg7 c32_i32_840
  let c30_i32 : BitVec 32 := 30#32
  let v1265 : BitVec 32 := Scalar.addi v1264 c30_i32
  let c64_i32_844 : BitVec 32 := 64#32
  let v1269 : BitVec 32 := Scalar.muli v1265 c64_i32_844
  v1269
def k1_mult62 (k1_t1 : Fin k1_t1_loop.trips) : BitVec 32 :=
  let c120_i32_843 : BitVec 32 := 120#32
  let c0_i32_842 : BitVec 32 := 0#32
  let c0_i32 : BitVec 32 := 0#32
  let c1_i32 : BitVec 32 := 1#32
  let arg7 : BitVec 32 := Scf.iv c0_i32 c1_i32 k1_t1
  let c32_i32_840 : BitVec 32 := 32#32
  let v1264 : BitVec 32 := Scalar.muli arg7 c32_i32_840
  let c30_i32 : BitVec 32 := 30#32
  let v1265 : BitVec 32 := Scalar.addi v1264 c30_i32
  let c4_i32_841 : BitVec 32 := 4#32
  let v1266 : BitVec 32 := Scalar.subi v1265 c4_i32_841
  let v1267 : BitVec 32 := Scalar.maxsi c0_i32_842 v1266
  let v1268 : BitVec 32 := Scalar.minsi c120_i32_843 v1267
  let c64_i32_845 : BitVec 32 := 64#32
  let v1271 : BitVec 32 := Scalar.muli v1268 c64_i32_845
  v1271
def k1_mult63 (k1_t1 : Fin k1_t1_loop.trips) : BitVec 32 :=
  let c0_i32 : BitVec 32 := 0#32
  let c1_i32 : BitVec 32 := 1#32
  let arg7 : BitVec 32 := Scf.iv c0_i32 c1_i32 k1_t1
  let c32_i32_868 : BitVec 32 := 32#32
  let v1306 : BitVec 32 := Scalar.muli arg7 c32_i32_868
  let c31_i32 : BitVec 32 := 31#32
  let v1307 : BitVec 32 := Scalar.addi v1306 c31_i32
  let c64_i32_872 : BitVec 32 := 64#32
  let v1311 : BitVec 32 := Scalar.muli v1307 c64_i32_872
  v1311
def k1_mult64 (k1_t1 : Fin k1_t1_loop.trips) : BitVec 32 :=
  let c120_i32_871 : BitVec 32 := 120#32
  let c0_i32_870 : BitVec 32 := 0#32
  let c0_i32 : BitVec 32 := 0#32
  let c1_i32 : BitVec 32 := 1#32
  let arg7 : BitVec 32 := Scf.iv c0_i32 c1_i32 k1_t1
  let c32_i32_868 : BitVec 32 := 32#32
  let v1306 : BitVec 32 := Scalar.muli arg7 c32_i32_868
  let c31_i32 : BitVec 32 := 31#32
  let v1307 : BitVec 32 := Scalar.addi v1306 c31_i32
  let c4_i32_869 : BitVec 32 := 4#32
  let v1308 : BitVec 32 := Scalar.subi v1307 c4_i32_869
  let v1309 : BitVec 32 := Scalar.maxsi c0_i32_870 v1308
  let v1310 : BitVec 32 := Scalar.minsi c120_i32_871 v1309
  let c64_i32_873 : BitVec 32 := 64#32
  let v1313 : BitVec 32 := Scalar.muli v1310 c64_i32_873
  v1313
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x14x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "log2e" => some (((Real.log 2)⁻¹ : ℝ) : EReal)
  | "q_scale" => some ((8⁻¹ * (Real.log 2)⁻¹ : ℝ) : EReal)
  | _ => none
-- ==== ReferenceIdeal.lean ====
abbrev S65536x1024 : Shape := ⟨2, ![65536, 1024]⟩
abbrev S1024 : Shape := ⟨1, ![1024]⟩
abbrev S1024x3072 : Shape := ⟨2, ![1024, 3072]⟩
abbrev S16x15x31 : Shape := ⟨3, ![16, 15, 31]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S8x128x64x3x16x64 : Shape := ⟨6, ![8, 128, 64, 3, 16, 64]⟩
abbrev S8x128x64x1x16x64 : Shape := ⟨6, ![8, 128, 64, 1, 16, 64]⟩
abbrev S8x128x64x16x64 : Shape := ⟨5, ![8, 128, 64, 16, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x8x1 : Shape := ⟨3, ![128, 8, 1]⟩
abbrev S8x128x8x64x16x64 : Shape := ⟨6, ![8, 128, 8, 64, 16, 64]⟩
abbrev S64x16x1 : Shape := ⟨3, ![64, 16, 1]⟩
abbrev S8x128x8x64x16x16x64 : Shape := ⟨7, ![8, 128, 8, 64, 16, 16, 64]⟩
abbrev S16x128x8x31 : Shape := ⟨4, ![16, 128, 8, 31]⟩
abbrev S16x128x8x64x16 : Shape := ⟨5, ![16, 128, 8, 64, 16]⟩
abbrev S8x128x16x64x8x16 : Shape := ⟨6, ![8, 128, 16, 64, 8, 16]⟩
abbrev S128x16x64x8x16 : Shape := ⟨5, ![128, 16, 64, 8, 16]⟩
abbrev S1x128x16x64x8x16 : Shape := ⟨6, ![1, 128, 16, 64, 8, 16]⟩
abbrev S8x128x16x64x128 : Shape := ⟨5, ![8, 128, 16, 64, 128]⟩
abbrev S8x128x16x64 : Shape := ⟨4, ![8, 128, 16, 64]⟩
abbrev S8x128x16x64x1 : Shape := ⟨5, ![8, 128, 16, 64, 1]⟩

abbrev nBuf : Space → Nat
  | .hbm => 115
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S16x15x31, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x3072, .f32⟩
  | .hbm, ⟨21, _⟩ => ⟨S8x128x64x3x16x64, .f32⟩
  | .hbm, ⟨22, _⟩ => ⟨S8x128x64x1x16x64, .f32⟩
  | .hbm, ⟨23, _⟩ => ⟨S8x128x64x16x64, .f32⟩
  | .hbm, ⟨24, _⟩ => ⟨S_, .f32⟩
  | .hbm, ⟨25, _⟩ => ⟨S8x128x64x16x64, .f32⟩
  | .hbm, ⟨26, _⟩ => ⟨S8x128x64x16x64, .f32⟩
  | .hbm, ⟨27, _⟩ => ⟨S8x128x64x1x16x64, .f32⟩
  | .hbm, ⟨28, _⟩ => ⟨S8x128x64x16x64, .f32⟩
  | .hbm, ⟨29, _⟩ => ⟨S8x128x64x1x16x64, .f32⟩
  | .hbm, ⟨30, _⟩ => ⟨S8x128x64x16x64, .f32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S8, .i32⟩
  | .hbm, ⟨45, _⟩ => ⟨S1x8, .i32⟩
  | .hbm, ⟨46, _⟩ => ⟨S128x8, .i32⟩
  | .hbm, ⟨47, _⟩ => ⟨S128x8, .i32⟩
  | .hbm, ⟨48, _⟩ => ⟨S128x8, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64x1, .i32⟩
  | .hbm, ⟨62, _⟩ => ⟨S16, .i32⟩
  | .hbm, ⟨63, _⟩ => ⟨S1x16, .i32⟩
  | .hbm, ⟨64, _⟩ => ⟨S64x16, .i32⟩
  | .hbm, ⟨65, _⟩ => ⟨S64x16, .i32⟩
  | .hbm, ⟨66, _⟩ => ⟨S64x16, .i32⟩
  | .hbm, ⟨67, _⟩ => ⟨S128x1, .i32⟩
  | .hbm, ⟨68, _⟩ => ⟨S128x8, .i32⟩
  | .hbm, ⟨69, _⟩ => ⟨S128x8, .i32⟩
  | .hbm, ⟨70, _⟩ => ⟨S_, .i32⟩
  | .hbm, ⟨71, _⟩ => ⟨S128x8, .i32⟩
  | .hbm, ⟨72, _⟩ => ⟨S128x8, .i32⟩
  | .hbm, ⟨73, _⟩ => ⟨S64x1, .i32⟩
  | .hbm, ⟨74, _⟩ => ⟨S64x16, .i32⟩
  | .hbm, ⟨75, _⟩ => ⟨S64x16, .i32⟩
  | .hbm, ⟨76, _⟩ => ⟨S_, .i32⟩
  | .hbm, ⟨77, _⟩ => ⟨S64x16, .i32⟩
  | .hbm, ⟨78, _⟩ => ⟨S64x16, .i32⟩
  | .hbm, ⟨79, _⟩ => ⟨S128x8x1, .i32⟩
  | .hbm, ⟨80, _⟩ => ⟨S8x128x8x64x16x64, .f32⟩
  | .hbm, ⟨81, _⟩ => ⟨S64x16x1, .i32⟩
  | .hbm, ⟨82, _⟩ => ⟨S8x128x8x64x16x16x64, .f32⟩
  | .hbm, ⟨83, _⟩ => ⟨S128x8x1, .i32⟩
  | .hbm, ⟨84, _⟩ => ⟨S8x128x8x64x16x64, .f32⟩
  | .hbm, ⟨85, _⟩ => ⟨S64x16x1, .i32⟩
  | .hbm, ⟨86, _⟩ => ⟨S8x128x8x64x16x16x64, .f32⟩
  | .hbm, ⟨87, _⟩ => ⟨S128x8x1, .i32⟩
  | .hbm, ⟨88, _⟩ => ⟨S16x128x8x31, .f32⟩
  | .hbm, ⟨89, _⟩ => ⟨S64x16x1, .i32⟩
  | .hbm, ⟨90, _⟩ => ⟨S16x128x8x64x16, .f32⟩
  | .hbm, ⟨91, _⟩ => ⟨S8x128x16x64x8x16, .f32⟩
  | .hbm, ⟨92, _⟩ => ⟨S128x16x64x8x16, .f32⟩
  | .hbm, ⟨93, _⟩ => ⟨S1x128x16x64x8x16, .f32⟩
  | .hbm, ⟨94, _⟩ => ⟨S8x128x16x64x8x16, .f32⟩
  | .hbm, ⟨95, _⟩ => ⟨S8x128x16x64x8x16, .f32⟩
  | .hbm, ⟨96, _⟩ => ⟨S8x128x16x64x128, .f32⟩
  | .hbm, ⟨97, _⟩ => ⟨S_, .f32⟩
  | .hbm, ⟨98, _⟩ => ⟨S8x128x16x64, .f32⟩
  | .hbm, ⟨99, _⟩ => ⟨S_, .f32⟩
  | .hbm, ⟨100, _⟩ => ⟨S8x128x16x64, .f32⟩
  | .hbm, ⟨101, _⟩ => ⟨S8x128x16x64, .f32⟩
  | .hbm, ⟨102, _⟩ => ⟨S8x128x16x64x1, .f32⟩
  | .hbm, ⟨103, _⟩ => ⟨S8x128x16x64x128, .f32⟩
  | .hbm, ⟨104, _⟩ => ⟨S8x128x16x64x128, .f32⟩
  | .hbm, ⟨105, _⟩ => ⟨S8x128x16x64x128, .f32⟩
  | .hbm, ⟨106, _⟩ => ⟨S_, .f32⟩
  | .hbm, ⟨107, _⟩ => ⟨S8x128x16x64, .f32⟩
  | .hbm, ⟨108, _⟩ => ⟨S8x128x16x64x1, .f32⟩
  | .hbm, ⟨109, _⟩ => ⟨S8x128x16x64x128, .f32⟩
  | .hbm, ⟨110, _⟩ => ⟨S8x128x16x64x128, .f32⟩
  | .hbm, ⟨111, _⟩ => ⟨S8x128x16x64x8x16, .f32⟩
  | .hbm, ⟨112, _⟩ => ⟨S8x128x64x16x64, .f32⟩
  | .hbm, ⟨113, _⟩ => ⟨S65536x1024, .f32⟩
  | .hbm, ⟨114, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_c_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_c_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_call2_v0 : Ref sig .tc := ⟨.hbm, 79, rfl⟩
abbrev main_v53 : Ref sig .tc := ⟨.hbm, 80, rfl⟩
abbrev main_call3_v0 : Ref sig .tc := ⟨.hbm, 81, rfl⟩
abbrev main_v54 : Ref sig .tc := ⟨.hbm, 82, rfl⟩
abbrev main_call4_v0 : Ref sig .tc := ⟨.hbm, 83, rfl⟩
abbrev main_v55 : Ref sig .tc := ⟨.hbm, 84, rfl⟩
abbrev main_call5_v0 : Ref sig .tc := ⟨.hbm, 85, rfl⟩
abbrev main_v56 : Ref sig .tc := ⟨.hbm, 86, rfl⟩
abbrev main_call6_v0 : Ref sig .tc := ⟨.hbm, 87, rfl⟩
abbrev main_v57 : Ref sig .tc := ⟨.hbm, 88, rfl⟩
abbrev main_call7_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel2.lean ====
abbrev S65536x1024 : Shape := ⟨2, ![65536, 1024]⟩
abbrev S2x1024 : Shape := ⟨2, ![2, 1024]⟩
abbrev S4x2x1024x2816 : Shape := ⟨4, ![4, 2, 1024, 2816]⟩
abbrev S4x2x2816x1024 : Shape := ⟨4, ![4, 2, 2816, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S3x512x1024 : Shape := ⟨3, ![3, 512, 1024]⟩
abbrev S256x1024 : Shape := ⟨2, ![256, 1024]⟩
abbrev S1x256x1024 : Shape := ⟨3, ![1, 256, 1024]⟩
abbrev S1x1024 : Shape := ⟨2, ![1, 1024]⟩
abbrev S256 : Shape := ⟨1, ![256]⟩
abbrev S256x1 : Shape := ⟨2, ![256, 1]⟩
abbrev S1x1x1024x768 : Shape := ⟨4, ![1, 1, 1024, 768]⟩
abbrev S1024x768 : Shape := ⟨2, ![1024, 768]⟩
abbrev S512x768 : Shape := ⟨2, ![512, 768]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x1x1024x512 : Shape := ⟨4, ![1, 1, 1024, 512]⟩
abbrev S1024x512 : Shape := ⟨2, ![1024, 512]⟩
abbrev S512x512 : Shape := ⟨2, ![512, 512]⟩
abbrev S1x1x768x1024 : Shape := ⟨4, ![1, 1, 768, 1024]⟩
abbrev S768x1024 : Shape := ⟨2, ![768, 1024]⟩
abbrev S1x1x512x1024 : Shape := ⟨4, ![1, 1, 512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S4x2x1024x2816, .bf16⟩
  | .hbm, ⟨6, _⟩ => ⟨S4x2x1024x2816, .bf16⟩
  | .hbm, ⟨7, _⟩ => ⟨S4x2x2816x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S512x1024, .f32⟩
  | .local _ .vmem, ⟨7, _⟩ => ⟨S512x1024, .f32⟩
  | .local _ .vmem, ⟨8, _⟩ => ⟨S3x512x1024, .f32⟩
  | .local _ .vmem, ⟨9, _⟩ => ⟨S512x1024, .bf16⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c3_i32 : BitVec 32 := 3#32
  let v22 : BitVec 32 := Scalar.remsi arg0 c3_i32
  let v23 : Index := Scalar.indexCast v22
  let c0_13 : Index := 0#32
  let c0_14 : Index := 0#32
  ![v23.toNat, 0, 0]
def k0_off2 (i : grid0.Coords) : Fin 3 → Nat :=
  let arg0 : BitVec 32 := BitVec.ofNat 32 (i 0).val
  let c3_i32_23 : BitVec 32 := 3#32
  let v45 : BitVec 32 := Scalar.remsi arg0 c3_i32_23
  let v46 : Index := Scalar.indexCast v45
  let c256_24 : Index := 256#32
  let c0_25 : Index := 0#32
  ![v46.toNat, 256, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c128_i32 : BitVec 32 := 128#32
  let v4 : BitVec 1 := Scalar.cmpi .sle arg0 c128_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c3_i32 : BitVec 32 := 3#32
  let v15 : BitVec 32 := Scalar.addi arg0 c3_i32
  let c2_i32 : BitVec 32 := 2#32
  let v16 : BitVec 32 := Scalar.subi v15 c2_i32
  let c3_i32_8 : BitVec 32 := 3#32
  let v17 : BitVec 32 := Scalar.remsi v16 c3_i32_8
  let v18 : Index := Scalar.indexCast v17
  let c0_9 : Index := 0#32
  let c0_10 : Index := 0#32
  ![v18.toNat, 0, 0]
def k0_off4 (i : grid0.Coords) : Fin 3 → Nat :=
  let arg0 : BitVec 32 := BitVec.ofNat 32 (i 0).val
  let c3_i32_25 : BitVec 32 := 3#32
  let v42 : BitVec 32 := Scalar.addi arg0 c3_i32_25
  let c2_i32_26 : BitVec 32 := 2#32
  let v43 : BitVec 32 := Scalar.subi v42 c2_i32_26
  let c3_i32_27 : BitVec 32 := 3#32
  let v44 : BitVec 32 := Scalar.remsi v43 c3_i32_27
  let v45 : Index := Scalar.indexCast v44
  let c128 : Index := 128#32
  let c0_28 : Index := 0#32
  ![v45.toNat, 128, 0]
def k0_off5 (i : grid0.Coords) : Fin 3 → Nat :=
  let arg0 : BitVec 32 := BitVec.ofNat 32 (i 0).val
  let c3_i32_43 : BitVec 32 := 3#32
  let v73 : BitVec 32 := Scalar.addi arg0 c3_i32_43
  let c2_i32_44 : BitVec 32 := 2#32
  let v74 : BitVec 32 := Scalar.subi v73 c2_i32_44
  let c3_i32_45 : BitVec 32 := 3#32
  let v75 : BitVec 32 := Scalar.remsi v74 c3_i32_45
  let v76 : Index := Scalar.indexCast v75
  let c256 : Index := 256#32
  let c0_46 : Index := 0#32
  ![v76.toNat, 256, 0]
def k0_off6 (i : grid0.Coords) : Fin 3 → Nat :=
  let arg0 : BitVec 32 := BitVec.ofNat 32 (i 0).val
  let c3_i32_62 : BitVec 32 := 3#32
  let v100 : BitVec 32 := Scalar.addi arg0 c3_i32_62
  let c2_i32_63 : BitVec 32 := 2#32
  let v101 : BitVec 32 := Scalar.subi v100 c2_i32_63
  let c3_i32_64 : BitVec 32 := 3#32
  let v102 : BitVec 32 := Scalar.remsi v101 c3_i32_64
  let v103 : Index := Scalar.indexCast v102
  let c384 : Index := 384#32
  let c0_65 : Index := 0#32
  ![v103.toNat, 384, 0]
def k0_off7 (i : grid0.Coords) : Fin 3 → Nat :=
  let arg0 : BitVec 32 := BitVec.ofNat 32 (i 0).val
  let c3_i32_101 : BitVec 32 := 3#32
  let v152 : BitVec 32 := Scalar.remsi arg0 c3_i32_101
  let v153 : Index := Scalar.indexCast v152
  let c0_102 : Index := 0#32
  let c0_103 : Index := 0#32
  ![v153.toNat, 0, 0]
def k0_off8 (i : grid0.Coords) : Fin 3 → Nat :=
  let arg0 : BitVec 32 := BitVec.ofNat 32 (i 0).val
  let c3_i32_118 : BitVec 32 := 3#32
  let v179 : BitVec 32 := Scalar.remsi arg0 c3_i32_118
  let v180 : Index := Scalar.indexCast v179
  let c256_119 : Index := 256#32
  let c0_120 : Index := 0#32
  ![v180.toNat, 256, 0]
def k0_cond3 (i : grid0.Coords) : BitVec 1 :=
  let arg0 : BitVec 32 := BitVec.ofNat 32 (i 0).val
  let c129_i32 : BitVec 32 := 129#32
  let v8 : BitVec 1 := Scalar.cmpi .eq arg0 c129_i32
  let v9 : BitVec 32 := Scalar.extui v8
  let c0_i32_2 : BitVec 32 := 0#32
  let v10 : BitVec 1 := Scalar.cmpi .ne v9 c0_i32_2
  v10

def k0_off9 (i : grid0.Coords) : Fin 3 → Nat :=
  let arg0 : BitVec 32 := BitVec.ofNat 32 (i 0).val
  let c3_i32 : BitVec 32 := 3#32
  let v11 : BitVec 32 := Scalar.addi arg0 c3_i32
  let c2_i32 : BitVec 32 := 2#32
  let v12 : BitVec 32 := Scalar.subi v11 c2_i32
  let c3_i32_3 : BitVec 32 := 3#32
  let v13 : BitVec 32 := Scalar.remsi v12 c3_i32_3
  let v14 : Index := Scalar.indexCast v13
  let c0 : Index := 0#32
  let c0_4 : Index := 0#32
  ![v14.toNat, 0, 0]
def k0_off10 (i : grid0.Coords) : Fin 3 → Nat :=
  let arg0 : BitVec 32 := BitVec.ofNat 32 (i 0).val
  let c3_i32_13 : BitVec 32 := 3#32
  let v35 : BitVec 32 := Scalar.addi arg0 c3_i32_13
  let c2_i32_14 : BitVec 32 := 2#32
  let v36 : BitVec 32 := Scalar.subi v35 c2_i32_14
  let c3_i32_15 : BitVec 32 := 3#32
  let v37 : BitVec 32 := Scalar.remsi v36 c3_i32_15
  let v38 : Index := Scalar.indexCast v37
  let c128 : Index := 128#32
  let c0_16 : Index := 0#32
  ![v38.toNat, 128, 0]
def k0_off11 (i : grid0.Coords) : Fin 3 → Nat :=
  let arg0 : BitVec 32 := BitVec.ofNat 32 (i 0).val
  let c3_i32_27 : BitVec 32 := 3#32
  let v59 : BitVec 32 := Scalar.addi arg0 c3_i32_27
  let c2_i32_28 : BitVec 32 := 2#32
  let v60 : BitVec 32 := Scalar.subi v59 c2_i32_28
  let c3_i32_29 : BitVec 32 := 3#32
  let v61 : BitVec 32 := Scalar.remsi v60 c3_i32_29
  let v62 : Index := Scalar.indexCast v61
  let c256 : Index := 256#32
  let c0_30 : Index := 0#32
  ![v62.toNat, 256, 0]
def k0_off12 (i : grid0.Coords) : Fin 3 → Nat :=
  let arg0 : BitVec 32 := BitVec.ofNat 32 (i 0).val
  let c3_i32_41 : BitVec 32 := 3#32
  let v83 : BitVec 32 := Scalar.addi arg0 c3_i32_41
  let c2_i32_42 : BitVec 32 := 2#32
  let v84 : BitVec 32 := Scalar.subi v83 c2_i32_42
  let c3_i32_43 : BitVec 32 := 3#32
  let v85 : BitVec 32 := Scalar.remsi v84 c3_i32_43
  let v86 : Index := Scalar.indexCast v85
  let c384 : Index := 384#32
  let c0_44 : Index := 0#32
  ![v86.toNat, 384, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S2x1024 : Shape := ⟨2, ![2, 1024]⟩
abbrev S4x2x1024x2816 : Shape := ⟨4, ![4, 2, 1024, 2816]⟩
abbrev S4x2x2816x1024 : Shape := ⟨4, ![4, 2, 2816, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1x1024x2816 : Shape := ⟨4, ![1, 1, 1024, 2816]⟩
abbrev S1024x2816 : Shape := ⟨2, ![1024, 2816]⟩
abbrev S65536x2816 : Shape := ⟨2, ![65536, 2816]⟩
abbrev S1x1x2816x1024 : Shape := ⟨4, ![1, 1, 2816, 1024]⟩
abbrev S2816x1024 : Shape := ⟨2, ![2816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1x1x1024x2816, .f32⟩
  | .hbm, ⟨24, _⟩ => ⟨S1024x2816, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S1x1x1024x2816, .f32⟩
  | .hbm, ⟨36, _⟩ => ⟨S1024x2816, .f32⟩
  | .hbm, ⟨37, _⟩ => ⟨S65536x2816, .f32⟩
  | .hbm, ⟨38, _⟩ => ⟨S65536x2816, .f32⟩
  | .hbm, ⟨39, _⟩ => ⟨S1x1x2816x1024, .f32⟩
  | .hbm, ⟨40, _⟩ => ⟨S2816x1024, .f32⟩
  | .hbm, ⟨41, _⟩ => ⟨S65536x1024, .f32⟩
  | .hbm, ⟨42, _⟩ => ⟨S1x1024, .f32⟩
  | .hbm, ⟨43, _⟩ => ⟨S1024, .f32⟩
  | .hbm, ⟨44, _⟩ => ⟨S65536x1024, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1024, .f32⟩
  | .hbm, ⟨62, _⟩ => ⟨S65536x1024, .f32⟩
  | .hbm, ⟨63, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x1024 : Shape := ⟨2, ![1024, 1024]⟩
abbrev S2x1024 : Shape := ⟨2, ![2, 1024]⟩
abbrev S4x2x1024x2816 : Shape := ⟨4, ![4, 2, 1024, 2816]⟩
abbrev S4x2x2816x1024 : Shape := ⟨4, ![4, 2, 2816, 1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S3x512x1024 : Shape := ⟨3, ![3, 512, 1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1x1x1024x768 : Shape := ⟨4, ![1, 1, 1024, 768]⟩
abbrev S1024x768 : Shape := ⟨2, ![1024, 768]⟩
abbrev S512x768 : Shape := ⟨2, ![512, 768]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x1x1024x512 : Shape := ⟨4, ![1, 1, 1024, 512]⟩
abbrev S1024x512 : Shape := ⟨2, ![1024, 512]⟩
abbrev S512x512 : Shape := ⟨2, ![512, 512]⟩
abbrev S1x1x768x1024 : Shape := ⟨4, ![1, 1, 768, 1024]⟩
abbrev S768x1024 : Shape := ⟨2, ![768, 1024]⟩
abbrev S1x1x512x1024 : Shape := ⟨4, ![1, 1, 512, 1024]⟩

abbrev nBuf : Space → Nat
  | .hbm => 14
  | .vmem => 15
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S2x1024, .f32⟩
  | .hbm, ⟨5, _⟩ => ⟨S4x2x1024x2816, .f32⟩
  | .hbm, ⟨6, _⟩ => ⟨S4x2x1024x2816, .f32⟩
  | .hbm, ⟨7, _⟩ => ⟨S4x2x2816x1024, .f32⟩
  | .hbm, ⟨8, _⟩ => ⟨S4x2x1024x2816, .bf16⟩
  | .hbm, ⟨9, _⟩ => ⟨S4x2x1024x2816, .bf16⟩
  | .hbm, ⟨10, _⟩ => ⟨S4x2x2816x1024, .bf16⟩
  | .hbm, ⟨11, _⟩ => ⟨S1024x1024, .bf16⟩
  | .hbm, ⟨12, _⟩ => ⟨S1x1024, .f32⟩
  | .hbm, ⟨13, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S2x1024, .f32⟩
  | .local _ .vmem, ⟨7, _⟩ => ⟨S1x1x1024x2816, .bf16⟩
  | .local _ .vmem, ⟨8, _⟩ => ⟨S1x1x1024x2816, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | .local _ .vmem, ⟨12, _⟩ => ⟨S3x512x1024, .f32⟩
  | .local _ .vmem, ⟨13, _⟩ => ⟨S512x1024, .bf16⟩
  | .local _ .vmem, ⟨14, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c3_i32 : BitVec 32 := 3#32
  let v41 : BitVec 32 := Scalar.remsi arg0 c3_i32
  let v42 : Index := Scalar.indexCast v41
  let c0_23 : Index := 0#32
  let c0_24 : Index := 0#32
  ![v42.toNat, 0, 0]
def k0_off2 (i : grid0.Coords) : Fin 3 → Nat :=
  let arg0 : BitVec 32 := BitVec.ofNat 32 (i 0).val
  let c3_i32_43 : BitVec 32 := 3#32
  let v83 : BitVec 32 := Scalar.remsi arg0 c3_i32_43
  let v84 : Index := Scalar.indexCast v83
  let c256_44 : Index := 256#32
  let c0_45 : Index := 0#32
  ![v84.toNat, 256, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c128_i32 : BitVec 32 := 128#32
  let v4 : BitVec 1 := Scalar.cmpi .sle arg0 c128_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c3_i32 : BitVec 32 := 3#32
  let v15 : BitVec 32 := Scalar.addi arg0 c3_i32
  let c2_i32 : BitVec 32 := 2#32
  let v16 : BitVec 32 := Scalar.subi v15 c2_i32
  let c3_i32_8 : BitVec 32 := 3#32
  let v17 : BitVec 32 := Scalar.remsi v16 c3_i32_8
  let v18 : Index := Scalar.indexCast v17
  let c0_9 : Index := 0#32
  let c0_10 : Index := 0#32
  ![v18.toNat, 0, 0]
def k0_off4 (i : grid0.Coords) : Fin 3 → Nat :=
  let arg0 : BitVec 32 := BitVec.ofNat 32 (i 0).val
  let c3_i32_25 : BitVec 32 := 3#32
  let v42 : BitVec 32 := Scalar.addi arg0 c3_i32_25
  let c2_i32_26 : BitVec 32 := 2#32
  let v43 : BitVec 32 := Scalar.subi v42 c2_i32_26
  let c3_i32_27 : BitVec 32 := 3#32
  let v44 : BitVec 32 := Scalar.remsi v43 c3_i32_27
  let v45 : Index := Scalar.indexCast v44
  let c128 : Index := 128#32
  let c0_28 : Index := 0#32
  ![v45.toNat, 128, 0]
def k0_off5 (i : grid0.Coords) : Fin 3 → Nat :=
  let arg0 : BitVec 32 := BitVec.ofNat 32 (i 0).val
  let c3_i32_43 : BitVec 32 := 3#32
  let v73 : BitVec 32 := Scalar.addi arg0 c3_i32_43
  let c2_i32_44 : BitVec 32 := 2#32
  let v74 : BitVec 32 := Scalar.subi v73 c2_i32_44
  let c3_i32_45 : BitVec 32 := 3#32
  let v75 : BitVec 32 := Scalar.remsi v74 c3_i32_45
  let v76 : Index := Scalar.indexCast v75
  let c256 : Index := 256#32
  let c0_46 : Index := 0#32
  ![v76.toNat, 256, 0]
def k0_off6 (i : grid0.Coords) : Fin 3 → Nat :=
  let arg0 : BitVec 32 := BitVec.ofNat 32 (i 0).val
  let c3_i32_62 : BitVec 32 := 3#32
  let v100 : BitVec 32 := Scalar.addi arg0 c3_i32_62
  let c2_i32_63 : BitVec 32 := 2#32
  let v101 : BitVec 32 := Scalar.subi v100 c2_i32_63
  let c3_i32_64 : BitVec 32 := 3#32
  let v102 : BitVec 32 := Scalar.remsi v101 c3_i32_64
  let v103 : Index := Scalar.indexCast v102
  let c384 : Index := 384#32
  let c0_65 : Index := 0#32
  ![v103.toNat, 384, 0]
def k0_off7 (i : grid0.Coords) : Fin 3 → Nat :=
  let arg0 : BitVec 32 := BitVec.ofNat 32 (i 0).val
  let c3_i32_111 : BitVec 32 := 3#32
  let v171 : BitVec 32 := Scalar.remsi arg0 c3_i32_111
  let v172 : Index := Scalar.indexCast v171
  let c0_112 : Index := 0#32
  let c0_113 : Index := 0#32
  ![v172.toNat, 0, 0]
def k0_off8 (i : grid0.Coords) : Fin 3 → Nat :=
  let arg0 : BitVec 32 := BitVec.ofNat 32 (i 0).val
  let c3_i32_138 : BitVec 32 := 3#32
  let v217 : BitVec 32 := Scalar.remsi arg0 c3_i32_138
  let v218 : Index := Scalar.indexCast v217
  let c256_139 : Index := 256#32
  let c0_140 : Index := 0#32
  ![v218.toNat, 256, 0]
def k0_cond3 (i : grid0.Coords) : BitVec 1 :=
  let arg0 : BitVec 32 := BitVec.ofNat 32 (i 0).val
  let c129_i32 : BitVec 32 := 129#32
  let v8 : BitVec 1 := Scalar.cmpi .eq arg0 c129_i32
  let v9 : BitVec 32 := Scalar.extui v8
  let c0_i32_2 : BitVec 32 := 0#32
  let v10 : BitVec 1 := Scalar.cmpi .ne v9 c0_i32_2
  v10

def k0_off9 (i : grid0.Coords) : Fin 3 → Nat :=
  let arg0 : BitVec 32 := BitVec.ofNat 32 (i 0).val
  let c3_i32 : BitVec 32 := 3#32
  let v11 : BitVec 32 := Scalar.addi arg0 c3_i32
  let c2_i32 : BitVec 32 := 2#32
  let v12 : BitVec 32 := Scalar.subi v11 c2_i32
  let c3_i32_3 : BitVec 32 := 3#32
  let v13 : BitVec 32 := Scalar.remsi v12 c3_i32_3
  let v14 : Index := Scalar.indexCast v13
  let c0 : Index := 0#32
  let c0_4 : Index := 0#32
  ![v14.toNat, 0, 0]
def k0_off10 (i : grid0.Coords) : Fin 3 → Nat :=
  let arg0 : BitVec 32 := BitVec.ofNat 32 (i 0).val
  let c3_i32_13 : BitVec 32 := 3#32
  let v35 : BitVec 32 := Scalar.addi arg0 c3_i32_13
  let c2_i32_14 : BitVec 32 := 2#32
  let v36 : BitVec 32 := Scalar.subi v35 c2_i32_14
  let c3_i32_15 : BitVec 32 := 3#32
  let v37 : BitVec 32 := Scalar.remsi v36 c3_i32_15
  let v38 : Index := Scalar.indexCast v37
  let c128 : Index := 128#32
  let c0_16 : Index := 0#32
  ![v38.toNat, 128, 0]
def k0_off11 (i : grid0.Coords) : Fin 3 → Nat :=
  let arg0 : BitVec 32 := BitVec.ofNat 32 (i 0).val
  let c3_i32_27 : BitVec 32 := 3#32
  let v59 : BitVec 32 := Scalar.addi arg0 c3_i32_27
  let c2_i32_28 : BitVec 32 := 2#32
  let v60 : BitVec 32 := Scalar.subi v59 c2_i32_28
  let c3_i32_29 : BitVec 32 := 3#32
  let v61 : BitVec 32 := Scalar.remsi v60 c3_i32_29
  let v62 : Index := Scalar.indexCast v61
  let c256 : Index := 256#32
  let c0_30 : Index := 0#32
  ![v62.toNat, 256, 0]
def k0_off12 (i : grid0.Coords) : Fin 3 → Nat :=
  let arg0 : BitVec 32 := BitVec.ofNat 32 (i 0).val
  let c3_i32_41 : BitVec 32 := 3#32
  let v83 : BitVec 32 := Scalar.addi arg0 c3_i32_41
  let c2_i32_42 : BitVec 32 := 2#32
  let v84 : BitVec 32 := Scalar.subi v83 c2_i32_42
  let c3_i32_43 : BitVec 32 := 3#32
  let v85 : BitVec 32 := Scalar.remsi v84 c3_i32_43
  let v86 : Index := Scalar.indexCast v85
  let c384 : Index := 384#32
  let c0_44 : Index := 0#32
  ![v86.toNat, 384, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S1024 : Shape := ⟨1, ![1024]⟩
abbrev S1024x1024 : Shape := ⟨2, ![1024, 1024]⟩
abbrev S2x1024 : Shape := ⟨2, ![2, 1024]⟩
abbrev S4x2x1024x2816 : Shape := ⟨4, ![4, 2, 1024, 2816]⟩
abbrev S4x2x2816x1024 : Shape := ⟨4, ![4, 2, 2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S65536x2816 : Shape := ⟨2, ![65536, 2816]⟩
abbrev S1x1x2816x1024 : Shape := ⟨4, ![1, 1, 2816, 1024]⟩
abbrev S2816x1024 : Shape := ⟨2, ![2816, 1024]⟩

abbrev nBuf : Space → Nat
  | .hbm => 86
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S2x1024, .f32⟩
  | .hbm, ⟨5, _⟩ => ⟨S4x2x1024x2816, .f32⟩
  | .hbm, ⟨6, _⟩ => ⟨S4x2x1024x2816, .f32⟩
  | .hbm, ⟨7, _⟩ => ⟨S4x2x2816x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | .hbm, ⟨45, _⟩ => ⟨S1x1x1024x2816, .f32⟩
  | .hbm, ⟨46, _⟩ => ⟨S1024x2816, .f32⟩
  | .hbm, ⟨47, _⟩ => ⟨S65536x2816, .f32⟩
  | .hbm, ⟨48, _⟩ => ⟨S65536x2816, .f32⟩
  | .hbm, ⟨49, _⟩ => ⟨S65536x2816, .f32⟩
  | .hbm, ⟨50, _⟩ => ⟨S_, .f32⟩
  | .hbm, ⟨51, _⟩ => ⟨S65536x2816, .f32⟩
  | .hbm, ⟨52, _⟩ => ⟨S65536x2816, .f32⟩
  | .hbm, ⟨53, _⟩ => ⟨S_, .f32⟩
  | .hbm, ⟨54, _⟩ => ⟨S65536x2816, .f32⟩
  | .hbm, ⟨55, _⟩ => ⟨S65536x2816, .f32⟩
  | .hbm, ⟨56, _⟩ => ⟨S65536x2816, .f32⟩
  | .hbm, ⟨57, _⟩ => ⟨S1x1x1024x2816, .f32⟩
  | .hbm, ⟨58, _⟩ => ⟨S1024x2816, .f32⟩
  | .hbm, ⟨59, _⟩ => ⟨S65536x2816, .f32⟩
  | .hbm, ⟨60, _⟩ => ⟨S65536x2816, .f32⟩
  | .hbm, ⟨61, _⟩ => ⟨S1x1x2816x1024, .f32⟩
  | .hbm, ⟨62, _⟩ => ⟨S2816x1024, .f32⟩
  | .hbm, ⟨63, _⟩ => ⟨S65536x1024, .f32⟩
  | .hbm, ⟨64, _⟩ => ⟨S1x1024, .f32⟩
  | .hbm, ⟨65, _⟩ => ⟨S1024, .f32⟩
  | .hbm, ⟨66, _⟩ => ⟨S65536x1024, .f32⟩
  | .hbm, ⟨67, _⟩ => ⟨S_, .f32⟩
  | .hbm, ⟨68, _⟩ => ⟨S65536, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S_, .f32⟩
  | .hbm, ⟨74, _⟩ => ⟨S65536x1, .f32⟩
  | .hbm, ⟨75, _⟩ => ⟨S65536x1, .f32⟩
  | .hbm, ⟨76, _⟩ => ⟨S65536x1, .f32⟩
  | .hbm, ⟨77, _⟩ => ⟨S65536x1024, .f32⟩
  | .hbm, ⟨78, _⟩ => ⟨S65536x1024, .f32⟩
  | .hbm, ⟨79, _⟩ => ⟨S1x1024, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S65536x1024, .f32⟩
  | .hbm, ⟨84, _⟩ => ⟨S65536x1024, .f32⟩
  | .hbm, ⟨85, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x1024 : Shape := ⟨2, ![1024, 1024]⟩
abbrev S8x8192x1024 : Shape := ⟨3, ![8, 8192, 1024]⟩
abbrev S1x1024 : Shape := ⟨2, ![1, 1024]⟩
abbrev S8x128x1024 : Shape := ⟨3, ![8, 128, 1024]⟩
abbrev S8x1024x128 : Shape := ⟨3, ![8, 1024, 128]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S8x8192x1024, .f32⟩
  | .hbm, ⟨4, _⟩ => ⟨S1x1024, .f32⟩
  | .hbm, ⟨5, _⟩ => ⟨S1024x1024, .bf16⟩
  | .hbm, ⟨6, _⟩ => ⟨S65536x1024, .bf16⟩
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S65536x1024 : Shape := ⟨2, ![65536, 1024]⟩
abbrev S1024 : Shape := ⟨1, ![1024]⟩
abbrev S1024x1024 : Shape := ⟨2, ![1024, 1024]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8192x8x1024 : Shape := ⟨3, ![8192, 8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1024, .f32⟩
  | .hbm, ⟨3, _⟩ => ⟨S8x8192x1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S8192x8x1024, .f32⟩
  | .hbm, ⟨22, _⟩ => ⟨S65536x1024, .f32⟩
  | .hbm, ⟨23, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S65536x1024 : Shape := ⟨2, ![65536, 1024]⟩
abbrev S65536x512 : Shape := ⟨2, ![65536, 512]⟩
abbrev S1024 : Shape := ⟨1, ![1024]⟩
abbrev S512 : Shape := ⟨1, ![512]⟩
abbrev S512x512 : Shape := ⟨2, ![512, 512]⟩
abbrev S4x128x128 : Shape := ⟨3, ![4, 128, 128]⟩
abbrev S1024x1024 : Shape := ⟨2, ![1024, 1024]⟩
abbrev S8x8192x1024 : Shape := ⟨3, ![8, 8192, 1024]⟩
abbrev S1x1024 : Shape := ⟨2, ![1, 1024]⟩
abbrev S1x512 : Shape := ⟨2, ![1, 512]⟩
abbrev S8x128x1024 : Shape := ⟨3, ![8, 128, 1024]⟩
abbrev S64x512 : Shape := ⟨2, ![64, 512]⟩
abbrev S1024x512 : Shape := ⟨2, ![1024, 512]⟩
abbrev S8x1024x128 : Shape := ⟨3, ![8, 1024, 128]⟩
abbrev S1152x512 : Shape := ⟨2, ![1152, 512]⟩
abbrev S1024x1 : Shape := ⟨2, ![1024, 1]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩

abbrev nBuf : Space → Nat
  | .hbm => 20
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x512, .f32⟩
  | .hbm, ⟨3, _⟩ => ⟨S65536x512, .f32⟩
  | .hbm, ⟨4, _⟩ => ⟨S1024, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x128x128, .f32⟩
  | .hbm, ⟨9, _⟩ => ⟨S512, .f32⟩
  | .hbm, ⟨10, _⟩ => ⟨S1024x1024, .f32⟩
  | .hbm, ⟨11, _⟩ => ⟨S8x8192x1024, .f32⟩
  | .hbm, ⟨12, _⟩ => ⟨S1x1024, .f32⟩
  | .hbm, ⟨13, _⟩ => ⟨S1x512, .f32⟩
  | .hbm, ⟨14, _⟩ => ⟨S512x512, .bf16⟩
  | .hbm, ⟨15, _⟩ => ⟨S1x512, .f32⟩
  | .hbm, ⟨16, _⟩ => ⟨S4x128x128, .bf16⟩
  | .hbm, ⟨17, _⟩ => ⟨S1x512, .f32⟩
  | .hbm, ⟨18, _⟩ => ⟨S1024x1024, .bf16⟩
  | .hbm, ⟨19, _⟩ => ⟨S8x8192x1024, .f32⟩
  | .local _ .vmem, ⟨0, _⟩ => ⟨S8x128x1024, .f32⟩
  | .local _ .vmem, ⟨1, _⟩ => ⟨S8x128x1024, .f32⟩
  | .local _ .vmem, ⟨2, _⟩ => ⟨S1024x1024, .bf16⟩
  | .local _ .vmem, ⟨3, _⟩ => ⟨S1024x1024, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1024, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S4x128x128, .bf16⟩
  | .local _ .vmem, ⟨17, _⟩ => ⟨S1x512, .f32⟩
  | .local _ .vmem, ⟨18, _⟩ => ⟨S1024x1024, .bf16⟩
  | .local _ .vmem, ⟨19, _⟩ => ⟨S8x128x1024, .f32⟩
  | .local _ .vmem, ⟨20, _⟩ => ⟨S8x128x1024, .f32⟩
  | .local _ .vmem, ⟨21, _⟩ => ⟨S8x1024x128, .f32⟩
  | .local _ .vmem, ⟨22, _⟩ => ⟨S1152x512, .f32⟩
  | .local _ .vmem, ⟨23, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v6 : BitVec 1 := Scalar.cmpi .slt arg0 c64_i32
  let c0_i32_1 : BitVec 32 := 0#32
  let v3 : BitVec 1 := Scalar.cmpi .eq arg0 c0_i32_1
  let c63_i32 : BitVec 32 := 63#32
  let v4 : BitVec 1 := Scalar.cmpi .eq arg0 c63_i32
  let v5 : BitVec 1 := Scalar.ori v3 v4
  let v7 : BitVec 1 := Scalar.andi v6 v5
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c64_i32_3 : BitVec 32 := 64#32
  let v10 : BitVec 1 := Scalar.cmpi .slt arg0 c64_i32_3
  let c0_i32_1 : BitVec 32 := 0#32
  let v3 : BitVec 1 := Scalar.cmpi .eq arg0 c0_i32_1
  let c63_i32 : BitVec 32 := 63#32
  let v4 : BitVec 1 := Scalar.cmpi .eq arg0 c63_i32
  let v5 : BitVec 1 := Scalar.ori v3 v4
  let v_true : BitVec 1 := 1#1
  let v11 : BitVec 1 := Scalar.xori v5 v_true
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c64_i32_5 : BitVec 32 := 64#32
  let v15 : BitVec 1 := Scalar.cmpi .eq arg0 c64_i32_5
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.addi v0 c1_i32
  let c16_i32 : BitVec 32 := 16#32
  let v2 : BitVec 32 := Scalar.muli v1 c16_i32
  let c1023_i32 : BitVec 32 := 1023#32
  let v3 : BitVec 32 := Scalar.minsi v2 c1023_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Proof.NaRow.lean ====
module
public import proofs.«01_k».proof.Proof.Gen.KernelIdeal.Frame
public import Idealize.ShloMosaic.Lib.Pointwise
@[expose] public section

/-! # One row of the token grid in the attention's kernel

The kernel takes a row of 64 tokens and a pair of heads at a time: 128 (head, column) pairs against the 512 keys of the
eight rows around it. What it stores for one pair is `attRow` of that pair's own half of the lanes. -/

noncomputable section
namespace Cert.Na
open Idealize.ShloMosaic Cert.KernelIdeal Cert.KernelIdeal.Gen Idealize.ShloMosaic.TcCoe

/-- The named constant that stands in for the base-two logarithm of e. -/
abbrev log2e : EReal := Named.named (F := Ideal) κ "log2e" (φ := .f32) 0x3FB8AA3B#32

/-- The score of a query against key `j`, in base two. -/
def score (q : Fin 64 → EReal) (K : Fin 512 → Fin 64 → EReal) (b : Fin 512 → EReal) (j : Fin 512) : EReal :=
  ∑ d, q d * K j d + b j * log2e

/-- The weight of key `j`, before the division by the sum of the weights. -/
def weight (s : Fin 512 → EReal) (j : Fin 512) : EReal :=
  Ideal.exp2 (s j - Finset.univ.fold max ⊥ s)

/-- The weighted mean of the values: the attention of one query over 512 keys. -/
def attRow (s : Fin 512 → EReal) (v : Fin 512 → EReal) : EReal :=
  Ideal.div (∑ j, weight s j * v j) (∑ j, weight s j)

/-- Lane `d` of head `a` of a pair. -/
def hl (a : Fin 2) (d : Fin 64) : Fin 128 := ⟨64 * a.val + d.val, by omega⟩

/-- The scores of a row's 128 (head, column) pairs against the 512 keys of its eight rows. -/
def rowScores (Q : Vec Ideal S64x128 .bf16) (K : Vec Ideal S512x128 .bf16)
    (B0 B1 B2 B3 : Vec Ideal S1x1x128x128 .f32) : FVec Ideal S128x512 .f32 :=
  k1_pay8 (F := Ideal) (k1_pay4 k1_pay1 Q K) (k1_pay5 B0) (k1_pay6 B1) (k1_pay7 B2) B3

/-- What the kernel stores for a row. -/
def rowPay (Q : Vec Ideal S64x128 .bf16) (K V : Vec Ideal S512x128 .bf16)
    (B0 B1 B2 B3 : Vec Ideal S1x1x128x128 .f32) : FVec Ideal S64x128 .bf16 :=
  k1_pay3 (F := Ideal) (k1_pay192 (rowScores Q K B0 B1 B2 B3)) (k1_pay193 (rowScores Q K B0 B1 B2 B3)) V

/-- The bias of pair `p` against key `j`, from the four tables side by side. -/
def biasOf (B0 B1 B2 B3 : Vec Ideal S1x1x128x128 .f32) (p : Fin 128) (j : Fin 512) : EReal :=
  if h : j.val < 128 then B0 (ix4 0 0 p ⟨j.val, h⟩)
  else if h : j.val - 128 < 128 then B1 (ix4 0 0 p ⟨j.val - 128, h⟩)
  else if h : j.val - 128 - 128 < 128 then B2 (ix4 0 0 p ⟨j.val - 128 - 128, h⟩)
  else B3 (ix4 0 0 p ⟨j.val - 128 - 128 - 128, by omega⟩)

/-- The lane mask: the first 64 lanes. -/
theorem lane_lt : ∀ x : Fin 128, IntOp.cmpi .slt (BitVec.ofNat 32 x.val) 64#32 = if x.val < 64 then 1#1 else 0#1 := by
  decide +kernel
theorem sel_lane (x : Fin 128) (a b : EReal) :
    Scalar.select (IntOp.cmpi .slt (BitVec.ofNat 32 x.val) 64#32) a b = if x.val < 64 then a else b := by
  rw [lane_lt]; split <;> rfl

/-- A sum over the 128 lanes is the two heads' sums. -/
theorem sum_lanes (f : Fin 128 → EReal) : ∑ x, f x = ∑ d, f (hl 0 d) + ∑ d, f (hl 1 d) := by
  refine (Fin.sum_univ_add (a := 64) (b := 64) f).trans ?_
  congr 1 <;> exact Finset.sum_congr rfl fun d _ => congrArg f (Fin.ext (by simp [hl]))

theorem scores_apply (Q : Vec Ideal S64x128 .bf16) (K : Vec Ideal S512x128 .bf16)
    (B0 B1 B2 B3 : Vec Ideal S1x1x128x128 .f32) (a : Fin 2) (w : Fin 64) (j : Fin 512) :
    rowScores Q K B0 B1 B2 B3 (ix2 (hl a w) j)
      = score (fun d => Q (ix2 w (hl a d))) (fun j d => K (ix2 j (hl a d))) (biasOf B0 B1 B2 B3 (hl a w)) j := by
  unfold rowScores k1_pay8 k1_pay4 k1_pay1 k1_pay5 k1_pay6 k1_pay7
  pointwise
  unfold score biasOf
  congr 1
  rw [sum_lanes]
  simp only [sel_lane]
  fin_cases a
  · have h : ∀ d : Fin 64, (hl 1 d).val < 64 ↔ False := fun d => by simp [hl]
    have h0 : ∀ d : Fin 64, (hl 0 d).val < 64 ↔ True := fun d => by simp [hl]
    simp [h, h0, ix2, hl]
  · have h : ∀ d : Fin 64, (hl 1 d).val < 64 ↔ False := fun d => by simp [hl]
    have h0 : ∀ d : Fin 64, (hl 0 d).val < 64 ↔ True := fun d => by simp [hl]
    simp [h, h0, ix2, hl]

theorem exp_apply (S : FVec Ideal S128x512 .f32) (p : Fin 128) (j : Fin 512) :
    k1_pay191 S (ix2 p j) = weight (fun j => S (ix2 p j)) j := by
  unfold k1_pay191
  pointwise
  rfl

theorem sum_apply (S : FVec Ideal S128x512 .f32) (p : Fin 128) :
    k1_pay193 S (ix2 p 0) = ∑ j, weight (fun j => S (ix2 p j)) j := by
  unfold k1_pay193
  pointwise
  exact Finset.sum_congr rfl fun j _ => exp_apply S p j

/-- What is stored for column `w`, lane `e` of head `a`. -/
theorem rowPay_apply (Q : Vec Ideal S64x128 .bf16) (K V : Vec Ideal S512x128 .bf16)
    (B0 B1 B2 B3 : Vec Ideal S1x1x128x128 .f32) (a : Fin 2) (w e : Fin 64) :
    rowPay Q K V B0 B1 B2 B3 (ix2 w (hl a e))
      = attRow (score (fun d => Q (ix2 w (hl a d))) (fun j d => K (ix2 j (hl a d))) (biasOf B0 B1 B2 B3 (hl a w)))
          (fun j => V (ix2 j (hl a e))) := by
  have hs : (fun j => rowScores Q K B0 B1 B2 B3 (ix2 (hl a w) j)) = _ :=
    funext fun j => scores_apply Q K B0 B1 B2 B3 a w j
  have key : ∀ p : Fin 128, p = hl a w →
      Ideal.div (∑ x, (k1_pay192 (rowScores Q K B0 B1 B2 B3) : FVec Ideal S128x512 .bf16) (ix2 p x) * V (ix2 x (hl a e)))
        ((k1_pay193 (rowScores Q K B0 B1 B2 B3) : FVec Ideal S128x1 .f32) (ix2 p 0))
      = attRow (score (fun d => Q (ix2 w (hl a d))) (fun j d => K (ix2 j (hl a d))) (biasOf B0 B1 B2 B3 (hl a w)))
          (fun j => V (ix2 j (hl a e))) := by
    rintro p rfl
    unfold attRow
    rw [sum_apply, hs]
    congr 1
    refine Finset.sum_congr rfl fun j _ => ?_
    unfold k1_pay192
    pointwise
    rw [exp_apply, hs]
  unfold rowPay
  rw [← key _ rfl]
  generalize k1_pay192 (rowScores Q K B0 B1 B2 B3) = E
  generalize k1_pay193 (rowScores Q K B0 B1 B2 B3) = L
  unfold k1_pay3 k1_pay1
  pointwise
  refine (sel_lane _ _ _).trans ?_
  fin_cases a <;> simp [ix2, hl]

end Cert.Na
-- ==== Proof.NaBlock.lean ====
module
public import proofs.«01_k».proof.Proof.NaRow
public import Idealize.ShloMosaic.Lib.WholeRead
public import Idealize.ShloMosaic.Lib.Pipeline.ValueKit
@[expose] public section

/-! # The attention's block: 128 rows of 64 tokens, one pair of heads

Each of the loop's four trips stores 32 rows; all of them are `rowPay` of their own loads. -/

noncomputable section
namespace Cert.Na
open Idealize.ShloMosaic Cert.KernelIdeal Cert.KernelIdeal.Gen Idealize.ShloMosaic.TcCoe

/-- The first of the eight key rows of row `r`. -/
def row0 (r : Fin 128) : Fin 121 := ⟨min 120 (r.val - 4), by omega⟩
/-- The first of its bias tables. -/
def tab0 (r : Fin 128) : Fin 8 := ⟨row0 r + 7 - r.val, by unfold row0; simp only; omega⟩

/-- Row `32 k + j`. -/
def rowOf (k : Fin 4) (j : Fin 32) : Fin 128 := ⟨32 * k.val + j.val, by omega⟩

theorem trips_eq : k1_t1_loop.trips = 4 := by decide

theorem off1_eq : ∀ (k : Fin k1_t1_loop.trips) (j : Fin 32), k1_off1 k (BitVec.ofNat 32 j.val) = ![64 * (32 * k.val + j.val), 0] := by
  decide +kernel
theorem off2_eq : ∀ (k : Fin k1_t1_loop.trips) (j : Fin 32),
    k1_off2 k (BitVec.ofNat 32 j.val) = ![64 * (min 120 (32 * k.val + j.val - 4)), 0] := by
  decide +kernel
theorem off3_eq : ∀ (k : Fin k1_t1_loop.trips) (j : Fin 32) (i : Fin 4),
    k1_off3 k (BitVec.ofNat 32 j.val) (BitVec.ofNat 32 (2 * i.val))
      = ![0, min 120 (32 * k.val + j.val - 4) + 7 - (32 * k.val + j.val) + 2 * i.val, 0, 0] := by
  decide +kernel

variable (Q K V : Vec Ideal S8192x128 .bf16) (B : Vec Ideal S1x14x128x128 .f32)

/-- Token `(r, w)` of a sequence. -/
def tok (r : Fin 128) (w : Fin 64) : Fin 8192 := ⟨64 * r.val + w.val, by omega⟩
/-- Key `j` of row `r`. -/
def key (r : Fin 128) (j : Fin 512) : Fin 8192 := ⟨64 * (row0 r).val + j.val, by have := (row0 r).isLt; omega⟩

/-- The bias of pair `p` of row `r` against key `j`. -/
def bias (r : Fin 128) (p : Fin 128) (j : Fin 512) : EReal :=
  B (ix4 0 ⟨(tab0 r).val + 2 * (j.val / 128), by have := (tab0 r).isLt; omega⟩ p ⟨j.val % 128, by omega⟩)

/-- The block the kernel leaves. -/
def naBlock : Vec Ideal S8192x128 .bf16 := fun i =>
  let r : Fin 128 := ⟨(i 0).val / 64, by have := (i 0).isLt; simp at this; omega⟩
  let w : Fin 64 := ⟨(i 0).val % 64, by omega⟩
  let a : Fin 2 := ⟨(i 1).val / 64, by have := (i 1).isLt; simp at this; omega⟩
  attRow (score (fun d => Q (ix2 (tok r w) (hl a d))) (fun j d => K (ix2 (key r j) (hl a d))) (bias B r (hl a w)))
    (fun j => V (ix2 (key r j) (i 1)))

variable (𝒱 : Variants) (c : Dev nD) (bd : Option 𝒱.V) (i : grid1.Coords) (arg2 : Memref sig .tc .vmem S8192x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x14x128x128 .f32) (harg5 : arg5.IsWhole) (arg6 : Memref sig .tc .vmem S8192x128 .bf16) (harg6 : arg6.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

/-- The piece of row `32 k + j`. -/
def rowPiece (k : Fin k1_t1_loop.trips) (j : Fin 32) : View.Piece (Elt Ideal) S8192x128 .bf16 :=
  ⟨Rect.unit (s := S8192x128) (k1_off1 k (BitVec.ofNat 32 j.val)) S64x128.size (k1_off1_inb k j),
    rowPay
      (arg2.view.readAt (Elt Ideal) (Rect.unit (s := S8192x128) (k1_off1 k (BitVec.ofNat 32 j.val)) S64x128.size (k1_off1_inb k j)).toLoadRect X2)
      (arg3.view.readAt (Elt Ideal) (Rect.unit (s := S8192x128) (k1_off2 k (BitVec.ofNat 32 j.val)) S512x128.size (k1_off2_inb k j)).toLoadRect X3)
      (arg4.view.readAt (Elt Ideal) (Rect.unit (s := S8192x128) (k1_off2 k (BitVec.ofNat 32 j.val)) S512x128.size (k1_off2_inb k j)).toLoadRect X4)
      (arg5.view.readAt (Elt Ideal) (Rect.unit (s := S1x14x128x128) (k1_off3 k (BitVec.ofNat 32 j.val) 0#32) S1x1x128x128.size (k1_off3_inb k j 0)).toLoadRect X5)
      (arg5.view.readAt (Elt Ideal) (Rect.unit (s := S1x14x128x128) (k1_off3 k (BitVec.ofNat 32 j.val) 2#32) S1x1x128x128.size (k1_off3_inb k j 1)).toLoadRect X5)
      (arg5.view.readAt (Elt Ideal) (Rect.unit (s := S1x14x128x128) (k1_off3 k (BitVec.ofNat 32 j.val) 4#32) S1x1x128x128.size (k1_off3_inb k j 2)).toLoadRect X5)
      (arg5.view.readAt (Elt Ideal) (Rect.unit (s := S1x14x128x128) (k1_off3 k (BitVec.ofNat 32 j.val) 6#32) S1x1x128x128.size (k1_off3_inb k j 3)).toLoadRect X5)⟩

theorem trip_pieces (k : Fin k1_t1_loop.trips) (p)
    (hp : p ∈ tripL_k1_t1 (F := Ideal) 𝒱 c bd i arg2 harg2 arg3 harg3 arg4 harg4 arg5 harg5 arg6 harg6 X2 X3 X4 X5 k) :
    ∃ j : Fin 32, p = rowPiece arg2 arg3 arg4 arg5 X2 X3 X4 X5 k j := by
  unfold tripL_k1_t1 trip_k1_t1 at hp
  simp only [List.mem_cons] at hp
  rcases hp with h | h | h | h | h | h | h | h | h | h | h | h | h | h | h | h | h | h | h | h | h | h | h | h | h | h | h | h | h | h | h | h | h
  · exact ⟨31, h.trans rfl⟩
  · exact ⟨30, h.trans rfl⟩
  · exact ⟨29, h.trans rfl⟩
  · exact ⟨28, h.trans rfl⟩
  · exact ⟨27, h.trans rfl⟩
  · exact ⟨26, h.trans rfl⟩
  · exact ⟨25, h.trans rfl⟩
  · exact ⟨24, h.trans rfl⟩
  · exact ⟨23, h.trans rfl⟩
  · exact ⟨22, h.trans rfl⟩
  · exact ⟨21, h.trans rfl⟩
  · exact ⟨20, h.trans rfl⟩
  · exact ⟨19, h.trans rfl⟩
  · exact ⟨18, h.trans rfl⟩
  · exact ⟨17, h.trans rfl⟩
  · exact ⟨16, h.trans rfl⟩
  · exact ⟨15, h.trans rfl⟩
  · exact ⟨14, h.trans rfl⟩
  · exact ⟨13, h.trans rfl⟩
  · exact ⟨12, h.trans rfl⟩
  · exact ⟨11, h.trans rfl⟩
  · exact ⟨10, h.trans rfl⟩
  · exact ⟨9, h.trans rfl⟩
  · exact ⟨8, h.trans rfl⟩
  · exact ⟨7, h.trans rfl⟩
  · exact ⟨6, h.trans rfl⟩
  · exact ⟨5, h.trans rfl⟩
  · exact ⟨4, h.trans rfl⟩
  · exact ⟨3, h.trans rfl⟩
  · exact ⟨2, h.trans rfl⟩
  · exact ⟨1, h.trans rfl⟩
  · exact ⟨0, h.trans rfl⟩
  · cases h

theorem pb_pieces : ∀ n : Nat, n ≤ k1_t1_loop.trips → ∀ p ∈ pb_k1_t1 (F := Ideal) 𝒱 c bd i arg2 harg2 arg3 harg3 arg4 harg4 arg5 harg5 arg6 harg6 X2 X3 X4 X5 n,
    ∃ (k : Fin k1_t1_loop.trips) (j : Fin 32), p = rowPiece arg2 arg3 arg4 arg5 X2 X3 X4 X5 k j := by
  intro n
  induction n with
  | zero => intro _ p hp; cases hp
  | succ n ih =>
    intro hn p hp
    rw [pb_k1_t1_succ (F := Ideal) 𝒱 c bd i arg2 harg2 arg3 harg3 arg4 harg4 arg5 harg5 arg6 harg6 X2 X3 X4 X5 ⟨n, hn⟩] at hp
    rcases List.mem_append.1 hp with h | h
    · exact ⟨⟨n, hn⟩, trip_pieces 𝒱 c bd i arg2 harg2 arg3 harg3 arg4 harg4 arg5 harg5 arg6 harg6 X2 X3 X4 X5 ⟨n, hn⟩ p h⟩
    · exact ih (by omega) p h

/-- An index of the output block, by its row, column, head of the pair and lane. -/
theorem naBlock_apply (r : Fin 128) (w : Fin 64) (a : Fin 2) (e : Fin 64) :
    naBlock Q K V B (ix2 (tok r w) (hl a e))
      = attRow (score (fun d => Q (ix2 (tok r w) (hl a d))) (fun j d => K (ix2 (key r j) (hl a d))) (bias B r (hl a w)))
          (fun j => V (ix2 (key r j) (hl a e))) := by
  have hr : ∀ (r' : Fin 128) (w' : Fin 64) (a' : Fin 2), r' = r → w' = w → a' = a →
      attRow (score (fun d => Q (ix2 (tok r' w') (hl a' d))) (fun j d => K (ix2 (key r' j) (hl a' d))) (bias B r' (hl a' w')))
          (fun j => V (ix2 (key r' j) (hl a e)))
        = attRow (score (fun d => Q (ix2 (tok r w) (hl a d))) (fun j d => K (ix2 (key r j) (hl a d))) (bias B r (hl a w)))
            (fun j => V (ix2 (key r j) (hl a e))) := by
    rintro _ _ _ rfl rfl rfl; rfl
  refine hr _ _ _ (Fin.ext ?_) (Fin.ext ?_) (Fin.ext ?_)
  · show (64 * r.val + w.val) / 64 = r.val; omega
  · show (64 * r.val + w.val) % 64 = w.val; omega
  · show (64 * a.val + e.val) / 64 = a.val; omega

theorem ld_apply {s : Shape} {e : EltTy} {m : Memref sig .tc .vmem s e} (h : m.IsWhole) (X : s.Idx → Elt Ideal e)
    (off size inb) (x : (Rect.unit (s := s) off size inb).shape.Idx) (i : s.Idx) (hi : ∀ a, (i a : Nat) = off a + x a) :
    m.view.readAt (Elt Ideal) (Rect.unit (s := s) off size inb).toLoadRect (h.unread X) x = X i :=
  (h.readAt_unread X _ x).trans (View.ld_unit_apply_of X off size inb x i hi)

theorem attRow_congr {q q' : Fin 64 → EReal} {k k' : Fin 512 → Fin 64 → EReal} {b b' v v' : Fin 512 → EReal}
    (hq : q = q') (hk : k = k') (hb : b = b') (hv : v = v') : attRow (score q k b) v = attRow (score q' k' b') v' := by
  subst hq hk hb hv; rfl

/-- A row's piece holds that row of the block. -/
theorem rowPiece_apply (k : Fin k1_t1_loop.trips) (j : Fin 32) (x) :
    (rowPiece arg2 arg3 arg4 arg5 (harg2.unread Q) (harg3.unread K) (harg4.unread V) (harg5.unread B) k j).2 x
      = naBlock Q K V B ((rowPiece arg2 arg3 arg4 arg5 (harg2.unread Q) (harg3.unread K) (harg4.unread V)
          (harg5.unread B) k j).1.emb x) := by
  have hk : k.val < 4 := trips_eq ▸ k.isLt
  obtain ⟨r, hr⟩ : ∃ r : Fin 128, r.val = 32 * k.val + j.val := ⟨rowOf ⟨k, hk⟩ j, rfl⟩
  obtain ⟨w, l, rfl⟩ : ∃ (w : Fin 64) (l : Fin 128), x = ix2 w l := ⟨x 0, x 1, eq_ix2 x⟩
  obtain ⟨a, e, rfl⟩ : ∃ (a : Fin 2) (e : Fin 64), l = hl a e :=
    ⟨⟨l.val / 64, by omega⟩, ⟨l.val % 64, by omega⟩, Fin.ext (by simp only [hl]; omega)⟩
  have h1 := off1_eq k j
  have h2 := off2_eq k j
  have h3 := off3_eq k j
  have hrow : (row0 r).val = min 120 (32 * k.val + j.val - 4) := by simp only [row0, hr]
  have htab : (tab0 r).val = min 120 (32 * k.val + j.val - 4) + 7 - (32 * k.val + j.val) := by simp only [tab0, hrow, hr]
  have hemb : (rowPiece arg2 arg3 arg4 arg5 (harg2.unread Q) (harg3.unread K) (harg4.unread V)
          (harg5.unread B) k j).1.emb (ix2 w (hl a e)) = ix2 (tok r w) (hl a e) := by
    funext b
    apply Fin.ext
    unfold rowPiece
    refine (ValueKit.rect_emb_unit_val _ _ (k1_off1_inb k j) _ _).trans
      ((congrArg (· + ((ix2 w (hl a e) : S64x128.Idx) b).val) (congrFun h1 b)).trans ?_)
    fin_cases b
    · simp [ix2, tok, hr]
    · simp [ix2]
  rw [hemb, naBlock_apply]
  unfold rowPiece
  refine (rowPay_apply _ _ _ _ _ _ _ a w e).trans ?_
  have hq : ∀ d, arg2.view.readAt (Elt Ideal) (Rect.unit (s := S8192x128) (k1_off1 k (BitVec.ofNat 32 j.val)) S64x128.size (k1_off1_inb k j)).toLoadRect (harg2.unread Q) (ix2 w (hl a d)) = Q (ix2 (tok r w) (hl a d)) := fun d =>
    ld_apply harg2 Q _ _ _ _ _ fun b => by
      refine Eq.trans ?_ (congrArg (· + _) (congrFun h1 b).symm)
      fin_cases b <;> simp [ix2, tok, hr]
  have hK : ∀ n d, arg3.view.readAt (Elt Ideal) (Rect.unit (s := S8192x128) (k1_off2 k (BitVec.ofNat 32 j.val)) S512x128.size (k1_off2_inb k j)).toLoadRect (harg3.unread K) (ix2 n (hl a d)) = K (ix2 (key r n) (hl a d)) := fun n d =>
    ld_apply harg3 K _ _ _ _ _ fun b => by
      refine Eq.trans ?_ (congrArg (· + _) (congrFun h2 b).symm)
      fin_cases b <;> simp [ix2, key, hrow]
  have hV : ∀ n d, arg4.view.readAt (Elt Ideal) (Rect.unit (s := S8192x128) (k1_off2 k (BitVec.ofNat 32 j.val)) S512x128.size (k1_off2_inb k j)).toLoadRect (harg4.unread V) (ix2 n (hl a d)) = V (ix2 (key r n) (hl a d)) := fun n d =>
    ld_apply harg4 V _ _ _ _ _ fun b => by
      refine Eq.trans ?_ (congrArg (· + _) (congrFun h2 b).symm)
      fin_cases b <;> simp [ix2, key, hrow]
  have hB : ∀ (i : Fin 4) (inb) (p l : Fin 128) (n : Fin 512), n.val / 128 = i.val → n.val % 128 = l.val →
      arg5.view.readAt (Elt Ideal) (Rect.unit (s := S1x14x128x128) (k1_off3 k (BitVec.ofNat 32 j.val) (BitVec.ofNat 32 (2 * i.val))) S1x1x128x128.size inb).toLoadRect (harg5.unread B) (ix4 0 0 p l) = bias B r p n := fun i inb p l n hi hl =>
    ld_apply harg5 B _ _ _ _ _ fun b => by
      refine Eq.trans ?_ (congrArg (· + _) (congrFun (h3 i) b).symm)
      fin_cases b
      · simp [ix4]
      · simp [ix4, htab, hi]
      · simp [ix4]
      · simp [ix4, hl]
  refine attRow_congr (funext hq) (funext fun n => funext fun d => hK n d) (funext fun n => ?_) (funext fun n => hV n e)
  unfold biasOf
  split_ifs with g0 g1 g2
  · exact hB 0 _ _ _ n (by simp; omega) (by simp; omega)
  · exact hB 1 _ _ _ n (by simp; omega) (by simp; omega)
  · exact hB 2 _ _ _ n (by simp; omega) (by simp; omega)
  · exact hB 3 _ _ _ n (by simp; omega) (by simp; omega)

/-- The kernel leaves the block. -/
theorem out_eq :
    out1_A_4 (F := Ideal) c i arg2 harg2 arg3 harg3 arg4 harg4 arg5 harg5 arg6 harg6 Q K V B = naBlock Q K V B := by
  funext y
  unfold out1_A_4
  refine View.read_writes_apply_of_pieces _ _ (naBlock Q K V B) _ (fun p hp => ?_) y
    (cover1_A_4 c i arg2 harg2 arg3 harg3 arg4 harg4 arg5 harg5 arg6 harg6 Q K V B y)
  unfold kernelRun1_A at hp
  obtain ⟨k, j, rfl⟩ := pb_pieces _ _ _ _ _ _ _ _ _ _ _ _ _ _ _ _ _ _ _ (le_of_eq rfl) p hp
  exact fun x => rowPiece_apply Q K V B arg2 harg2 arg3 harg3 arg4 harg4 arg5 harg5 k j x

end Cert.Na
-- ==== Proof.FfnRow.lean ====
module
public import Idealize.ShloMosaic.Lib.ValueIdx
@[expose] public section

/-! # The feed-forward block on one row

The mathematics of one row of the feed-forward call: its two normalisations, its gated hidden layer and the
sum over the hidden layer cut into the four chunks the kernel takes it in. -/

noncomputable section
namespace Cert.Ffn
open Idealize.ShloMosaic

/-- The number of channels, as the word both programs divide by. -/
abbrev wChannels : EReal := Ideal.ofBits .f32 0x44800000#32
/-- The small constant both programs add under the root. -/
abbrev wEps : EReal := Ideal.ofBits .f32 0x358637BD#32
/-- The one half both programs scale the block's output by. -/
abbrev wHalf : EReal := Ideal.ofBits .f32 0x3F000000#32

/-- The root-mean-square normalisation of a row `v` with weights `g`, at channel `j`. -/
def rms (v g : Fin 1024 → EReal) (j : Fin 1024) : EReal :=
  v j * Ideal.rsqrt (Ideal.div (∑ k, v k * v k) wChannels + wEps) * g j

/-- Hidden unit `f` of the gated layer on a normalised row `n`: gate, times its logistic, times the up projection. -/
def hidden (n : Fin 1024 → EReal) (wg wu : Fin 1024 → Fin 2816 → EReal) (f : Fin 2816) : EReal :=
  (∑ k, n k * wg k f) * Ideal.logistic (∑ k, n k * wg k f) * (∑ k, n k * wu k f)

/-- The gated layer's output at channel `j`: the hidden units projected down. -/
def ffn (n : Fin 1024 → EReal) (wg wu : Fin 1024 → Fin 2816 → EReal) (wd : Fin 2816 → Fin 1024 → EReal)
    (j : Fin 1024) : EReal :=
  ∑ f, hidden n wg wu f * wd f j

/-- The whole block on a row `x`: the row plus half of the normalised gated layer of the normalised row. -/
def block (x g₀ g₁ : Fin 1024 → EReal) (wg wu : Fin 1024 → Fin 2816 → EReal) (wd : Fin 2816 → Fin 1024 → EReal)
    (j : Fin 1024) : EReal :=
  x j + wHalf * rms (ffn (rms x g₀) wg wu wd) g₁ j

/-- The sum over the 2816 hidden units is the sum over its chunks of 768, 768, 768 and 512. -/
theorem sum_chunks (h : Fin 2816 → EReal) :
    ∑ f, h f = (∑ k : Fin 768, h ⟨k.val, by omega⟩) + (∑ k : Fin 768, h ⟨768 + k.val, by omega⟩)
      + (∑ k : Fin 768, h ⟨1536 + k.val, by omega⟩) + ∑ k : Fin 512, h ⟨2304 + k.val, by omega⟩ := by
  have e : ∑ f, h f = ∑ f : Fin (768 + 768 + 768 + 512), h f := rfl
  rw [e, Fin.sum_univ_add, Fin.sum_univ_add, Fin.sum_univ_add]
  rfl

end Cert.Ffn
-- ==== Proof.QkvTile.lean ====
module
public import proofs.«01_k».proof.Proof.NaBlock
public import proofs.«01_k».proof.Proof.FfnRow
@[expose] public section

/-! # The projection to queries, keys and values: what the call `na_qkv` stores

A row of the input times the norm's weights, projected, and scaled at the end by the row's inverse root mean square; the
query columns carry the scale of the scores as well. -/

noncomputable section
namespace Cert.Na
open Idealize.ShloMosaic Cert.KernelIdeal Cert.KernelIdeal.Gen Idealize.ShloMosaic.TcCoe
open Cert.Ffn (wChannels wEps)

/-- The named constant that stands in for an eighth of the base-two logarithm of e. -/
abbrev qScale : EReal := Named.named (F := Ideal) κ "q_scale" (φ := .f32) 0x3E38AA3B#32

/-- The inverse root mean square of a row. -/
def inv (x : Fin 1024 → EReal) : EReal := Ideal.rsqrt (Ideal.div (∑ k, x k * x k) wChannels + wEps)

/-- Column `j` of a row's projection. -/
def qkvRow (x g : Fin 1024 → EReal) (w : Fin 1024 → Fin 3072 → EReal) (j : Fin 3072) : EReal :=
  (∑ k, x k * g k * w k j) * if j.val < 1024 then inv x * qScale else inv x

/-- A tile of 1024 such rows. -/
def qkvTile (X : Vec Ideal S1024x1024 .f32) (G : Vec Ideal S1x1024 .f32) (W : Vec Ideal S1024x3072 .bf16) :
    Vec Ideal S1024x3072 .bf16 :=
  fun i => qkvRow (fun k => X (ix2 (i 0) k)) (fun k => G (ix2 0 k)) (fun k j => W (ix2 k j)) (i 1)

theorem inv_apply (X : Vec Ideal S1024x1024 .f32) (r : Fin 1024) :
    k0_pay1 (F := Ideal) X (ix2 r 0) = inv (fun k => X (ix2 r k)) := by
  unfold k0_pay1
  pointwise
  rfl
theorem q_apply (X : Vec Ideal S1024x1024 .f32) (G : Vec Ideal S1x1024 .f32) (W : Vec Ideal S1024x1024 .bf16)
    (r j : Fin 1024) :
    k0_pay3 (F := Ideal) X G W (ix2 r j)
      = (∑ k, X (ix2 r k) * G (ix2 0 k) * W (ix2 k j)) * (inv (fun k => X (ix2 r k)) * qScale) := by
  unfold k0_pay3 k0_pay2
  pointwise
  rw [inv_apply]
theorem kv_apply (X : Vec Ideal S1024x1024 .f32) (G : Vec Ideal S1x1024 .f32) (W : Vec Ideal S1024x2048 .bf16)
    (r : Fin 1024) (j : Fin 2048) :
    k0_pay4 (F := Ideal) X G W (ix2 r j)
      = (∑ k, X (ix2 r k) * G (ix2 0 k) * W (ix2 k j)) * inv (fun k => X (ix2 r k)) := by
  unfold k0_pay4 k0_pay2
  pointwise
  rw [inv_apply]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x3072 .bf16) (harg4 : arg4.IsWhole)
    (X : Vec Ideal S1024x1024 .f32) (G : Vec Ideal S1x1024 .f32) (W : Vec Ideal S1024x3072 .bf16)

/-- The tile is left. -/
theorem qkv_out_eq : out0_A_3 (F := Ideal) c i arg1 harg1 arg2 harg2 arg3 harg3 arg4 harg4 X G W = qkvTile X G W := by
  have hX : ∀ inb (r k : Fin 1024), arg1.view.readAt (Elt Ideal) (Rect.unit (s := S1024x1024) ![0, 0] S1024x1024.size inb).toLoadRect (harg1.unread X) (ix2 r k) = X (ix2 r k) :=
    fun inb r k => ld_apply harg1 X _ _ _ _ _ fun b => by fin_cases b <;> simp [ix2]
  have hG : ∀ inb (k : Fin 1024), arg2.view.readAt (Elt Ideal) (Rect.unit (s := S1x1024) ![0, 0] S1x1024.size inb).toLoadRect (harg2.unread G) (ix2 0 k) = G (ix2 0 k) :=
    fun inb k => ld_apply harg2 G _ _ _ _ _ fun b => by fin_cases b <;> simp [ix2]
  funext y
  unfold out0_A_3
  refine View.read_writes_apply_of_pieces _ _ (qkvTile X G W) _ (fun p hp => ?_) y
    (cover0_A_3 c i arg1 harg1 arg2 harg2 arg3 harg3 arg4 harg4 X G W y)
  unfold kernelRun0_A at hp
  simp only [List.mem_cons] at hp
  rcases hp with rfl | rfl | hp
  · intro x
    obtain ⟨r, j, rfl⟩ : ∃ (r : Fin 1024) (j : Fin 2048), x = ix2 r j := ⟨x 0, x 1, eq_ix2 x⟩
    have he : (Rect.unit (s := S1024x3072) ![0, 1024] S1024x2048.size inb_S1024x3072_S1024x2048_0_1024).emb (ix2 r j)
        = ix2 r ⟨1024 + j.val, by omega⟩ := by
      funext b; apply Fin.ext
      refine (ValueKit.rect_emb_unit_val _ _ _ _ _).trans ?_
      fin_cases b <;> simp [ix2]
    refine Eq.trans ?_ (congrArg (qkvTile X G W) he.symm)
    refine (kv_apply _ _ _ r j).trans ?_
    simp only [hX, hG]
    show _ = qkvRow _ _ _ _
    unfold qkvRow
    rw [if_neg (by show ¬ 1024 + j.val < 1024; omega)]
    congr 1
    refine Finset.sum_congr rfl fun k _ => congrArg _ ?_
    exact ld_apply harg3 W _ _ _ _ _ fun b => by fin_cases b <;> simp [ix2]
  · intro x
    obtain ⟨r, j, rfl⟩ : ∃ (r : Fin 1024) (j : Fin 1024), x = ix2 r j := ⟨x 0, x 1, eq_ix2 x⟩
    have he : (Rect.unit (s := S1024x3072) ![0, 0] S1024x1024.size inb_S1024x3072_S1024x1024_0_0).emb (ix2 r j)
        = ix2 r ⟨j.val, by omega⟩ := by
      funext b; apply Fin.ext
      refine (ValueKit.rect_emb_unit_val _ _ _ _ _).trans ?_
      fin_cases b <;> simp [ix2]
    refine Eq.trans ?_ (congrArg (qkvTile X G W) he.symm)
    refine (q_apply _ _ _ r j).trans ?_
    simp only [hX, hG]
    show _ = qkvRow _ _ _ _
    unfold qkvRow
    rw [if_pos (by show j.val < 1024; omega)]
    congr 1
    refine Finset.sum_congr rfl fun k _ => congrArg _ ?_
    exact ld_apply harg3 W _ _ _ _ _ fun b => by fin_cases b <;> simp [ix2]
  · cases hp

end Cert.Na
-- ==== Proof.NaArray.lean ====
module
public import proofs.«01_k».proof.Proof.QkvTile
@[expose] public section

/-! # What the two calls' result arrays hold

The blocks each call writes tile its result, so the projection's array is `qkvRow` of every row, and the attention's is
`naBlock` of every pair of heads and every sequence. -/

noncomputable section
namespace Cert.Na
open Idealize.ShloMosaic Cert.KernelIdeal Cert.KernelIdeal.Gen Idealize.ShloMosaic.TcCoe
open Idealize.ShloMosaic.Pipeline (Dat)

variable (V : (c : Dev nD) → (b : Ref sig .tc) → Buf (Elt Ideal) ((c : Thread nD τ).loc b)) (c : Dev nD)

/-- The projection of every row. -/
def qkvWanted (x : Vec Ideal S65536x1024 .f32) (g : Vec Ideal S1x1024 .f32) (w : Vec Ideal S1024x3072 .bf16) :
    Vec Ideal S65536x3072 .bf16 :=
  fun i => qkvRow (fun k => x (ix2 (i 0) k)) (fun k => g (ix2 0 k)) (fun k j => w (ix2 k j)) (i 1)

theorem qidx0 : ∀ t : Fin cfg0.N, win0_0.index t = ![t.val, 0] := (by decide +kernel : ∀ t : Fin grid0.N, _)
theorem qidx1 : ∀ t : Fin cfg0.N, win0_1.index t = ![0, 0] := (by decide +kernel : ∀ t : Fin grid0.N, _)
theorem qidx2 : ∀ t : Fin cfg0.N, win0_2.index t = ![0, 0] := (by decide +kernel : ∀ t : Fin grid0.N, _)
theorem qidx3 : ∀ t : Fin cfg0.N, win0_3.index t = ![t.val, 0] := (by decide +kernel : ∀ t : Fin grid0.N, _)

theorem qin0 (t : Fin cfg0.N) (r k : Fin 1024) :
    (iblk0 V c 0 t : Vec Ideal S1024x1024 .f32) (ix2 r k)
      = (V c main_arg0 : Vec Ideal S65536x1024 .f32)
          (ix2 ⟨t.val * 1024 + r.val, by have := lt_of_lt_of_eq t.isLt N_0; omega⟩ k) := by
  blk_ext [iblk0, qidx0 t]
theorem qin1 (t : Fin cfg0.N) (k : Fin 1024) :
    (iblk0 V c 1 t : Vec Ideal S1x1024 .f32) (ix2 0 k) = (V c main_v0 : Vec Ideal S1x1024 .f32) (ix2 0 k) := by
  blk_ext [iblk0, qidx1 t]
theorem qin2 (t : Fin cfg0.N) (k : Fin 1024) (j : Fin 3072) :
    (iblk0 V c 2 t : Vec Ideal S1024x3072 .bf16) (ix2 k j) = (V c main_v1 : Vec Ideal S1024x3072 .bf16) (ix2 k j) := by
  blk_ext [iblk0, qidx2 t]

/-- The projection's array. -/
theorem qkv_array : (dat0 V c).arrAt 3 cfg0.N = qkvWanted (V c main_arg0) (V c main_v0) (V c main_v1) := by
  have hc : (cfg0.win 3).Covers := by decide +kernel
  refine (dat0 V c).arrAt_eq_of_cover 3 _ (fun t _ => ?_) (hc.cover _ (Memref.isWhole_whole _))
  have ht : t.val < 64 := lt_of_lt_of_eq t.isLt N_0
  have e := qidx3 t
  show (cfg0.win 3).cut (grid0.coords t) ((dat0 V c).after 3 t) = _
  rw [after0_3]
  unfold outsAt0
  rw [qkv_out_eq]
  funext y
  obtain ⟨r, j, rfl⟩ : ∃ (r : Fin 1024) (j : Fin 3072), y = ix2 r j := ⟨y 0, y 1, eq_ix2 y⟩
  have key : qkvTile (iblk0 V c 0 t) (iblk0 V c 1 t) (iblk0 V c 2 t) (ix2 r j)
      = qkvWanted (V c main_arg0) (V c main_v0) (V c main_v1) (ix2 ⟨t.val * 1024 + r.val, by omega⟩ j) := by
    show qkvRow (fun k => (iblk0 V c 0 t : Vec Ideal S1024x1024 .f32) (ix2 r k))
      (fun k => (iblk0 V c 1 t : Vec Ideal S1x1024 .f32) (ix2 0 k))
      (fun k j => (iblk0 V c 2 t : Vec Ideal S1024x3072 .bf16) (ix2 k j)) j = _
    simp only [qin0, qin1, qin2]
    rfl
  refine key.trans ?_
  blk_ext [e]

/-- The attention of every pair of heads and every sequence, from the projection's array and the bias tables. -/
def naWanted (A : Vec Ideal S65536x3072 .bf16) (B : Vec Ideal S8x14x128x128 .f32) : Vec Ideal S65536x1024 .bf16 :=
  fun i =>
    let b : Fin 8 := ⟨(i 0).val / 8192, by have := (i 0).isLt; simp at this; omega⟩
    let p : Fin 8 := ⟨(i 1).val / 128, by have := (i 1).isLt; simp at this; omega⟩
    naBlock (fun y => A (ix2 ⟨b.val * 8192 + (y 0).val, by have := (y 0).isLt; simp at this; omega⟩ ⟨p.val * 128 + (y 1).val, by have := (y 1).isLt; simp at this; omega⟩))
      (fun y => A (ix2 ⟨b.val * 8192 + (y 0).val, by have := (y 0).isLt; simp at this; omega⟩ ⟨(8 + p.val) * 128 + (y 1).val, by have := (y 1).isLt; simp at this; omega⟩))
      (fun y => A (ix2 ⟨b.val * 8192 + (y 0).val, by have := (y 0).isLt; simp at this; omega⟩ ⟨(16 + p.val) * 128 + (y 1).val, by have := (y 1).isLt; simp at this; omega⟩))
      (fun y => B (ix4 p (y 1) (y 2) (y 3)))
      (ix2 ⟨(i 0).val % 8192, by omega⟩ ⟨(i 1).val % 128, by omega⟩)

theorem nidx0 : ∀ t : Fin cfg1.N, win1_0.index t = ![t.val % 8, t.val / 8] := (by decide +kernel : ∀ t : Fin grid1.N, _)
theorem nidx1 : ∀ t : Fin cfg1.N, win1_1.index t = ![t.val % 8, 8 + t.val / 8] := (by decide +kernel : ∀ t : Fin grid1.N, _)
theorem nidx2 : ∀ t : Fin cfg1.N, win1_2.index t = ![t.val % 8, 16 + t.val / 8] := (by decide +kernel : ∀ t : Fin grid1.N, _)
theorem nidx3 : ∀ t : Fin cfg1.N, win1_3.index t = ![t.val / 8, 0, 0, 0] := (by decide +kernel : ∀ t : Fin grid1.N, _)
theorem nidx4 : ∀ t : Fin cfg1.N, win1_4.index t = ![t.val % 8, t.val / 8] := (by decide +kernel : ∀ t : Fin grid1.N, _)

theorem nin0 (t : Fin cfg1.N) (y : S8192x128.Idx) (b p : Fin 8) (hb : b.val = t.val % 8) (hp : p.val = t.val / 8) :
    (iblk1 V c 0 t : Vec Ideal S8192x128 .bf16) y
      = (V c main_v2 : Vec Ideal S65536x3072 .bf16) (ix2 ⟨b.val * 8192 + (y 0).val, by have := (y 0).isLt; simp at this; omega⟩ ⟨p.val * 128 + (y 1).val, by have := (y 1).isLt; simp at this; omega⟩) := by
  blk_ext [iblk1, nidx0 t, hb, hp]
theorem nin1 (t : Fin cfg1.N) (y : S8192x128.Idx) (b p : Fin 8) (hb : b.val = t.val % 8) (hp : p.val = t.val / 8) :
    (iblk1 V c 1 t : Vec Ideal S8192x128 .bf16) y
      = (V c main_v2 : Vec Ideal S65536x3072 .bf16) (ix2 ⟨b.val * 8192 + (y 0).val, by have := (y 0).isLt; simp at this; omega⟩ ⟨(8 + p.val) * 128 + (y 1).val, by have := (y 1).isLt; simp at this; omega⟩) := by
  blk_ext [iblk1, nidx1 t, hb, hp]
theorem nin2 (t : Fin cfg1.N) (y : S8192x128.Idx) (b p : Fin 8) (hb : b.val = t.val % 8) (hp : p.val = t.val / 8) :
    (iblk1 V c 2 t : Vec Ideal S8192x128 .bf16) y
      = (V c main_v2 : Vec Ideal S65536x3072 .bf16) (ix2 ⟨b.val * 8192 + (y 0).val, by have := (y 0).isLt; simp at this; omega⟩ ⟨(16 + p.val) * 128 + (y 1).val, by have := (y 1).isLt; simp at this; omega⟩) := by
  blk_ext [iblk1, nidx2 t, hb, hp]
theorem nin3 (t : Fin cfg1.N) (y : S1x14x128x128.Idx) (p : Fin 8) (hp : p.val = t.val / 8) :
    (iblk1 V c 3 t : Vec Ideal S1x14x128x128 .f32) y
      = (V c main_v48 : Vec Ideal S8x14x128x128 .f32) (ix4 p (y 1) (y 2) (y 3)) := by
  have h0 : (y 0).val = 0 := by have : (y 0).val < 1 := (y 0).isLt; omega
  blk_ext [iblk1, nidx3 t, hp, h0]

/-- The attention's array. -/
theorem na_array : (dat1 V c).arrAt 4 cfg1.N = naWanted (V c main_v2) (V c main_v48) := by
  have hc : (cfg1.win 4).Covers := by decide +kernel
  refine (dat1 V c).arrAt_eq_of_cover 4 _ (fun t _ => ?_) (hc.cover _ (Memref.isWhole_whole _))
  have ht : t.val < 64 := lt_of_lt_of_eq t.isLt N_1
  have e := nidx4 t
  obtain ⟨b, hb⟩ : ∃ b : Fin 8, b.val = t.val % 8 := ⟨⟨t.val % 8, by omega⟩, rfl⟩
  obtain ⟨p, hp⟩ : ∃ p : Fin 8, p.val = t.val / 8 := ⟨⟨t.val / 8, by omega⟩, rfl⟩
  show (cfg1.win 4).cut (grid1.coords t) ((dat1 V c).after 4 t) = _
  rw [after1_4]
  unfold outsAt1
  rw [out_eq]
  rw [show (iblk1 V c 0 t : Vec Ideal S8192x128 .bf16) = _ from funext fun y => nin0 V c t y b p hb hp,
    show (iblk1 V c 1 t : Vec Ideal S8192x128 .bf16) = _ from funext fun y => nin1 V c t y b p hb hp,
    show (iblk1 V c 2 t : Vec Ideal S8192x128 .bf16) = _ from funext fun y => nin2 V c t y b p hb hp,
    show (iblk1 V c 3 t : Vec Ideal S1x14x128x128 .f32) = _ from funext fun y => nin3 V c t y p hp]
  funext y
  obtain ⟨r, j, rfl⟩ : ∃ (r : Fin 8192) (j : Fin 128), y = ix2 r j := ⟨y 0, y 1, eq_ix2 y⟩
  have key : naWanted (V c main_v2) (V c main_v48) (ix2 ⟨b.val * 8192 + r.val, by omega⟩ ⟨p.val * 128 + j.val, by omega⟩)
      = naBlock (fun y => (V c main_v2 : Vec Ideal S65536x3072 .bf16) (ix2 ⟨b.val * 8192 + (y 0).val, by have := (y 0).isLt; simp at this; omega⟩ ⟨p.val * 128 + (y 1).val, by have := (y 1).isLt; simp at this; omega⟩))
      (fun y => (V c main_v2 : Vec Ideal S65536x3072 .bf16) (ix2 ⟨b.val * 8192 + (y 0).val, by have := (y 0).isLt; simp at this; omega⟩ ⟨(8 + p.val) * 128 + (y 1).val, by have := (y 1).isLt; simp at this; omega⟩))
      (fun y => (V c main_v2 : Vec Ideal S65536x3072 .bf16) (ix2 ⟨b.val * 8192 + (y 0).val, by have := (y 0).isLt; simp at this; omega⟩ ⟨(16 + p.val) * 128 + (y 1).val, by have := (y 1).isLt; simp at this; omega⟩))
      (fun y => (V c main_v48 : Vec Ideal S8x14x128x128 .f32) (ix4 p (y 1) (y 2) (y 3)))
      (ix2 r j) := by
    have h1 : (b.val * 8192 + r.val) / 8192 = b.val := by omega
    have h2 : (p.val * 128 + j.val) / 128 = p.val := by omega
    have h3 : (b.val * 8192 + r.val) % 8192 = r.val := by omega
    have h4 : (p.val * 128 + j.val) % 128 = j.val := by omega
    have f0 : ∀ (a : Fin 65536) (b : Fin 1024), (ix2 a b : S65536x1024.Idx) 0 = a := fun _ _ => rfl
    have f1 : ∀ (a : Fin 65536) (b : Fin 1024), (ix2 a b : S65536x1024.Idx) 1 = b := fun _ _ => rfl
    unfold naWanted
    simp only [f0, f1, h1, h2, h3, h4]
  refine key.symm.trans ?_
  blk_ext [e, hb, hp]

end Cert.Na
-- ==== Proof.NaHost.lean ====
module
public import proofs.«01_k».proof.Proof.NaArray
@[expose] public section

/-! # The host's part of the attention's program

Between the two calls the host lays the position biases out as tables over (query column, key column), `⊥` outside the
sixteen columns of keys of a query's column. -/

noncomputable section
namespace Cert.Na
open Idealize.ShloMosaic Cert.KernelIdeal Cert.KernelIdeal.Gen Idealize.ShloMosaic.TcCoe Idealize.SL.Sem

variable (m : (ℓ : Loc nD τ sig) → Buf (Elt Ideal) ℓ) (ρ : Dev nD → PrngReg) (c : Dev nD)

/-- Column `w` at place `w`. -/
abbrev cols : IVec S64 32 := iotaInDim S64 32 0
/-- The first key column of each query column. -/
abbrev colStart : IVec S64 32 :=
  minsi (broadcastInDim S64 ![] bcast_S_S64 (constantI S_ 32 48#32))
    (maxsi (broadcastInDim S64 ![] bcast_S_S64 (constantI S_ 32 0#32))
      (subi cols (broadcastInDim S64 ![] bcast_S_S64 (constantI S_ 32 8#32))))
/-- The key column of each pair, and what depends on the query column only. -/
abbrev keyCol : IVec S64x64 32 :=
  broadcastInDim S64x64 ![0, 1] bcast_S1x64_S64x64_0_1 (broadcastInDim S1x64 ![1] bcast_S64_S1x64_1 cols)
abbrev perQuery (x : IVec S64 32) : IVec S64x1 32 := broadcastInDim S64x1 ![0] bcast_S64_S64x1_0 x
abbrev spread (x : IVec S64x1 32) : IVec S64x64 32 := broadcastInDim S64x64 ![0, 1] bcast_S64x1_S64x64_0_1 x
/-- Whether a key column belongs to a query column. -/
abbrev valid : IVec S64x64 1 :=
  andi (cmpi .sge keyCol (spread (perQuery colStart)))
    (cmpi .slt keyCol (spread (addi (perQuery colStart) (broadcastInDim S64x1 ![] bcast_S_S64x1 (constantI S_ 32 16#32)))))
/-- The bias column of each pair. -/
abbrev rel : IVec S64x64 32 :=
  addi (subi keyCol (spread (perQuery cols))) (broadcastInDim S64x64 ![] bcast_S_S64x64 (constantI S_ 32 15#32))
/-- One at the bias column of each pair, zero elsewhere. -/
abbrev hit : FVec Ideal S31x64x64 .f32 :=
  uitofp .f32 (cmpi .eq
    (broadcastInDim S31x64x64 ![0, 1, 2] bcast_S1x64x64_S31x64x64_0_1_2 (broadcastInDim S1x64x64 ![1, 2] bcast_S64x64_S1x64x64_1_2 rel))
    (broadcastInDim S31x64x64 ![0, 1, 2] bcast_S31x1x1_S31x64x64_0_1_2 (broadcastInDim S31x1x1 ![0] bcast_S31_S31x1x1_0 (iotaInDim S31 32 0))))
/-- The bias of each head, row offset and pair of columns. -/
abbrev picked (x : FVec Ideal S16x15x31 .f32) : FVec Ideal S16x15x64x64 .f32 :=
  Host.reduceAdd
    (mulf (broadcastInDim S16x15x31x64x64 ![0, 1, 2, 3, 4] bcast_S16x15x31x1x1_S16x15x31x64x64_0_1_2_3_4
        (broadcastInDim S16x15x31x1x1 ![0, 1, 2] bcast_S16x15x31_S16x15x31x1x1_0_1_2 x))
      (broadcastInDim S16x15x31x64x64 ![0, 1, 2, 3, 4] bcast_S1x1x31x64x64_S16x15x31x64x64_0_1_2_3_4
        (broadcastInDim S1x1x31x64x64 ![2, 3, 4] bcast_S31x64x64_S1x1x31x64x64_2_3_4 hit)))
    (constant S_ .f32 0x00000000#32) reducesTo_S16x15x31x64x64_S16x15x64x64_d2 h_S_
abbrev validWide : IVec S1x1x64x64 1 := broadcastInDim S1x1x64x64 ![2, 3] bcast_S64x64_S1x1x64x64_2_3 valid
/-- The same with the mask. -/
abbrev masked (v : IVec S1x1x64x64 1) (t : FVec Ideal S16x15x64x64 .f32) : FVec Ideal S16x15x64x64 .f32 :=
  select (broadcastInDim S16x15x64x64 ![0, 1, 2, 3] bcast_S1x1x64x64_S16x15x64x64_0_1_2_3 v) t
    (broadcastInDim S16x15x64x64 ![] bcast_S_S16x15x64x64 (constant S_ .f32 0xFF800000#32))
/-- Two rows side by side, two heads one above the other. -/
abbrev laid (t : FVec Ideal S16x15x64x64 .f32) : FVec Ideal S8x14x128x128 .f32 :=
  shapeCast S8x14x128x128 (transpose S8x14x2x64x128 [0, 2, 1, 3, 4]
    (shapeCast S8x2x14x64x128 (concatenate S16x14x64x128 3
      [⟨S16x14x64x64, extractStridedSlice S16x14x64x64 ![0, 0, 0, 0] t slices_S16x15x64x64_S16x14x64x64_0_0_0_0⟩,
       ⟨S16x14x64x64, extractStridedSlice S16x14x64x64 ![0, 1, 0, 0] t slices_S16x15x64x64_S16x14x64x64_0_1_0_0⟩]
      concatenates_S16x14x64x64_S16x14x64x64_S16x14x64x128_d3) shapeCasts_S16x14x64x128_S8x2x14x64x128)
    transposes_S8x2x14x64x128_S8x14x2x64x128_0_2_1_3_4) shapeCasts_S8x14x2x64x128_S8x14x128x128

/-! ## What the calls read -/

theorem V1_x : (V1 m ρ c main_arg0 : Vec Ideal S65536x1024 .f32) = m ((c : Thread nD τ).loc main_arg0) :=
  W1_args m ρ c main_arg0 (by decide)
theorem V1_g : (V1 m ρ c main_v0 : Vec Ideal S1x1024 .f32)
    = shapeCast S1x1024 (m ((c : Thread nD τ).loc main_arg1) : Vec Ideal S1024 .f32) shapeCasts_S1024_S1x1024 := by
  unfold V1 W1
  after_results
  rfl
theorem V1_w : (V1 m ρ c main_v1 : Vec Ideal S1024x3072 .bf16) = m ((c : Thread nD τ).loc main_arg2) := by
  unfold V1 W1
  after_results
  rfl

/-- The attention reads the projection as the first call left it. -/
theorem V7_qkv : (V7 m ρ c main_v2 : Vec Ideal S65536x3072 .bf16) = (dat0 (V1 m ρ) c).arrAt 3 cfg0.N :=
  (W7_of m ρ c main_v2 (by decide)).trans <| (W6_of m ρ c main_v2 (by decide)).trans <|
    (W5_of m ρ c main_v2 (by decide)).trans <| (W4_of m ρ c main_v2 (by decide)).trans <|
    (W3_of m ρ c main_v2 (by decide)).trans (W2_arr m ρ c 3)

/-! ## What each stretch of the host's operations leaves, from any contents `U` -/

section
variable (U : Valuation τ sig (Elt Ideal))
theorem after_cols : (StableHlo.after hostOps1 U (Proc.devRef .tc main_v3) : IVec S64 32) = cols := by
  after_results
theorem after_shift : (StableHlo.after hostOps1 U (Proc.devRef .tc main_v5) : IVec S64 32)
    = subi cols (broadcastInDim S64 ![] bcast_S_S64 (constantI S_ 32 8#32)) := by
  after_results
theorem after_lo : (StableHlo.after hostOps1 U (Proc.devRef .tc main_c_0) : IVec S_ 32) = constantI S_ 32 0#32 := by
  after_results
theorem after_hi : (StableHlo.after hostOps1 U (Proc.devRef .tc main_c_1) : IVec S_ 32) = constantI S_ 32 48#32 := by
  after_results
theorem after_clip : (StableHlo.after hostOps1_1 U (Proc.devRef .tc main_v6) : IVec S64 32)
    = minsi (broadcastInDim S64 ![] bcast_S_S64 (U (Proc.devRef .tc main_c_1) : IVec S_ 32))
      (maxsi (broadcastInDim S64 ![] bcast_S_S64 (U (Proc.devRef .tc main_c_0) : IVec S_ 32))
        (U (Proc.devRef .tc main_v5) : IVec S64 32)) := by
  after_results
  rfl
theorem after_picked (h : (U (Proc.devRef .tc main_v3) : IVec S64 32) = cols) :
    (StableHlo.after hostOps1_2 U (Proc.devRef .tc main_v40) : FVec Ideal S16x15x64x64 .f32)
      = picked (U (Proc.devRef .tc main_arg3)) := by
  after_results
  rw [h]
theorem after_valid (h : (U (Proc.devRef .tc main_v6) : IVec S64 32) = colStart) :
    (StableHlo.after hostOps1_2 U (Proc.devRef .tc main_v41) : IVec S1x1x64x64 1) = validWide := by
  after_results
  rw [h]
theorem after_cst : (StableHlo.after hostOps1_2 U (Proc.devRef .tc main_cst_4) : FVec Ideal S_ .f32)
    = (constant S_ .f32 0xFF800000#32 : FVec Ideal S_ .f32) := by
  after_results
theorem after_masked
    (h : (U (Proc.devRef .tc main_cst_4) : FVec Ideal S_ .f32) = (constant S_ .f32 0xFF800000#32 : FVec Ideal S_ .f32)) :
    (StableHlo.after hostOps1_3 U (Proc.devRef .tc main_v42) : FVec Ideal S16x15x64x64 .f32)
      = masked (U (Proc.devRef .tc main_v41)) (U (Proc.devRef .tc main_v40)) := by
  after_results
  rw [h]
  rfl
theorem after_laid : (StableHlo.after hostOps1_4 U (Proc.devRef .tc main_v48) : FVec Ideal S8x14x128x128 .f32)
    = laid (U (Proc.devRef .tc main_v42)) := by
  after_results
  rfl
end

theorem W4_start : (W4 m ρ c (Proc.devRef .tc main_v6) : IVec S64 32) = colStart := by
  refine (after_clip (W3 m ρ c)).trans ?_
  rw [show W3 m ρ c = StableHlo.after hostOps1 (W2 m ρ c) from rfl, after_lo, after_hi, after_shift]
theorem W6_masked : (W6 m ρ c (Proc.devRef .tc main_v42) : FVec Ideal S16x15x64x64 .f32)
    = masked validWide (picked (m ((c : Thread nD τ).loc main_arg3))) := by
  refine (after_masked (W5 m ρ c) (after_cst _)).trans ?_
  rw [show W5 m ρ c = StableHlo.after hostOps1_2 (W4 m ρ c) from rfl, after_valid _ (W4_start m ρ c),
    after_picked _ ((W4_of m ρ c main_v3 (by decide)).trans (after_cols _)), W4_args m ρ c main_arg3 (by decide)]
/-- The attention reads the laid-out tables. -/
theorem V7_bias : (V7 m ρ c main_v48 : FVec Ideal S8x14x128x128 .f32)
    = laid (masked validWide (picked (m ((c : Thread nD τ).loc main_arg3)))) :=
  (after_laid _).trans (congrArg laid (W6_masked m ρ c))

/-! ## The tables, entry by entry -/

/-- Whether key column `k` belongs to query column `w`. -/
def In (w k : Fin 64) : Prop := min 48 (w.val - 8) ≤ k.val ∧ k.val < min 48 (w.val - 8) + 16
instance (w k : Fin 64) : Decidable (In w k) := by unfold In; infer_instance

theorem valid_at : ∀ w k : Fin 64, valid (ix2 w k) = if In w k then 1#1 else 0#1 := by decide +kernel
theorem rel_at : ∀ w k : Fin 64, In w k → rel (ix2 w k) = BitVec.ofNat 32 (k.val + 15 - w.val) := by decide +kernel
theorem In.lt {w k : Fin 64} (h : In w k) : k.val + 15 - w.val < 31 := by unfold In at h; omega

theorem hit_at (j : Fin 31) (w k : Fin 64) (h : In w k) :
    hit (ix3 j w k) = if j = ⟨k.val + 15 - w.val, h.lt⟩ then 1 else 0 := by
  have e := rel_at w k h
  have hl := h.lt
  unfold hit
  generalize rel = r at e ⊢
  pointwise
  rw [e]
  have key : (BitVec.ofNat 32 (k.val + 15 - w.val) = BitVec.ofNat 32 j.val) ↔ j = ⟨k.val + 15 - w.val, h.lt⟩ := by
    rw [← BitVec.toNat_inj, BitVec.toNat_ofNat, BitVec.toNat_ofNat, Nat.mod_eq_of_lt (by omega), Nat.mod_eq_of_lt (by omega),
      Fin.ext_iff]
    exact eq_comm
  by_cases hj : j = ⟨k.val + 15 - w.val, h.lt⟩
  · rw [if_pos hj, key.2 hj]
    show (((IntOp.cmpi .eq (BitVec.ofNat 32 j.val) (BitVec.ofNat 32 j.val)).toNat : ℝ) : EReal) = 1
    simp [IntOp.cmpi]
  · rw [if_neg hj]
    show (((IntOp.cmpi .eq (BitVec.ofNat 32 (k.val + 15 - w.val)) (BitVec.ofNat 32 j.val)).toNat : ℝ) : EReal) = 0
    simp only [IntOp.cmpi]
    rw [beq_eq_false_iff_ne.2 fun he => hj (key.1 he)]
    simp
theorem picked_at (x : FVec Ideal S16x15x31 .f32) (g : Fin 16) (t : Fin 15) (w k : Fin 64) :
    picked x (ix4 g t w k) = ∑ j : Fin 31, x (ix3 g t j) * hit (ix3 j w k) := by
  unfold picked
  generalize hit = y
  pointwise
theorem masked_at (v : IVec S64x64 1) (t : FVec Ideal S16x15x64x64 .f32) (g : Fin 16) (o : Fin 15) (w k : Fin 64) :
    masked (broadcastInDim S1x1x64x64 ![2, 3] bcast_S64x64_S1x1x64x64_2_3 v) t (ix4 g o w k)
      = if v (ix2 w k) = 1#1 then t (ix4 g o w k) else ⊥ := by
  have hw : (Ideal.ofBits .f32 0xFF800000#32 : EReal) = ⊥ := by simp [Ideal.ofBits, Ideal.ieee]
  unfold masked
  pointwise
  rw [hw]
  rfl
theorem laid_at (t : FVec Ideal S16x15x64x64 .f32) (p : Fin 8) (o : Fin 14) (l y : Fin 128) :
    laid t (ix4 p o l y) = t (ix4 ⟨2 * p.val + l.val / 64, by omega⟩ ⟨o.val + y.val / 64, by omega⟩ ⟨l.val % 64, by omega⟩
      ⟨y.val % 64, by omega⟩) := by
  unfold laid
  pointwise
  split
  all_goals
    congr 2 <;> refine Fin.ext ?_ <;> simp only [] <;> omega

/-- The bias of head `g` at row offset `o` for query column `w` and key column `k`. -/
def tabOf (x : Vec Ideal S16x15x31 .f32) (g : Fin 16) (o : Fin 15) (w k : Fin 64) : EReal :=
  if h : In w k then x (ix3 g o ⟨k.val + 15 - w.val, h.lt⟩) else ⊥

theorem table_at (x : FVec Ideal S16x15x31 .f32) (p : Fin 8) (o : Fin 14) (l y : Fin 128) :
    laid (masked validWide (picked x)) (ix4 p o l y)
      = tabOf x ⟨2 * p.val + l.val / 64, by omega⟩ ⟨o.val + y.val / 64, by omega⟩ ⟨l.val % 64, by omega⟩
          ⟨y.val % 64, by omega⟩ := by
  refine (laid_at _ p o l y).trans ((masked_at valid _ _ _ _ _).trans ?_)
  by_cases h : In ⟨l.val % 64, by omega⟩ ⟨y.val % 64, by omega⟩
  · rw [valid_at, if_pos h, if_pos rfl, picked_at, Finset.sum_eq_single_of_mem _ (Finset.mem_univ _) fun j _ hj => by
      rw [hit_at j _ _ h, if_neg hj, mul_zero], hit_at _ _ _ h, if_pos rfl, mul_one]
    symm; unfold tabOf; exact dif_pos h
  · rw [valid_at, if_neg h, if_neg (by decide)]
    symm; unfold tabOf; exact dif_neg h

end Cert.Na
-- ==== Proof.NaMath.lean ====
module
public import proofs.«01_k».proof.Proof.NaRow
@[expose] public section

/-! # A masked base-two softmax and the plain one

A row of scores in which the keys outside the neighbourhood stand at `⊥`, in base two, against the softmax of the neighbours'
real scores in base `e`: both weighted means are the same real number. -/

noncomputable section
namespace Cert.Na
open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The largest of finitely many scores is a real when each is below some real and one of them is a real. -/
theorem fold_max_real {ι : Type} (t : Finset ι) (s : ι → EReal) (hle : ∀ i ∈ t, s i = ⊥ ∨ ∃ r : ℝ, s i = r)
    (i₀ : ι) (h₀ : i₀ ∈ t) (r₀ : ℝ) (e₀ : s i₀ = r₀) : ∃ μ : ℝ, t.fold max ⊥ s = μ := by
  have hne : t.fold max ⊥ s ≠ ⊤ := by
    intro h
    have : t.fold max ⊥ s < ⊤ := (Finset.fold_max_lt _).2 ⟨bot_lt_top, fun i hi => by
      rcases hle i hi with h | ⟨r, h⟩ <;> rw [h]
      · exact bot_lt_top
      · exact EReal.coe_lt_top r⟩
    exact absurd h this.ne
  have hnb : t.fold max ⊥ s ≠ ⊥ := by
    intro h
    have : (r₀ : EReal) ≤ t.fold max ⊥ s := Finset.le_fold_max _ |>.2 (Or.inr ⟨i₀, h₀, e₀ ▸ le_rfl⟩)
    rw [h] at this
    exact absurd (le_bot_iff.1 this) (EReal.coe_ne_bot r₀)
  exact ⟨_, (EReal.coe_toReal hne hnb).symm⟩

/-- The real the two weighted means come to. -/
def mean {ι : Type} [Fintype ι] (σ v : ι → ℝ) : ℝ := (∑ i, Real.exp (σ i) * v i) * (∑ i, Real.exp (σ i))⁻¹

theorem sum_exp_pos {ι : Type} [Fintype ι] [Nonempty ι] (σ : ι → ℝ) : 0 < ∑ i, Real.exp (σ i) :=
  Finset.sum_pos (fun i _ => Real.exp_pos _) Finset.univ_nonempty

/-- Shifting every score by the same real leaves the weighted mean. -/
theorem mean_shift {ι : Type} [Fintype ι] [Nonempty ι] (σ v : ι → ℝ) (M : ℝ) :
    (∑ i, Real.exp (σ i - M) * v i) * (∑ i, Real.exp (σ i - M))⁻¹ = mean σ v := by
  have h : ∀ i, Real.exp (σ i - M) = Real.exp (-M) * Real.exp (σ i) := fun i => by rw [← Real.exp_add]; ring_nf
  unfold mean
  simp only [h, mul_assoc]
  rw [← Finset.mul_sum, ← Finset.mul_sum]
  have h1 := (Real.exp_pos (-M)).ne'
  have h2 := (sum_exp_pos σ).ne'
  field_simp

/-- The kernel's row: base two, the scores scaled by `1 / log 2`, the masked keys at `⊥`. -/
theorem attRow_eq_mean {ι : Type} [Fintype ι] [Nonempty ι] (e : ι → Fin 512) (he : Function.Injective e)
    (s : Fin 512 → EReal) (σ : ι → ℝ) (v : Fin 512 → ℝ)
    (hin : ∀ i, s (e i) = ((σ i * (Real.log 2)⁻¹ : ℝ) : EReal)) (hout : ∀ j, (∀ i, e i ≠ j) → s j = ⊥) :
    attRow s (fun j => (v j : EReal)) = ((mean σ fun i => v (e i) : ℝ) : EReal) := by
  classical
  have hcase : ∀ j, s j = ⊥ ∨ ∃ r : ℝ, s j = r := fun j => by
    by_cases h : ∃ i, e i = j
    · obtain ⟨i, rfl⟩ := h; exact Or.inr ⟨_, hin i⟩
    · exact Or.inl (hout j fun i hi => h ⟨i, hi⟩)
  obtain ⟨i₀⟩ := ‹Nonempty ι›
  obtain ⟨μ, hμ⟩ := fold_max_real Finset.univ s (fun j _ => hcase j) (e i₀) (Finset.mem_univ _) _ (hin i₀)
  have hlog : Real.log 2 ≠ 0 := (Real.log_pos (by norm_num)).ne'
  -- the weights: zero outside, `exp` of the shifted real score inside
  have hw_in : ∀ i, weight s (e i) = ((Real.exp (σ i - μ * Real.log 2) : ℝ) : EReal) := fun i => by
    unfold weight
    rw [hμ, hin i, ← EReal.coe_sub, Ideal.exp2_coe]
    congr 1
    rw [Real.rpow_eq_pow]
    rw [Real.rpow_def_of_pos (by norm_num)]
    congr 1
    field_simp
  have hw_out : ∀ j, (∀ i, e i ≠ j) → weight s j = 0 := fun j hj => by
    unfold weight
    rw [hμ, hout j hj, show (⊥ : EReal) - (μ : EReal) = ⊥ from EReal.bot_sub _, Ideal.exp2_bot]
  have hsum : ∀ g : Fin 512 → EReal, (∑ j, weight s j * g j) = ∑ i, weight s (e i) * g (e i) := fun g => by
    have hsub : Finset.univ.image e ⊆ Finset.univ := Finset.subset_univ _
    rw [← Finset.sum_subset hsub (fun j _ hj => by
      rw [hw_out j (fun i hi => hj (Finset.mem_image.2 ⟨i, Finset.mem_univ _, hi⟩)), zero_mul]),
      Finset.sum_image (fun a _ b _ h => he h)]
  have hden : (∑ j, weight s j) = ((∑ i, Real.exp (σ i - μ * Real.log 2) : ℝ) : EReal) := by
    have := hsum fun _ => 1
    simp only [mul_one] at this
    rw [this, coe_sum]
    exact Finset.sum_congr rfl fun i _ => hw_in i
  have hnum : (∑ j, weight s j * (v j : EReal)) = ((∑ i, Real.exp (σ i - μ * Real.log 2) * v (e i) : ℝ) : EReal) := by
    rw [hsum, coe_sum]
    exact Finset.sum_congr rfl fun i _ => by rw [hw_in, EReal.coe_mul]
  haveI : Nonempty ι := ⟨i₀⟩
  have hpos := sum_exp_pos fun i => σ i - μ * Real.log 2
  unfold attRow
  rw [hden, hnum]
  unfold Ideal.div
  rw [if_neg (by rw [EReal.coe_eq_zero]; exact hpos.ne'), ← EReal.coe_inv, ← EReal.coe_mul, mean_shift]

/-- The reference's row: `exp` of the scores less their largest, each divided by their sum. -/
theorem softmax_eq_mean {ι : Type} [Fintype ι] [Nonempty ι] (σ v : ι → ℝ) :
    (∑ i, Ideal.div (Ideal.exp ((σ i : EReal) - Finset.univ.fold max ⊥ fun i => (σ i : EReal)))
        (∑ k, Ideal.exp ((σ k : EReal) - Finset.univ.fold max ⊥ fun i => (σ i : EReal))) * (v i : EReal))
      = ((mean σ v : ℝ) : EReal) := by
  obtain ⟨i₀⟩ := ‹Nonempty ι›
  obtain ⟨μ, hμ⟩ := fold_max_real Finset.univ (fun i => (σ i : EReal)) (fun j _ => Or.inr ⟨_, rfl⟩) i₀ (Finset.mem_univ _) _ rfl
  haveI : Nonempty ι := ⟨i₀⟩
  have hpos := sum_exp_pos fun i => σ i - μ
  rw [hμ]
  simp only [← EReal.coe_sub, Ideal.exp_coe, ← coe_sum]
  unfold Ideal.div
  simp only [if_neg (show ¬((∑ i, Real.exp (σ i - μ) : ℝ) : EReal) = 0 by rw [EReal.coe_eq_zero]; exact hpos.ne'),
    ← EReal.coe_inv, ← EReal.coe_mul, ← coe_sum]
  congr 1
  rw [← mean_shift σ v μ, Finset.sum_mul]
  exact Finset.sum_congr rfl fun i _ => by ring

end Cert.Na
-- ==== Proof.NaGather.lean ====
module
public import proofs.«01_k».proof.Proof.Gen.ReferenceIdeal.Read
public import proofs.«01_k».proof.Proof.NaBlock
@[expose] public section

/-! # The neighbours the reference gathers

Each `take` along an axis reads its operand at a clamped index from a table; the four tables are read off entry by entry. -/

noncomputable section
namespace Cert.Na
open Idealize.ShloMosaic Cert.ReferenceIdeal Cert.ReferenceIdeal.Read

/-- A gather at an index, from the operand's index axis by axis. -/
theorem gather_at {α : Type} {s si t : Shape} {w : ℕ} (d : GatherDims s si t) (x : s.Idx → α) (idx : IVec si w) (y : t.Idx)
    (z : s.Idx) (h : ∀ a, d.start y idx a + d.batchCoord y a + d.offCoord y a = (z a).val) : Host.gather d x idx y = x z := by
  unfold Host.gather
  exact congrArg x (funext fun a => Fin.ext (h a))

/-- An axis the slice runs over: the result's own coordinate. -/
theorem coord_off {s si t : Shape} {w : ℕ} (d : GatherDims s si t) (idx : IVec si w) (y : t.Idx) (a : Fin s.rank)
    (h1 : a ∉ d.startIndexMap) (h2 : a ∉ d.operandBatchingDims) :
    d.start y idx a + d.batchCoord y a + d.offCoord y a = d.offCoord y a := by
  rw [GatherDims.batchCoord_eq_zero _ _ _ h2]
  unfold GatherDims.start
  rw [dif_neg h1]
  omega

/-- The axis the table indexes: its clamped entry. -/
theorem coord_start {s si t : Shape} {w : ℕ} (d : GatherDims s si t) (idx : IVec si w) (y : t.Idx) (a : Fin s.rank)
    (h1 : a ∈ d.collapsedSliceDims) (h2 : a ∉ d.operandBatchingDims) :
    d.start y idx a + d.batchCoord y a + d.offCoord y a = d.start y idx a := by
  rw [GatherDims.batchCoord_eq_zero _ _ _ h2, GatherDims.offCoord_eq_zero _ _ _ (fun h => ((GatherDims.mem_sKept _ _).mp h).1 h1)]
  omega

/-! ## The tables -/

/-- The first of the eight rows of keys of a row. -/
theorem rowTable : ∀ (r : Fin 128) (i : Fin 8), min ((val_main_call2_v0 (F := Ideal)) (ix3 r i 0)).toInt.toNat 127 = min 120 (r.val - 4) + i.val := by
  decide +kernel
/-- The first of the sixteen columns of keys of a column. -/
theorem colTable : ∀ (w : Fin 64) (j : Fin 16), min ((val_main_call3_v0 (F := Ideal)) (ix3 w j 0)).toInt.toNat 63 = min 48 (w.val - 8) + j.val := by
  decide +kernel
theorem rowBiasTable : ∀ (r : Fin 128) (i : Fin 8), min ((val_main_call6_v0 (F := Ideal)) (ix3 r i 0)).toInt.toNat 14 = min 120 (r.val - 4) + i.val + 7 - r.val := by
  decide +kernel
theorem colBiasTable : ∀ (w : Fin 64) (j : Fin 16), min ((val_main_call7_v0 (F := Ideal)) (ix3 w j 0)).toInt.toNat 30 = min 48 (w.val - 8) + j.val + 15 - w.val := by
  decide +kernel

/-! ## The gathers -/

theorem takeRows_at (x : Vec Ideal S8x128x64x16x64 .f32) (idx : IVec S128x8x1 32)
    (b : Fin 8) (r : Fin 128) (i : Fin 8) (u : Fin 64) (h : Fin 16) (e : Fin 64) (R : Fin 128)
    (hR : min (idx (ix3 r i 0)).toInt.toNat 127 = R.val) :
    Host.gather gather_S8x128x64x16x64_S128x8x1_S8x128x8x64x16x64_0345_1_n_n_1_2_81641664 x idx (ix6 b r i u h e)
      = x (ix5 b R u h e) := by
  refine gather_at _ x idx _ _ fun a => ?_
  match a with
  | ⟨0, _⟩ => exact (coord_off gather_S8x128x64x16x64_S128x8x1_S8x128x8x64x16x64_0345_1_n_n_1_2_81641664 idx _ (0 : Fin 5) (by decide) (by decide)).trans rfl
  | ⟨1, _⟩ =>
    refine (coord_start gather_S8x128x64x16x64_S128x8x1_S8x128x8x64x16x64_0345_1_n_n_1_2_81641664 idx _ (1 : Fin 5) (by decide) (by decide)).trans (Eq.trans ?_ hR)
    unfold GatherDims.start
    rw [dif_pos (by decide)]
    congr 4
    funext k
    refine Fin.ext ?_
    match k with
    | ⟨0, _⟩ => rfl
    | ⟨1, _⟩ => rfl
    | ⟨2, _⟩ => rfl
  | ⟨2, _⟩ => exact (coord_off gather_S8x128x64x16x64_S128x8x1_S8x128x8x64x16x64_0345_1_n_n_1_2_81641664 idx _ (2 : Fin 5) (by decide) (by decide)).trans rfl
  | ⟨3, _⟩ => exact (coord_off gather_S8x128x64x16x64_S128x8x1_S8x128x8x64x16x64_0345_1_n_n_1_2_81641664 idx _ (3 : Fin 5) (by decide) (by decide)).trans rfl
  | ⟨4, _⟩ => exact (coord_off gather_S8x128x64x16x64_S128x8x1_S8x128x8x64x16x64_0345_1_n_n_1_2_81641664 idx _ (4 : Fin 5) (by decide) (by decide)).trans rfl

theorem takeCols_at (x : Vec Ideal S8x128x8x64x16x64 .f32) (idx : IVec S64x16x1 32)
    (b : Fin 8) (r : Fin 128) (i : Fin 8) (w : Fin 64) (j : Fin 16) (h : Fin 16) (e : Fin 64) (U : Fin 64)
    (hU : min (idx (ix3 w j 0)).toInt.toNat 63 = U.val) :
    Host.gather gather_S8x128x8x64x16x64_S64x16x1_S8x128x8x64x16x16x64_01256_3_n_n_3_2_8128811664 x idx (ix7 b r i w j h e)
      = x (ix6 b r i U h e) := by
  refine gather_at _ x idx _ _ fun a => ?_
  match a with
  | ⟨0, _⟩ => exact (coord_off gather_S8x128x8x64x16x64_S64x16x1_S8x128x8x64x16x16x64_01256_3_n_n_3_2_8128811664 idx _ (0 : Fin 6) (by decide) (by decide)).trans rfl
  | ⟨1, _⟩ => exact (coord_off gather_S8x128x8x64x16x64_S64x16x1_S8x128x8x64x16x16x64_01256_3_n_n_3_2_8128811664 idx _ (1 : Fin 6) (by decide) (by decide)).trans rfl
  | ⟨2, _⟩ => exact (coord_off gather_S8x128x8x64x16x64_S64x16x1_S8x128x8x64x16x16x64_01256_3_n_n_3_2_8128811664 idx _ (2 : Fin 6) (by decide) (by decide)).trans rfl
  | ⟨3, _⟩ =>
    refine (coord_start gather_S8x128x8x64x16x64_S64x16x1_S8x128x8x64x16x16x64_01256_3_n_n_3_2_8128811664 idx _ (3 : Fin 6) (by decide) (by decide)).trans (Eq.trans ?_ hU)
    unfold GatherDims.start
    rw [dif_pos (by decide)]
    congr 4
    funext k
    refine Fin.ext ?_
    match k with
    | ⟨0, _⟩ => rfl
    | ⟨1, _⟩ => rfl
    | ⟨2, _⟩ => rfl
  | ⟨4, _⟩ => exact (coord_off gather_S8x128x8x64x16x64_S64x16x1_S8x128x8x64x16x16x64_01256_3_n_n_3_2_8128811664 idx _ (4 : Fin 6) (by decide) (by decide)).trans rfl
  | ⟨5, _⟩ => exact (coord_off gather_S8x128x8x64x16x64_S64x16x1_S8x128x8x64x16x16x64_01256_3_n_n_3_2_8128811664 idx _ (5 : Fin 6) (by decide) (by decide)).trans rfl

theorem takeBiasRows_at (x : Vec Ideal S16x15x31 .f32) (idx : IVec S128x8x1 32)
    (h : Fin 16) (r : Fin 128) (i : Fin 8) (u : Fin 31) (R : Fin 15) (hR : min (idx (ix3 r i 0)).toInt.toNat 14 = R.val) :
    Host.gather gather_S16x15x31_S128x8x1_S16x128x8x31_03_1_n_n_1_2_16131 x idx (ix4 h r i u) = x (ix3 h R u) := by
  refine gather_at _ x idx _ _ fun a => ?_
  match a with
  | ⟨0, _⟩ => exact (coord_off gather_S16x15x31_S128x8x1_S16x128x8x31_03_1_n_n_1_2_16131 idx _ (0 : Fin 3) (by decide) (by decide)).trans rfl
  | ⟨1, _⟩ =>
    refine (coord_start gather_S16x15x31_S128x8x1_S16x128x8x31_03_1_n_n_1_2_16131 idx _ (1 : Fin 3) (by decide) (by decide)).trans (Eq.trans ?_ hR)
    unfold GatherDims.start
    rw [dif_pos (by decide)]
    congr 4
    funext k
    refine Fin.ext ?_
    match k with
    | ⟨0, _⟩ => rfl
    | ⟨1, _⟩ => rfl
    | ⟨2, _⟩ => rfl
  | ⟨2, _⟩ => exact (coord_off gather_S16x15x31_S128x8x1_S16x128x8x31_03_1_n_n_1_2_16131 idx _ (2 : Fin 3) (by decide) (by decide)).trans rfl

theorem takeBiasCols_at (x : Vec Ideal S16x128x8x31 .f32) (idx : IVec S64x16x1 32)
    (h : Fin 16) (r : Fin 128) (i : Fin 8) (w : Fin 64) (j : Fin 16) (U : Fin 31)
    (hU : min (idx (ix3 w j 0)).toInt.toNat 30 = U.val) :
    Host.gather gather_S16x128x8x31_S64x16x1_S16x128x8x64x16_012_3_n_n_3_2_1612881 x idx (ix5 h r i w j) = x (ix4 h r i U) := by
  refine gather_at _ x idx _ _ fun a => ?_
  match a with
  | ⟨0, _⟩ => exact (coord_off gather_S16x128x8x31_S64x16x1_S16x128x8x64x16_012_3_n_n_3_2_1612881 idx _ (0 : Fin 4) (by decide) (by decide)).trans rfl
  | ⟨1, _⟩ => exact (coord_off gather_S16x128x8x31_S64x16x1_S16x128x8x64x16_012_3_n_n_3_2_1612881 idx _ (1 : Fin 4) (by decide) (by decide)).trans rfl
  | ⟨2, _⟩ => exact (coord_off gather_S16x128x8x31_S64x16x1_S16x128x8x64x16_012_3_n_n_3_2_1612881 idx _ (2 : Fin 4) (by decide) (by decide)).trans rfl
  | ⟨3, _⟩ =>
    refine (coord_start gather_S16x128x8x31_S64x16x1_S16x128x8x64x16_012_3_n_n_3_2_1612881 idx _ (3 : Fin 4) (by decide) (by decide)).trans (Eq.trans ?_ hU)
    unfold GatherDims.start
    rw [dif_pos (by decide)]
    congr 4
    funext k
    refine Fin.ext ?_
    match k with
    | ⟨0, _⟩ => rfl
    | ⟨1, _⟩ => rfl
    | ⟨2, _⟩ => rfl

end Cert.Na
-- ==== Proof.FfnReference.lean ====
module
public import proofs.«01_k».proof.Proof.FfnRow
public import Idealize.ShloMosaic.Lib.Pointwise
public import proofs.«01_k».proof.Proof.Gen.Reference2Ideal.Read
@[expose] public section

/-! # What the feed-forward reference computes

The reference is the same block on every row, written as whole-array operations. -/

noncomputable section
namespace Cert.Ffn.Ref
open Idealize.ShloMosaic Cert.Reference2Ideal Cert.Reference2Ideal.Gen Cert.Reference2Ideal.Read

variable (x : Vec Ideal S65536x1024 .f32) (g : Vec Ideal S2x1024 .f32) (wg wu : Vec Ideal S4x2x1024x2816 .f32)
    (wd : Vec Ideal S4x2x2816x1024 .f32)

/-- The words for zero and one. -/
theorem w_zero : (Ideal.ofBits .f32 0x00000000#32 : EReal) = 0 := by
  simp [Ideal.ofBits, Ideal.ieee]
theorem w_one : (Ideal.ofBits .f32 0x3F800000#32 : EReal) = 1 := by
  simp [Ideal.ofBits, Ideal.ieee, -EReal.coe_mul]; norm_num

/-- Row 0 of the pair of normalisation weights, broadcast over the rows. -/
theorem g0_at (r : Fin 65536) (k : Fin 1024) : val_main_v13 (F := Ideal) g (ix2 r k) = g (ix2 0 k) := by
  rw [val_main_v13_apply, val_main_v12_apply, val_main_v1_apply, val_main_v0_apply]
  refine congrArg g (funext fun a => Fin.ext ?_)
  fin_cases a <;> simp <;> omega
/-- Row 1 of the pair, likewise. -/
theorem g1_at (r : Fin 65536) (k : Fin 1024) : val_main_v39 (F := Ideal) g (ix2 r k) = g (ix2 1 k) := by
  rw [val_main_v39_apply, val_main_v38_apply, val_main_v27_apply, val_main_v26_apply]
  refine congrArg g (funext fun a => Fin.ext ?_)
  fin_cases a <;> simp <;> omega
/-- The first set of each weight array. -/
theorem wg_at (k : Fin 1024) (f : Fin 2816) : val_main_v16 (F := Ideal) wg (ix2 k f) = wg (ix4 0 0 k f) := by
  rw [val_main_v16_apply, val_main_v15_apply]
  refine congrArg wg (funext fun a => Fin.ext ?_)
  fin_cases a <;> simp <;> omega
theorem wu_at (k : Fin 1024) (f : Fin 2816) : val_main_v20 (F := Ideal) wu (ix2 k f) = wu (ix4 0 0 k f) := by
  rw [val_main_v20_apply, val_main_v19_apply]
  refine congrArg wu (funext fun a => Fin.ext ?_)
  fin_cases a <;> simp <;> omega
theorem wd_at (f : Fin 2816) (j : Fin 1024) : val_main_v24 (F := Ideal) wd (ix2 f j) = wd (ix4 0 0 f j) := by
  rw [val_main_v24_apply, val_main_v23_apply]
  refine congrArg wd (funext fun a => Fin.ext ?_)
  fin_cases a <;> simp <;> omega

/-- The first normalisation, row by row. -/
theorem xn_at (r : Fin 65536) (k : Fin 1024) :
    val_main_v14 (F := Ideal) x g (ix2 r k) = rms (fun l => x (ix2 r l)) (fun l => g (ix2 0 l)) k := by
  have e : ∀ l : Fin 1024, idx_main_v3 (idx_main_v4 (idx_main_v10 (ix2 r k))) l = ix2 r l := fun l => by
    funext a; fin_cases a <;> rfl
  rw [val_main_v14_apply, val_main_v11_apply, val_main_v10_apply, val_main_v9_apply, val_main_v8_apply,
    val_main_v6_apply, val_main_v7_apply, val_main_v5_apply, val_main_v4_apply, val_main_v3_apply, g0_at]
  simp only [e, val_main_v2_apply, val_main_cst_apply, val_main_cst_0_apply, val_main_cst_1_apply,
    Ideal.ofBits_def, w_zero, zero_add]
  rfl

/-- The hidden layer, row by row. -/
theorem hidden_at (r : Fin 65536) (f : Fin 2816) :
    val_main_v22 (F := Ideal) x g wg wu (ix2 r f)
      = hidden (rms (fun l => x (ix2 r l)) (fun l => g (ix2 0 l))) (fun k f => wg (ix4 0 0 k f))
          (fun k f => wu (ix4 0 0 k f)) f := by
  have el : ∀ k : Fin 1024, lidx_main_v17 (ix2 r f) k = ix2 r k := fun k => by funext a; fin_cases a <;> rfl
  have er : ∀ k : Fin 1024, ridx_main_v17 (ix2 r f) k = ix2 k f := fun k => by funext a; fin_cases a <;> rfl
  have el' : ∀ k : Fin 1024, lidx_main_v21 (ix2 r f) k = ix2 r k := fun k => by funext a; fin_cases a <;> rfl
  have er' : ∀ k : Fin 1024, ridx_main_v21 (ix2 r f) k = ix2 k f := fun k => by funext a; fin_cases a <;> rfl
  rw [val_main_v22_apply, val_main_v18_apply, val_main_call0_v5_apply, val_main_call0_v4_apply,
    val_main_call0_v3_apply, val_main_call0_v2_apply, val_main_call0_v1_apply, val_main_call0_v0_apply,
    val_main_v17_apply, val_main_v21_apply]
  simp only [el, er, el', er', xn_at, wg_at, wu_at, val_main_call0_cst_apply, val_main_call0_cst_0_apply,
    Ideal.ofBits_def, w_one]
  rfl

/-- The gated layer, row by row. -/
theorem ffn_at (r : Fin 65536) (j : Fin 1024) :
    val_main_v25 (F := Ideal) x g wg wu wd (ix2 r j)
      = ffn (rms (fun l => x (ix2 r l)) (fun l => g (ix2 0 l))) (fun k f => wg (ix4 0 0 k f))
          (fun k f => wu (ix4 0 0 k f)) (fun f j => wd (ix4 0 0 f j)) j := by
  have el : ∀ k : Fin 2816, lidx_main_v25 (ix2 r j) k = ix2 r k := fun k => by funext a; fin_cases a <;> rfl
  have er : ∀ k : Fin 2816, ridx_main_v25 (ix2 r j) k = ix2 k j := fun k => by funext a; fin_cases a <;> rfl
  rw [val_main_v25_apply]
  simp only [el, er, hidden_at, wd_at]
  rfl

/-- The reference's result, row by row: the block. -/
theorem block_at (r : Fin 65536) (j : Fin 1024) :
    val_main_v43 (F := Ideal) x g wg wu wd (ix2 r j)
      = block (fun k => x (ix2 r k)) (fun k => g (ix2 0 k)) (fun k => g (ix2 1 k)) (fun k f => wg (ix4 0 0 k f))
          (fun k f => wu (ix4 0 0 k f)) (fun f j => wd (ix4 0 0 f j)) j := by
  have e : ∀ l : Fin 1024, idx_main_v29 (idx_main_v30 (idx_main_v36 (ix2 r j))) l = ix2 r l := fun l => by
    funext a; fin_cases a <;> rfl
  rw [val_main_v43_apply, val_main_v42_apply, val_main_v41_apply, val_main_v40_apply, val_main_v37_apply,
    val_main_v36_apply, val_main_v35_apply, val_main_v34_apply, val_main_v32_apply, val_main_v33_apply,
    val_main_v31_apply, val_main_v30_apply, val_main_v29_apply, g1_at]
  simp only [e, val_main_v28_apply, ffn_at, val_main_cst_2_apply, val_main_cst_3_apply, val_main_cst_4_apply,
    val_main_cst_5_apply, Ideal.ofBits_def, w_zero, zero_add]
  rfl

end Cert.Ffn.Ref
-- ==== Proof.NaReference.lean ====
module
public import proofs.«01_k».proof.Proof.NaGather
public import proofs.«01_k».proof.Proof.FfnReference
public import Idealize.ShloMosaic.Lib.KernelVsHost
@[expose] public section

/-! # What the attention's reference computes

Read at one token, one head and one channel: a softmax over the 128 neighbours, of the projections of the normalised rows. -/

noncomputable section
namespace Cert.Na
open Idealize.ShloMosaic Cert.ReferenceIdeal Cert.ReferenceIdeal.Gen Cert.ReferenceIdeal.Read

variable (x0 : Vec Ideal S65536x1024 .f32) (x1 : Vec Ideal S1024 .f32) (x2 : Vec Ideal S1024x3072 .f32) (x3 : Vec Ideal S16x15x31 .f32)

/-- The token of sequence `b`, grid row `r`, grid column `w`. -/
def token (b : Fin 8) (r : Fin 128) (w : Fin 64) : Fin 65536 := ⟨b.val * 8192 + r.val * 64 + w.val, by omega⟩
/-- The projection's column of part `s` (queries, keys, values), head `h`, channel `d`. -/
def chan (s : Fin 3) (h : Fin 16) (d : Fin 64) : Fin 3072 := ⟨s.val * 1024 + h.val * 64 + d.val, by omega⟩
/-- The grid row and column of neighbour `n` of a token. -/
def nbRow (r : Fin 128) (n : Fin 128) : Fin 128 := ⟨min 120 (r.val - 4) + n.val / 16, by omega⟩
def nbCol (w : Fin 64) (n : Fin 128) : Fin 64 := ⟨min 48 (w.val - 8) + n.val % 16, by omega⟩
/-- The position-bias entry of neighbour `n`. -/
def biasRow (r : Fin 128) (n : Fin 128) : Fin 15 := ⟨min 120 (r.val - 4) + n.val / 16 + 7 - r.val, by omega⟩
def biasCol (w : Fin 64) (n : Fin 128) : Fin 31 := ⟨min 48 (w.val - 8) + n.val % 16 + 15 - w.val, by omega⟩

/-- One of the eight rows, one of the sixteen columns of a neighbour. -/
def nbI (n : Fin 128) : Fin 8 := ⟨n.val / 16, by omega⟩
def nbJ (n : Fin 128) : Fin 16 := ⟨n.val % 16, by omega⟩

theorem q_at (b : Fin 8) (r : Fin 128) (w : Fin 64) (h : Fin 16) (d : Fin 64) :
    val_main_v18 (F := Ideal) x0 x1 x2 (ix5 b r w h d)
      = val_main_v13 (F := Ideal) x0 x1 x2 (ix2 (token b r w) (chan 0 h d)) * Ideal.ofBits .f32 0x3E000000#32 := by
  unfold val_main_v18 val_main_v17 val_main_v16 val_main_v15 val_main_v14
  generalize val_main_v13 (F := Ideal) x0 x1 x2 = P
  pointwise
  refine congr (congrArg _ (congrArg P ?_)) rfl
  refine congr (congrArg _ (Fin.ext ?_)) (Fin.ext ?_)
  · rfl
  · show h.val * 64 + d.val = 0 * 1024 + h.val * 64 + d.val
    omega

theorem k_at (b : Fin 8) (r : Fin 128) (w : Fin 64) (h : Fin 16) (d : Fin 64) :
    val_main_v20 (F := Ideal) x0 x1 x2 (ix5 b r w h d)
      = val_main_v13 (F := Ideal) x0 x1 x2 (ix2 (token b r w) (chan 1 h d)) := by
  unfold val_main_v20 val_main_v19 val_main_v14
  generalize val_main_v13 (F := Ideal) x0 x1 x2 = P
  pointwise
  refine congrArg P ?_
  refine congr (congrArg _ (Fin.ext ?_)) (Fin.ext ?_)
  · rfl
  · show 1024 + h.val * 64 + d.val = 1 * 1024 + h.val * 64 + d.val
    omega

theorem v_at (b : Fin 8) (r : Fin 128) (w : Fin 64) (h : Fin 16) (d : Fin 64) :
    val_main_v22 (F := Ideal) x0 x1 x2 (ix5 b r w h d)
      = val_main_v13 (F := Ideal) x0 x1 x2 (ix2 (token b r w) (chan 2 h d)) := by
  unfold val_main_v22 val_main_v21 val_main_v14
  generalize val_main_v13 (F := Ideal) x0 x1 x2 = P
  pointwise
  refine congrArg P ?_
  refine congr (congrArg _ (Fin.ext ?_)) (Fin.ext ?_)
  · rfl
  · show 2048 + h.val * 64 + d.val = 2 * 1024 + h.val * 64 + d.val
    omega

/-- The gathered keys and values of neighbour `n`, and its bias. -/
theorem kNb_at (b : Fin 8) (r : Fin 128) (w : Fin 64) (h : Fin 16) (d : Fin 64) (n : Fin 128) :
    val_main_v54 (F := Ideal) x0 x1 x2 (ix7 b r (nbI n) w (nbJ n) h d)
      = val_main_v13 (F := Ideal) x0 x1 x2 (ix2 (token b (nbRow r n) (nbCol w n)) (chan 1 h d)) := by
  unfold val_main_v54 val_main_v53
  rw [takeCols_at _ _ b r (nbI n) w (nbJ n) h d (nbCol w n) (colTable w (nbJ n)),
    takeRows_at _ _ b r (nbI n) (nbCol w n) h d (nbRow r n) (rowTable r (nbI n)), k_at]

theorem vNb_at (b : Fin 8) (r : Fin 128) (w : Fin 64) (h : Fin 16) (d : Fin 64) (n : Fin 128) :
    val_main_v56 (F := Ideal) x0 x1 x2 (ix7 b r (nbI n) w (nbJ n) h d)
      = val_main_v13 (F := Ideal) x0 x1 x2 (ix2 (token b (nbRow r n) (nbCol w n)) (chan 2 h d)) := by
  unfold val_main_v56 val_main_v55
  rw [show val_main_call5_v0 (F := Ideal) = val_main_call3_v0 (F := Ideal) from rfl,
    show val_main_call4_v0 (F := Ideal) = val_main_call2_v0 (F := Ideal) from rfl,
    takeCols_at _ _ b r (nbI n) w (nbJ n) h d (nbCol w n) (colTable w (nbJ n)),
    takeRows_at _ _ b r (nbI n) (nbCol w n) h d (nbRow r n) (rowTable r (nbI n)), v_at]

theorem bias_at (r : Fin 128) (w : Fin 64) (h : Fin 16) (n : Fin 128) :
    val_main_v58 (F := Ideal) x3 (ix5 h r (nbI n) w (nbJ n)) = x3 (ix3 h (biasRow r n) (biasCol w n)) := by
  unfold val_main_v58 val_main_v57
  rw [takeBiasCols_at _ _ h r (nbI n) w (nbJ n) (biasCol w n) (colBiasTable w (nbJ n)),
    takeBiasRows_at _ _ h r (nbI n) (biasCol w n) (biasRow r n) (rowBiasTable r (nbI n))]

/-- The score of neighbour `n`. -/
def refScore (P : Vec Ideal S65536x3072 .f32) (b : Fin 8) (r : Fin 128) (w : Fin 64) (h : Fin 16) (n : Fin 128) : EReal :=
  (∑ d : Fin 64, P (ix2 (token b r w) (chan 0 h d)) * Ideal.ofBits .f32 0x3E000000#32
    * P (ix2 (token b (nbRow r n) (nbCol w n)) (chan 1 h d))) + x3 (ix3 h (biasRow r n) (biasCol w n))

theorem score_at (b : Fin 8) (r : Fin 128) (w : Fin 64) (h : Fin 16) (n : Fin 128) :
    val_main_v64 (F := Ideal) x0 x1 x2 x3 (ix5 b r h w n)
      = refScore x3 (val_main_v13 (F := Ideal) x0 x1 x2) b r w h n := by
  have e : val_main_v64 (F := Ideal) x0 x1 x2 x3 (ix5 b r h w n)
      = val_main_v63 (F := Ideal) x0 x1 x2 x3 (ix6 b r h w (nbI n) (nbJ n)) := by
    unfold val_main_v64
    generalize val_main_v63 (F := Ideal) x0 x1 x2 x3 = P
    pointwise
    rfl
  have el : ∀ d : Fin 64, lidx_main_v59 (ix6 b r h w (nbI n) (nbJ n)) d = ix5 b r w h d := fun d => by
    funext a; fin_cases a <;> rfl
  have er : ∀ d : Fin 64, ridx_main_v59 (ix6 b r h w (nbI n) (nbJ n)) d = ix7 b r (nbI n) w (nbJ n) h d := fun d => by
    funext a; fin_cases a <;> rfl
  have eb : idx_main_v60 (idx_main_v61 (idx_main_v62 (ix6 b r h w (nbI n) (nbJ n)))) = ix5 h r (nbI n) w (nbJ n) := by
    funext a; fin_cases a <;> rfl
  rw [e, val_main_v63_apply, val_main_v62_apply, val_main_v61_apply, val_main_v60_apply, eb, bias_at, val_main_v59_apply]
  simp only [el, er, q_at, kNb_at]
  rfl

/-- The largest score. -/
theorem w_bot : (Ideal.ofBits .f32 0xFF800000#32 : EReal) = ⊥ := by simp [Ideal.ofBits, Ideal.ieee]
theorem max_at (b : Fin 8) (r : Fin 128) (w : Fin 64) (h : Fin 16) :
    val_main_v67 (F := Ideal) x0 x1 x2 x3 (ix4 b r h w)
      = Finset.univ.fold max ⊥ fun n => refScore x3 (val_main_v13 (F := Ideal) x0 x1 x2) b r w h n := by
  have hr : S8x128x16x64x128.Reduces [4] S8x128x16x64 := by decide
  have e65 : val_main_v65 (F := Ideal) x0 x1 x2 x3 (ix4 b r h w)
      = Finset.univ.fold max ⊥ fun n => refScore x3 (val_main_v13 (F := Ideal) x0 x1 x2) b r w h n := by
    simp only [← score_at]
    unfold val_main_v65 val_main_cst_10
    generalize val_main_v64 (F := Ideal) x0 x1 x2 x3 = y
    have hφ : FKind.Formats .f32 := by decide
    refine (congrFun (hostReduce_maximumf_eq_multiReduction (F := Ideal) (φ := .f32) (y : FVec Ideal S8x128x16x64x128 .f32)
      0xFF800000#32 reducesTo_S8x128x16x64x128_S8x128x16x64_d4 h_S_ hr hφ rfl) (ix4 b r h w)).trans ?_
    refine (Ideal.multiReduction_maximumf_single (φ := .f32) (y : FVec Ideal S8x128x16x64x128 .f32) 0xFF800000#32 hr hφ rfl
      (ix4 b r h w)).trans ?_
    show Finset.fold max (Ideal.ofBits .f32 0xFF800000#32) _ _ = _
    rw [w_bot]
    refine congrArg (fun f => Finset.fold max ⊥ f (Finset.univ : Finset (Fin 128))) (funext fun n => congrArg y ?_)
    funext a; fin_cases a <;> rfl
  rw [val_main_v67_apply, e65, val_main_v66_apply, val_main_cst_11_apply, Ideal.ofBits_def, w_bot]
  show max ⊥ _ = _
  exact max_eq_right bot_le

/-- The exponentials. -/
def refExp (P : Vec Ideal S65536x3072 .f32) (b : Fin 8) (r : Fin 128) (w : Fin 64) (h : Fin 16) (n : Fin 128) : EReal :=
  Ideal.exp (refScore x3 P b r w h n - Finset.univ.fold max ⊥ fun n => refScore x3 P b r w h n)

theorem exp_at (b : Fin 8) (r : Fin 128) (w : Fin 64) (h : Fin 16) (n : Fin 128) :
    val_main_v71 (F := Ideal) x0 x1 x2 x3 (ix5 b r h w n) = refExp x3 (val_main_v13 (F := Ideal) x0 x1 x2) b r w h n := by
  have e : idx_main_v68 (idx_main_v69 (ix5 b r h w n)) = ix4 b r h w := by funext a; fin_cases a <;> rfl
  rw [val_main_v71_apply, val_main_v70_apply, val_main_v69_apply, val_main_v68_apply, e, max_at, score_at]
  rfl

/-- The softmax. -/
theorem soft_at (b : Fin 8) (r : Fin 128) (w : Fin 64) (h : Fin 16) (n : Fin 128) :
    val_main_v75 (F := Ideal) x0 x1 x2 x3 (ix5 b r h w n)
      = Ideal.div (refExp x3 (val_main_v13 (F := Ideal) x0 x1 x2) b r w h n)
          (∑ k, refExp x3 (val_main_v13 (F := Ideal) x0 x1 x2) b r w h k) := by
  have e : ∀ k : Fin 128, idx_main_v72 (idx_main_v73 (idx_main_v74 (ix5 b r h w n))) k = ix5 b r h w k := fun k => by
    funext a; fin_cases a <;> rfl
  rw [val_main_v75_apply, val_main_v74_apply, val_main_v73_apply, val_main_v72_apply]
  simp only [e, exp_at, val_main_cst_12_apply, Ideal.ofBits_def, Ffn.Ref.w_zero, zero_add]
  rfl

/-- The reference's result. -/
theorem ref_at (b : Fin 8) (r : Fin 128) (w : Fin 64) (h : Fin 16) (d : Fin 64) :
    val_main_v79 (F := Ideal) x0 x1 x2 x3 (ix2 (token b r w) ⟨h.val * 64 + d.val, by omega⟩)
      = ∑ n : Fin 128, Ideal.div (refExp x3 (val_main_v13 (F := Ideal) x0 x1 x2) b r w h n)
          (∑ k, refExp x3 (val_main_v13 (F := Ideal) x0 x1 x2) b r w h k)
          * val_main_v13 (F := Ideal) x0 x1 x2 (ix2 (token b (nbRow r n) (nbCol w n)) (chan 2 h d)) := by
  have e : idx_main_v78 (ix2 (token b r w) ⟨h.val * 64 + d.val, by omega⟩) = ix5 b r w h d := by
    funext a
    fin_cases a <;> refine Fin.ext ?_ <;> simp [token] <;> try omega
  have e77 : val_main_v77 (F := Ideal) x0 x1 x2 x3 (ix5 b r w h d)
      = ∑ i : Fin 8, ∑ j : Fin 16, val_main_v75 (F := Ideal) x0 x1 x2 x3 (ix5 b r h w ⟨i.val * 16 + j.val, by omega⟩)
          * val_main_v56 (F := Ideal) x0 x1 x2 (ix7 b r i w j h d) := by
    unfold val_main_v77 val_main_v76
    generalize val_main_v75 (F := Ideal) x0 x1 x2 x3 = P
    generalize val_main_v56 (F := Ideal) x0 x1 x2 = Q
    pointwise
  rw [val_main_v79_apply, val_main_v78_apply, e, e77]
  show (∑ i : Fin 8, ∑ j : Fin 16, _) = _
  rw [← Fintype.sum_prod_type', ← Equiv.sum_comp (finProdFinEquiv (m := 8) (n := 16)).symm]
  refine Finset.sum_congr rfl fun n _ => ?_
  have h1 : ((finProdFinEquiv (m := 8) (n := 16)).symm n).1 = nbI n := rfl
  have h2 : ((finProdFinEquiv (m := 8) (n := 16)).symm n).2 = nbJ n := rfl
  have h3 : (⟨(nbI n).val * 16 + (nbJ n).val, by have := (nbI n).isLt; have := (nbJ n).isLt; omega⟩ : Fin 128) = n :=
    Fin.ext (by show n.val / 16 * 16 + n.val % 16 = n.val; omega)
  simp only [h1, h2, h3]
  rw [soft_at, vNb_at]

end Cert.Na
-- ==== Proof.NaFinite.lean ====
module
public import proofs.«01_k».proof.Defs
public import proofs.«01_k».proof.Proof.NaReference
@[expose] public section

/-! # What the precondition gives

`finite` says that every entry of the norm's weights, the projection's and the biases is less than `⊤` in absolute
value: each is a real number. The input's entries are not asked to be. -/

noncomputable section
namespace Cert.Na
open Idealize.ShloMosaic Idealize.ShloMosaic.TcCoe

/-- The precondition's side conditions hold. -/
instance pre_facts : Cert.Pre_finite.Facts where
  bcast_S_S1024 := by decide
  reducesTo_S1024_S_d0 := by decide
  h_S_ := by decide
  bcast_S_S1024x3072 := by decide
  reducesTo_S1024x3072_S_d0_1 := by decide
  bcast_S_S16x15x31 := by decide
  reducesTo_S16x15x31_S_d0_1_2 := by decide

theorem andi_one : ∀ a b : BitVec 1, IntOp.andi a b = 1#1 → a = 1#1 ∧ b = 1#1 := by decide

theorem foldl_andi {β : Type} (f : β → BitVec 1) : ∀ (l : List β) (a : BitVec 1),
    l.foldl (fun r n => IntOp.andi r (f n)) a = 1#1 → a = 1#1 ∧ ∀ n ∈ l, f n = 1#1
  | [], a, h => ⟨h, by simp⟩
  | n :: l, a, h => by
    obtain ⟨h1, h2⟩ := foldl_andi f l _ h
    obtain ⟨h3, h4⟩ := andi_one _ _ h1
    exact ⟨h3, fun k hk => (List.mem_cons.1 hk).elim (fun e => e ▸ h4) (h2 k)⟩

/-- A conjunction over a whole array is one only if every entry is. -/
theorem reduce_andi {s t u : Shape} {axes : List (Fin s.rank)} (x : s.Idx → BitVec 1) (init : u.Idx → BitVec 1)
    (h : s.ReducesTo axes t) (hu : 0 < u.numel) (j : t.Idx) (hone : Host.reduce IntOp.andi x init h hu j = 1#1)
    (i : s.Idx) (hi : h.drop i = j) : x i = 1#1 := by
  have := (foldl_andi (fun n => x (s.rowMajor.symm n)) _ _ hone).2 (s.rowMajor i)
    (List.mem_filter.2 ⟨List.mem_finRange _, by simp [hi]⟩)
  simpa using this

theorem w_top : (Ideal.ofBits .f32 0x7F800000#32 : EReal) = ⊤ := by simp [Ideal.ofBits, Ideal.ieee]

/-- An entry less than `⊤` in absolute value is a real number. -/
theorem real_of_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

variable (x0 : FVec Ideal Cert.Pre_finite.S65536x1024 .f32) (x1 : FVec Ideal Cert.Pre_finite.S1024 .f32)
  (x2 : FVec Ideal Cert.Pre_finite.S1024x3072 .f32) (x3 : FVec Ideal Cert.Pre_finite.S16x15x31 .f32)

/-- Under the precondition the weights and the biases are real numbers. -/
theorem reals (h : Cert.Pre_finite.fn (F := Ideal) x0 x1 x2 x3 = fun _ => 1#1) :
    (∀ i, ∃ r : ℝ, x1 i = r) ∧ (∀ i, ∃ r : ℝ, x2 i = r) ∧ ∀ i, ∃ r : ℝ, x3 i = r := by
  have h0 := congrFun h (fun a => a.elim0)
  unfold Cert.Pre_finite.fn at h0
  obtain ⟨h12, h3⟩ := andi_one _ _ h0
  obtain ⟨h1, h2⟩ := andi_one _ _ h12
  refine ⟨fun i => real_of_lt _ ?_, fun i => real_of_lt _ ?_, fun i => real_of_lt _ ?_⟩
  · exact w_top ▸ reduce_andi _ _ _ _ _ h1 i (funext fun a => a.elim0)
  · exact w_top ▸ reduce_andi _ _ _ _ _ h2 i (funext fun a => a.elim0)
  · exact w_top ▸ reduce_andi _ _ _ _ _ h3 i (funext fun a => a.elim0)

end Cert.Na
-- ==== Proof.NaValue.lean ====
module
public import proofs.«01_k».proof.Proof.NaHost
public import proofs.«01_k».proof.Proof.NaMath
public import proofs.«01_k».proof.Proof.NaFinite
@[expose] public section

/-! # The kernel's values are the reference's

Over real weights and biases: the kernel scales a row's projection at the end, the reference normalises the row first; the kernel
goes over 512 keys of which all but 128 are masked, in base two, and divides once, the reference goes over the 128
neighbours and divides every weight. -/

noncomputable section
namespace Cert.Na
open Idealize.ShloMosaic Cert.KernelIdeal Cert.KernelIdeal.Gen Idealize.ShloMosaic.TcCoe
open Cert.Ffn (rms wChannels wEps)
open Cert.ReferenceIdeal.Read

/-! ## The literals -/

theorem wChannels_eq : wChannels = ((1024 : ℝ) : EReal) := by
  simp [wChannels, Ideal.ofBits, Ideal.ieee]
  rw [← EReal.coe_mul]
  norm_num
theorem wEps_eq : ∃ r : ℝ, 0 < r ∧ wEps = (r : EReal) := by
  refine ⟨8796093 * (2 ^ 43)⁻¹, by positivity, ?_⟩
  simp [wEps, Ideal.ofBits, Ideal.ieee]
theorem w_eighth : (Ideal.ofBits .f32 0x3E000000#32 : EReal) = ((8⁻¹ : ℝ) : EReal) := by
  simp [Ideal.ofBits, Ideal.ieee]
  rw [← EReal.coe_mul]
  norm_num
theorem log2e_eq : log2e = (((Real.log 2)⁻¹ : ℝ) : EReal) := rfl
theorem qScale_eq : qScale = ((8⁻¹ * (Real.log 2)⁻¹ : ℝ) : EReal) := rfl

/-! ## The projection -/

/-- The inverse root mean square of a row of reals is a real that is not negative. -/
theorem inv_real (X : Fin 1024 → ℝ) : ∃ s : ℝ, 0 ≤ s ∧ inv (fun k => (X k : EReal)) = s := by
  obtain ⟨ε, hε, he⟩ := wEps_eq
  have hs : 0 ≤ ∑ k, X k * X k := Finset.sum_nonneg fun k _ => mul_self_nonneg _
  refine ⟨(Real.sqrt ((∑ k, X k * X k) * (1024 : ℝ)⁻¹ + ε))⁻¹, inv_nonneg.2 (Real.sqrt_nonneg _), ?_⟩
  unfold inv
  simp only [← EReal.coe_mul, ← coe_sum]
  rw [wChannels_eq, he]
  unfold Ideal.div
  rw [if_neg (by rw [EReal.coe_eq_zero]; norm_num), ← EReal.coe_inv, ← EReal.coe_mul, ← EReal.coe_add, Ideal.rsqrt_coe]
  have hp : 0 < (∑ k, X k * X k) * (1024 : ℝ)⁻¹ + ε := by positivity
  rw [if_neg (not_lt.2 hp.le), if_neg hp.ne']

/-- That of a row with an infinite entry is zero. -/
theorem inv_inf (x : Fin 1024 → EReal) (k : Fin 1024) (hk : ¬∃ r : ℝ, x k = r) : inv x = 0 := by
  obtain ⟨ε, _, he⟩ := wEps_eq
  have hsq : ∀ y : EReal, 0 ≤ y * y := fun y => by
    induction y with
    | bot => simp
    | top => simp
    | coe r => rw [← EReal.coe_mul]; exact EReal.coe_nonneg.2 (mul_self_nonneg r)
  have htop : x k * x k = ⊤ := by
    revert hk
    induction x k with
    | bot => simp
    | top => simp
    | coe r => exact fun h => absurd ⟨r, rfl⟩ h
  have hs : (∑ l, x l * x l) = ⊤ := by
    rw [← Finset.add_sum_erase _ _ (Finset.mem_univ k), htop]
    exact EReal.top_add_of_ne_bot (ne_of_gt (lt_of_lt_of_le EReal.bot_lt_zero (Finset.sum_nonneg fun l _ => hsq _)))
  unfold inv
  rw [hs, wChannels_eq, he]
  unfold Ideal.div
  rw [if_neg (by rw [EReal.coe_eq_zero]; norm_num), ← EReal.coe_inv, EReal.top_mul_coe_of_pos (by norm_num), EReal.top_add_coe]
  rfl

/-- A row's projection, normalised before or after: the same reals, the query columns scaled. A row with an infinite
entry is normalised to zero. -/
theorem row_real (x : Fin 1024 → EReal) (G : Fin 1024 → ℝ) (W : Fin 1024 → Fin 3072 → ℝ) (j : Fin 3072) :
    ∃ P : ℝ, (∑ k, rms x (fun k => (G k : EReal)) k * (W k j : EReal)) = P ∧
      qkvRow x (fun k => (G k : EReal)) (fun k j => (W k j : EReal)) j
        = ((if j.val < 1024 then P * (8⁻¹ * (Real.log 2)⁻¹) else P : ℝ) : EReal) := by
  by_cases hx : ∀ k, ∃ r : ℝ, x k = r
  · choose X hX using hx
    obtain rfl : x = fun k => (X k : EReal) := funext hX
    obtain ⟨s, -, hs⟩ := inv_real X
    have hr : ∀ k, rms (fun k => (X k : EReal)) (fun k => (G k : EReal)) k = ((X k * s * G k : ℝ) : EReal) := fun k => by
      rw [EReal.coe_mul, EReal.coe_mul, ← hs]; rfl
    refine ⟨∑ k, X k * s * G k * W k j, ?_, ?_⟩
    · simp only [hr, ← EReal.coe_mul, ← coe_sum]
    · unfold qkvRow
      rw [hs, qScale_eq]
      simp only [← EReal.coe_mul, ← coe_sum]
      have hm : (∑ k, X k * G k * W k j) * s = ∑ k, X k * s * G k * W k j := by
        rw [Finset.sum_mul]; exact Finset.sum_congr rfl fun k _ => by ring
      split
      · rw [← EReal.coe_mul, ← mul_assoc, hm]
      · rw [← EReal.coe_mul, hm]
  · obtain ⟨k, hk⟩ := not_forall.1 hx
    have h0 := inv_inf x k hk
    refine ⟨0, Finset.sum_eq_zero fun l _ => ?_, ?_⟩
    · show x l * inv x * _ * _ = 0
      rw [h0, mul_zero, zero_mul, zero_mul]
    · unfold qkvRow
      rw [h0]
      simp

variable (x0 : Vec Ideal S65536x1024 .f32) (x1 : Vec Ideal S1024 .f32) (x2 : Vec Ideal S1024x3072 .f32)
  (x3 : Vec Ideal S16x15x31 .f32)

/-- The reference's projection, row by row. -/
theorem proj_at (t : Fin 65536) (j : Fin 3072) :
    val_main_v13 (F := Ideal) x0 x1 x2 (ix2 t j)
      = ∑ k, rms (fun l => x0 (ix2 t l)) (fun l => x1 (ix1 l)) k * x2 (ix2 k j) := by
  have el : ∀ k : Fin 1024, lidx_main_v13 (ix2 t j) k = ix2 t k := fun k => by funext a; fin_cases a <;> rfl
  have er : ∀ k : Fin 1024, ridx_main_v13 (ix2 t j) k = ix2 k j := fun k => by funext a; fin_cases a <;> rfl
  have e1 : ∀ k l : Fin 1024, idx_main_v1 (idx_main_v2 (idx_main_v8 (ix2 t k))) l = ix2 t l := fun k l => by
    funext a; fin_cases a <;> rfl
  have e2 : ∀ k : Fin 1024, idx_main_v10 (idx_main_v11 (ix2 t k)) = ix1 k := fun k => by funext a; fin_cases a; rfl
  rw [val_main_v13_apply]
  refine Finset.sum_congr rfl fun k _ => ?_
  rw [el, er, val_main_v12_apply, val_main_v11_apply, val_main_v10_apply, e2, val_main_v9_apply, val_main_v8_apply,
    val_main_v7_apply, val_main_v6_apply, val_main_v5_apply, val_main_v4_apply, val_main_v3_apply, val_main_v2_apply,
    val_main_v1_apply]
  simp only [e1, val_main_v0_apply, val_main_cst_apply, val_main_cst_0_apply, val_main_cst_1_apply, Ideal.ofBits_def,
    Cert.Ffn.Ref.w_zero, zero_add]
  rfl

/-- Both programs' projections in reals. -/
theorem proj_real (h1 : ∀ i, ∃ r : ℝ, x1 i = r) (h2 : ∀ i, ∃ r : ℝ, x2 i = r) :
    ∃ P : Fin 65536 → Fin 3072 → ℝ, (∀ t j, val_main_v13 (F := Ideal) x0 x1 x2 (ix2 t j) = (P t j : EReal)) ∧
      ∀ t j, qkvWanted x0 (shapeCast S1x1024 x1 shapeCasts_S1024_S1x1024) x2 (ix2 t j)
        = ((if j.val < 1024 then P t j * (8⁻¹ * (Real.log 2)⁻¹) else P t j : ℝ) : EReal) := by
  choose G hG using h1
  choose W hW using h2
  have hg : ∀ k : Fin 1024, shapeCast S1x1024 x1 shapeCasts_S1024_S1x1024 (ix2 0 k) = x1 (ix1 k) := fun k => by pointwise
  choose P hP hK using fun t j => row_real (fun k => x0 (ix2 t k)) (fun k => G (ix1 k)) (fun k j => W (ix2 k j)) j
  refine ⟨P, fun t j => ?_, fun t j => ?_⟩
  · rw [proj_at, ← hP t j]
    simp only [hG, hW]
  · rw [← hK t j]
    show qkvRow (fun k => x0 (ix2 t k)) (fun k => shapeCast S1x1024 x1 shapeCasts_S1024_S1x1024 (ix2 0 k))
      (fun k j => x2 (ix2 k j)) j = _
    simp only [hg, hG, hW]

/-! ## The attention -/

/-- The key of neighbour `n` among the 512 of a row. -/
def nb (w : Fin 64) (n : Fin 128) : Fin 512 := ⟨64 * (n.val / 16) + (nbCol w n).val, by omega⟩
theorem nb_injective (w : Fin 64) : Function.Injective (nb w) := fun n n' h => by
  have h' := Fin.ext_iff.1 h
  simp only [nb, nbCol] at h'
  exact Fin.ext (by omega)

variable (P : Fin 65536 → Fin 3072 → ℝ) (X3 : S16x15x31.Idx → ℝ)

/-- The score of neighbour `n`, in reals. -/
def realScore (b : Fin 8) (r : Fin 128) (w : Fin 64) (h : Fin 16) (n : Fin 128) : ℝ :=
  (∑ d : Fin 64, P (token b r w) (chan 0 h d) * 8⁻¹ * P (token b (nbRow r n) (nbCol w n)) (chan 1 h d))
    + X3 (ix3 h (biasRow r n) (biasCol w n))

/-- The reference's result in reals. -/
theorem ref_real (hP : ∀ t j, val_main_v13 (F := Ideal) x0 x1 x2 (ix2 t j) = (P t j : EReal))
    (h3 : ∀ i, x3 i = (X3 i : EReal)) (b : Fin 8) (r : Fin 128) (w : Fin 64) (h : Fin 16) (d : Fin 64) :
    val_main_v79 (F := Ideal) x0 x1 x2 x3 (ix2 (token b r w) ⟨h.val * 64 + d.val, by omega⟩)
      = ((mean (realScore P X3 b r w h) fun n => P (token b (nbRow r n) (nbCol w n)) (chan 2 h d) : ℝ) : EReal) := by
  have hs : ∀ n, refScore x3 (val_main_v13 (F := Ideal) x0 x1 x2) b r w h n = (realScore P X3 b r w h n : EReal) := fun n => by
    unfold refScore realScore
    simp only [hP, h3, w_eighth, ← EReal.coe_mul, ← coe_sum, ← EReal.coe_add]
  rw [ref_at]
  unfold refExp
  simp only [hs, hP]
  exact softmax_eq_mean _ _

/-- Columns `128 s …` of sequence `b`. -/
def part (A : Vec Ideal S65536x3072 .bf16) (b : Fin 8) (s : Fin 24) : Vec Ideal S8192x128 .bf16 := fun y =>
  A (ix2 ⟨b.val * 8192 + (y 0).val, by have : (y 0).val < 8192 := (y 0).isLt; omega⟩
    ⟨s.val * 128 + (y 1).val, by have : (y 1).val < 128 := (y 1).isLt; omega⟩)
/-- The tables of pair `p`. -/
def tables (B : Vec Ideal S8x14x128x128 .f32) (p : Fin 8) : Vec Ideal S1x14x128x128 .f32 := fun y => B (ix4 p (y 1) (y 2) (y 3))

theorem naWanted_apply (A : Vec Ideal S65536x3072 .bf16) (B : Vec Ideal S8x14x128x128 .f32) (b p : Fin 8) (t : Fin 65536)
    (j : Fin 1024) (y : Fin 8192) (l : Fin 128) (ht : t.val = b.val * 8192 + y.val) (hj : j.val = p.val * 128 + l.val) :
    naWanted A B (ix2 t j)
      = naBlock (part A b ⟨p.val, by omega⟩) (part A b ⟨8 + p.val, by omega⟩) (part A b ⟨16 + p.val, by omega⟩) (tables B p) (ix2 y l) := by
  have key : ∀ (b' p' : Fin 8) (y' : Fin 8192) (l' : Fin 128), b' = b → p' = p → y' = y → l' = l →
      naBlock (part A b' ⟨p'.val, by omega⟩) (part A b' ⟨8 + p'.val, by omega⟩) (part A b' ⟨16 + p'.val, by omega⟩) (tables B p') (ix2 y' l')
        = naBlock (part A b ⟨p.val, by omega⟩) (part A b ⟨8 + p.val, by omega⟩) (part A b ⟨16 + p.val, by omega⟩) (tables B p) (ix2 y l) := by
    rintro _ _ _ _ rfl rfl rfl rfl; rfl
  refine Eq.trans (by unfold naWanted part tables; rfl)
    (key ⟨t.val / 8192, _⟩ ⟨j.val / 128, _⟩ ⟨t.val % 8192, _⟩ ⟨j.val % 128, _⟩ (Fin.ext ?_)
      (Fin.ext ?_) (Fin.ext ?_) (Fin.ext ?_))
  · show t.val / 8192 = b.val; omega
  · show j.val / 128 = p.val; omega
  · show t.val % 8192 = y.val; omega
  · show j.val % 128 = l.val; omega

/-- A row's tables, read for one head. -/
theorem bias_tables (p : Fin 8) (a : Fin 2) (h : Fin 16) (hh : h.val = 2 * p.val + a.val) (r : Fin 128) (w : Fin 64)
    (j : Fin 512) :
    bias (tables (laid (masked validWide (picked x3))) p) r (hl a w) j
      = tabOf x3 h ⟨(tab0 r).val + j.val / 64, by have := (tab0 r).isLt; omega⟩ w ⟨j.val % 64, by omega⟩ := by
  have key : ∀ (h' : Fin 16) (o o' : Fin 15) (w' k k' : Fin 64), h' = h → o = o' → w' = w → k = k' →
      tabOf x3 h' o w' k = tabOf x3 h o' w k' := by
    rintro _ _ _ _ _ _ rfl rfl rfl rfl; rfl
  refine (table_at x3 p _ (hl a w) _).trans (key _ _ _ _ _ _ (Fin.ext ?_) (Fin.ext ?_) (Fin.ext ?_) (Fin.ext ?_))
  · show 2 * p.val + (64 * a.val + w.val) / 64 = h.val; omega
  · show (tab0 r).val + 2 * (j.val / 128) + j.val % 128 / 64 = (tab0 r).val + j.val / 64; omega
  · show (64 * a.val + w.val) % 64 = w.val; omega
  · show j.val % 128 % 64 = j.val % 64; omega

theorem tabOf_nb (h : Fin 16) (r : Fin 128) (w : Fin 64) (n : Fin 128) :
    tabOf x3 h ⟨(tab0 r).val + (nb w n).val / 64, by have := (tab0 r).isLt; omega⟩ w ⟨(nb w n).val % 64, by omega⟩
      = x3 (ix3 h (biasRow r n) (biasCol w n)) := by
  have hk : (nb w n).val % 64 = min 48 (w.val - 8) + n.val % 16 := by simp only [nb, nbCol]; omega
  have hd : (nb w n).val / 64 = n.val / 16 := by simp only [nb]; omega
  have hin : In w ⟨(nb w n).val % 64, by omega⟩ := by unfold In; simp only; omega
  unfold tabOf
  rw [dif_pos hin]
  refine congrArg x3 ?_
  have e : ∀ (o o' : Fin 15) (k k' : Fin 31), o = o' → k = k' → (ix3 h o k : S16x15x31.Idx) = ix3 h o' k' := by
    rintro _ _ _ _ rfl rfl; rfl
  refine e _ _ _ _ (Fin.ext ?_) (Fin.ext ?_)
  · simp only [tab0, row0, biasRow]; omega
  · simp only [biasCol]; omega

theorem tabOf_out (h : Fin 16) (o : Fin 15) (w : Fin 64) (j : Fin 512) (hj : ∀ n, nb w n ≠ j) :
    tabOf x3 h o w ⟨j.val % 64, by omega⟩ = ⊥ := by
  refine dif_neg fun hin => ?_
  unfold In at hin
  simp only at hin
  refine hj ⟨16 * (j.val / 64) + (j.val % 64 - min 48 (w.val - 8)), by omega⟩ (Fin.ext ?_)
  simp only [nb, nbCol]
  omega

/-- The kernel's result in reals. -/
theorem kernel_real (A : Vec Ideal S65536x3072 .bf16)
    (hA : ∀ t j, A (ix2 t j) = ((if j.val < 1024 then P t j * (8⁻¹ * (Real.log 2)⁻¹) else P t j : ℝ) : EReal))
    (h3 : ∀ i, x3 i = (X3 i : EReal)) (b : Fin 8) (r : Fin 128) (w : Fin 64) (h : Fin 16) (d : Fin 64) :
    naWanted A (laid (masked validWide (picked x3))) (ix2 (token b r w) ⟨h.val * 64 + d.val, by omega⟩)
      = ((mean (realScore P X3 b r w h) fun n => P (token b (nbRow r n) (nbCol w n)) (chan 2 h d) : ℝ) : EReal) := by
  obtain ⟨p, a, hh⟩ : ∃ (p : Fin 8) (a : Fin 2), h.val = 2 * p.val + a.val :=
    ⟨⟨h.val / 2, by omega⟩, ⟨h.val % 2, by omega⟩, by simp only; omega⟩
  rw [naWanted_apply A _ b p _ _ (tok r w) (hl a d) (by simp only [token, tok]; omega) (by simp only [hl]; omega), naBlock_apply]
  -- the three parts, column by column
  let T (j : Fin 512) : Fin 65536 := ⟨b.val * 8192 + (key r j).val, by omega⟩
  have e2 : ∀ (t t' : Fin 65536) (j j' : Fin 3072), t = t' → j = j' → (ix2 t j : S65536x3072.Idx) = ix2 t' j' := by
    rintro _ _ _ _ rfl rfl; rfl
  have hq : ∀ k : Fin 64, part A b ⟨p.val, by omega⟩ (ix2 (tok r w) (hl a k))
      = ((P (token b r w) (chan 0 h k) * (8⁻¹ * (Real.log 2)⁻¹) : ℝ) : EReal) := fun k => by
    refine (congrArg A (e2 _ (token b r w) _ (chan 0 h k) (Fin.ext ?_) (Fin.ext ?_))).trans ((hA _ _).trans ?_)
    · show b.val * 8192 + (64 * r.val + w.val) = b.val * 8192 + r.val * 64 + w.val; omega
    · show p.val * 128 + (64 * a.val + k.val) = 0 * 1024 + h.val * 64 + k.val; omega
    · rw [if_pos (show (chan 0 h k).val < 1024 by simp only [chan]; omega)]
  have hk : ∀ (j : Fin 512) (k : Fin 64), part A b ⟨8 + p.val, by omega⟩ (ix2 (key r j) (hl a k))
      = ((P (T j) (chan 1 h k) : ℝ) : EReal) := fun j k => by
    refine (congrArg A (e2 _ (T j) _ (chan 1 h k) rfl (Fin.ext ?_))).trans ((hA _ _).trans ?_)
    · show (8 + p.val) * 128 + (64 * a.val + k.val) = 1 * 1024 + h.val * 64 + k.val; omega
    · rw [if_neg (show ¬(chan 1 h k).val < 1024 by simp only [chan]; omega)]
  have hv : ∀ j : Fin 512, part A b ⟨16 + p.val, by omega⟩ (ix2 (key r j) (hl a d))
      = ((P (T j) (chan 2 h d) : ℝ) : EReal) := fun j => by
    refine (congrArg A (e2 _ (T j) _ (chan 2 h d) rfl (Fin.ext ?_))).trans ((hA _ _).trans ?_)
    · show (16 + p.val) * 128 + (64 * a.val + d.val) = 2 * 1024 + h.val * 64 + d.val; omega
    · rw [if_neg (show ¬(chan 2 h d).val < 1024 by simp only [chan]; omega)]
  have hT : ∀ n, T (nb w n) = token b (nbRow r n) (nbCol w n) := fun n => by
    refine Fin.ext ?_
    simp only [T, key, row0, nb, token, nbRow]
    omega
  have hlog : (0 : ℝ) < (Real.log 2)⁻¹ := inv_pos.2 (Real.log_pos (by norm_num))
  simp only [hv]
  refine (attRow_eq_mean (nb w) (nb_injective w) _ (realScore P X3 b r w h) (fun j => P (T j) (chan 2 h d)) (fun n => ?_)
    fun j hj => ?_).trans ?_
  · unfold score
    simp only [hq, hk]
    rw [bias_tables x3 p a h hh, tabOf_nb, h3, log2e_eq]
    simp only [← EReal.coe_mul, ← coe_sum, ← EReal.coe_add]
    congr 1
    unfold realScore
    rw [add_mul, Finset.sum_mul, hT]
    congr 1
    exact Finset.sum_congr rfl fun k _ => by ring
  · unfold score
    simp only [hq, hk]
    rw [bias_tables x3 p a h hh, tabOf_out _ _ _ _ _ hj, log2e_eq, EReal.bot_mul_coe_of_pos hlog, EReal.add_bot]
  · simp only [hT]

/-- Under the precondition the two programs' results agree entry by entry. -/
theorem value_eq (h1 : ∀ i, ∃ r : ℝ, x1 i = r) (h2 : ∀ i, ∃ r : ℝ, x2 i = r)
    (h3 : ∀ i, ∃ r : ℝ, x3 i = r) :
    naWanted (qkvWanted x0 (shapeCast S1x1024 x1 shapeCasts_S1024_S1x1024) x2) (laid (masked validWide (picked x3)))
      = val_main_v79 (F := Ideal) x0 x1 x2 x3 := by
  obtain ⟨P, hP, hA⟩ := proj_real x0 x1 x2 h1 h2
  choose X3 hX3 using h3
  funext i
  obtain ⟨t, j, rfl⟩ : ∃ (t : Fin 65536) (j : Fin 1024), i = ix2 t j := ⟨i 0, i 1, eq_ix2 i⟩
  obtain ⟨b, r, w, rfl⟩ : ∃ (b : Fin 8) (r : Fin 128) (w : Fin 64), t = token b r w :=
    ⟨⟨t.val / 8192, by omega⟩, ⟨t.val % 8192 / 64, by omega⟩, ⟨t.val % 64, by omega⟩, Fin.ext (by simp only [token]; omega)⟩
  obtain ⟨h, d, rfl⟩ : ∃ (h : Fin 16) (d : Fin 64), j = ⟨h.val * 64 + d.val, by omega⟩ :=
    ⟨⟨j.val / 64, by omega⟩, ⟨j.val % 64, by omega⟩, Fin.ext (by simp only; omega)⟩
  exact (kernel_real x3 P X3 _ hA hX3 b r w h d).trans (ref_real x0 x1 x2 x3 P X3 hP hX3 b r w h d).symm

end Cert.Na
-- ==== Proof.NaRun.lean ====
module
public import proofs.«01_k».proof.Proof.NaValue
@[expose] public section

/-! # The run of the two calls

The launch is the frame's, with what is read at the end extended by the attention's result array. -/

noncomputable section
namespace Cert.Na
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.TcCoe

local notation "𝕄" => MT nD τ sig Unit (Elt Ideal) ℕ (UR sig nD τ) ℕ

variable (m : (ℓ : Loc nD τ sig) → Buf (Elt Ideal) ℓ) (ρ : Dev nD → PrngReg)

/-- The result array at the end: the attention of the projection. -/
def result (c : Dev nD) : Vec Ideal S65536x1024 .bf16 :=
  naWanted (qkvWanted (m ((c : Thread nD τ).loc main_arg0))
      (shapeCast S1x1024 (m ((c : Thread nD τ).loc main_arg1) : Vec Ideal S1024 .f32) shapeCasts_S1024_S1x1024)
      (m ((c : Thread nD τ).loc main_arg2)))
    (laid (masked validWide (picked (m ((c : Thread nD τ).loc main_arg3)))))

theorem array_eq (c : Dev nD) : (dat1 (V7 m ρ) c).arrAt 4 cfg1.N = result m c := by
  rw [na_array, V7_qkv, qkv_array, V7_bias, V1_x, V1_g, V1_w]
  rfl

set_option backward.isDefEq.respectTransparency.types false in
/-- Every run ends with the arguments as they were and the result array as the second call's last write-back left it. -/
theorem run_arrays : θ_run defs (onTc (τ := τ) (main (F := Ideal))) ⟨m, fun _ => 0, ρ⟩ (fun r => ∀ c : Dev nD,
      r.2.mem ((c.tc : Thread nD τ).loc main_v49) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨(h c _ (mem_uc main_v49 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

/-- The same with the result array's contents. -/
theorem run_kernel : θ_run defs (onTc (τ := τ) (main (F := Ideal))) ⟨m, fun _ => 0, ρ⟩ (fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (array_eq m ρ c), (h c).2⟩) (run_arrays m ρ)

end Cert.Na
-- ==== Proof.NaClaim.lean ====
/- The claims about the program of the projection and the attention: its frames, the constants it names, and that its
   result is reference.py's attention. -/
module

public import proofs.«01_k».proof.Defs
public import proofs.«01_k».proof.Proof.NaRun
public import proofs.«01_k».proof.Proof.Gen.Kernel.Frame
public import proofs.«01_k».proof.Proof.Gen.ReferenceIdeal.Read
public import Idealize.ShloMosaic.Lib.Quiescent

@[expose] public section

noncomputable section

namespace Cert.Na.Claims

open Idealize.ShloMosaic Idealize.ShloMosaic.TcCoe Idealize.SL.Sem

/-- The program as printed leaves its arguments alone and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- So does the reference, which is host code and has no counter at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite := fun m ρ _ => frame_reference m ρ trivial

/-- The two named constants stand for the numbers they round. -/
theorem preserves : Cert.preserves_Kernel_KernelIdeal :=
  ⟨IdealRules.named_const.statement _ _ _ _ _ rfl, IdealRules.named_const.statement _ _ _ _ _ rfl⟩

/-- Over the extended reals, from finite weights and biases, the two calls and the reference end with the same array. -/
theorem algebraic : Cert.algebraic_KernelIdeal_ReferenceIdeal_pre_finite := by
  intro m ρ m' ρ' hpre hagree
  refine ⟨fun c => result m c, run_kernel m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  obtain ⟨h1, h2, h3⟩ := reals _ _ _ _ (hpre c)
  rw [Cert.ReferenceIdeal.Read.val_main_v79_eq, e0, e1, e2, e3]
  exact (value_eq _ _ _ _ h1 h2 h3).symm

end Cert.Na.Claims

end
-- ==== Proof.FfnPayloads.lean ====
module
public import proofs.«01_k».proof.Proof.Gen.Kernel2Ideal.Skeleton
public import proofs.«01_k».proof.Proof.FfnRow
public import Idealize.ShloMosaic.Lib.Pointwise
public import Idealize.ShloMosaic.Lib.ValueIdx
public import Idealize.ShloMosaic.Lib.Pipeline.ValueKit.Tiles
@[expose] public section

/-! # What the feed-forward kernel computes between a load and a store -/

noncomputable section
namespace Cert.Ffn
open Idealize.ShloMosaic Cert.Kernel2Ideal Cert.Kernel2Ideal.Gen

/-- A tile normalised row by row with row 0 of the weight pair. -/
def xnTile (X : Vec Ideal S512x1024 .f32) (G : Vec Ideal S2x1024 .f32) : Vec Ideal S512x1024 .bf16 :=
  fun i => rms (fun k => X (ix2 (i 0) k)) (fun k => G (ix2 0 k)) (i 1)

/-- The gated layer of a normalised tile, row by row. -/
def ffnTile (N : Vec Ideal S512x1024 .bf16) (Wg Wu : Vec Ideal S1x1x1024x2816 .bf16)
    (Wd : Vec Ideal S1x1x2816x1024 .bf16) : Vec Ideal S512x1024 .f32 :=
  fun i => ffn (fun k => N (ix2 (i 0) k)) (fun k f => Wg (ix4 0 0 k f)) (fun k f => Wu (ix4 0 0 k f))
    (fun f j => Wd (ix4 0 0 f j)) (i 1)

/-- A tile of the ring plus half of the normalised tile `Y`, with row 1 of the weight pair. -/
def outTile (R : Vec Ideal S3x512x1024 .f32) (s : Fin 3) (Y : Vec Ideal S512x1024 .f32) (G : Vec Ideal S2x1024 .f32) :
    Vec Ideal S512x1024 .f32 :=
  fun i => R (ix3 s (i 0) (i 1)) + wHalf * rms (fun k => Y (ix2 (i 0) k)) (fun k => G (ix2 1 k)) (i 1)

/-- The stored ring tile is the loaded input tile. -/
theorem ring_pay (a : Vec Ideal S256x1024 .f32) (x : S1x256x1024.Idx) :
    k0_pay27 (F := Ideal) a x = a (ix2 (x 1) (x 2)) := by
  unfold k0_pay27
  pointwise

/-- A piece of 256 input rows, normalised. -/
theorem xn_pay (b : Vec Ideal S256x1024 .f32) (g : Vec Ideal S1x1024 .f32) (x : S256x1024.Idx) :
    k0_pay28 (F := Ideal) b g x = rms (fun k => b (ix2 (x 0) k)) (fun k => g (ix2 0 k)) (x 1) := by
  unfold k0_pay28
  pointwise
  rw [eq_ix2 x]; rfl

/-- A piece of 128 output rows. -/
theorem out_pay (a : Vec Ideal S1x128x1024 .f32) (b : Vec Ideal S128x1024 .f32) (g : Vec Ideal S1x1024 .f32)
    (x : S128x1024.Idx) :
    k0_pay33 (F := Ideal) a b g x
      = a (ix3 0 (x 0) (x 1)) + wHalf * rms (fun k => b (ix2 (x 0) k)) (fun k => g (ix2 0 k)) (x 1) := by
  unfold k0_pay33
  pointwise
  rw [eq_ix2 x]; rfl

/-- One chunk of 768 hidden units. -/
theorem hidden_pay (n : Vec Ideal S512x1024 .bf16) (w w' : Vec Ideal S1x1x1024x768 .bf16) (x : S512x768.Idx) :
    k0_pay22 (F := Ideal) n w w' x
      = (∑ k, n (ix2 (x 0) k) * w (ix4 0 0 k (x 1))) * Ideal.logistic (∑ k, n (ix2 (x 0) k) * w (ix4 0 0 k (x 1)))
        * ∑ k, n (ix2 (x 0) k) * w' (ix4 0 0 k (x 1)) := by
  unfold k0_pay22
  pointwise

/-- The last chunk, of 512 hidden units. -/
theorem hidden_pay_last (n : Vec Ideal S512x1024 .bf16) (w w' : Vec Ideal S1x1x1024x512 .bf16) (x : S512x512.Idx) :
    k0_pay26 (F := Ideal) (k0_pay23 n w) (k0_pay24 n w') (k0_pay25 n w) x
      = (∑ k, n (ix2 (x 0) k) * w (ix4 0 0 k (x 1))) * Ideal.logistic (∑ k, n (ix2 (x 0) k) * w (ix4 0 0 k (x 1)))
        * ∑ k, n (ix2 (x 0) k) * w' (ix4 0 0 k (x 1)) := by
  unfold k0_pay26 k0_pay25 k0_pay24 k0_pay23
  pointwise

/-- The first two chunks' hidden units are written in two steps; they are the same function of the loads. -/
theorem hidden_pay_first (n : Vec Ideal S512x1024 .bf16) (w w' : Vec Ideal S1x1x1024x768 .bf16) :
    k0_pay14 (F := Ideal) (k0_pay10 n w) (k0_pay12 n w') = k0_pay22 n w w' := rfl
theorem hidden_pay_second (n : Vec Ideal S512x1024 .bf16) (w w' : Vec Ideal S1x1x1024x768 .bf16) :
    k0_pay21 (F := Ideal) (k0_pay15 n w) (k0_pay17 n w') = k0_pay22 n w w' := rfl

/-- The four chunks projected down and added. -/
theorem down_pay (h₀ h₁ h₂ : Vec Ideal S512x768 .bf16) (h₃ : Vec Ideal S512x512 .bf16)
    (w₀ w₁ w₂ : Vec Ideal S1x1x768x1024 .bf16) (w₃ : Vec Ideal S1x1x512x1024 .bf16) (x : S512x1024.Idx) :
    k0_pay3 (F := Ideal) (k0_pay32 h₂ h₃ (k0_pay29 h₀ h₁ w₀ w₁) w₂ w₃) x
      = (∑ k, h₀ (ix2 (x 0) k) * w₀ (ix4 0 0 k (x 1))) + (∑ k, h₁ (ix2 (x 0) k) * w₁ (ix4 0 0 k (x 1)))
        + (∑ k, h₂ (ix2 (x 0) k) * w₂ (ix4 0 0 k (x 1))) + ∑ k, h₃ (ix2 (x 0) k) * w₃ (ix4 0 0 k (x 1)) := by
  unfold k0_pay3 k0_pay32 k0_pay29
  pointwise

end Cert.Ffn
-- ==== Proof.FfnPieces.lean ====
module
public import proofs.«01_k».proof.Proof.FfnPayloads
public import proofs.«01_k».proof.Proof.Gen.Kernel2Ideal.Points
public import Idealize.ShloMosaic.Lib.WritesUnit
public import Idealize.ShloMosaic.Lib.Pipeline.ValueKit.Geometry
public import Idealize.ShloMosaic.Lib.Pipeline.ValueKit.Acc
@[expose] public section

/-! # The feed-forward kernel's stored pieces as parts of whole tiles

Each store of the kernel writes some rows of a tile. Here every such piece is the restriction of one function of the
whole tile, and the ring's slots at each grid point are given in closed form. -/

noncomputable section
namespace Cert.Ffn
open Idealize.ShloMosaic Cert.Kernel2Ideal Cert.Kernel2Ideal.Gen

/-- The ring slots written and read at point `t`: the new tile goes to slot `t % 3`, the finished one is in `(t+1) % 3`. -/
theorem off1_eq : ∀ t : Fin cfg0.N, k0_off1 (grid0.coords t) = ![t.val % 3, 0, 0] := by decide +kernel
theorem off2_eq : ∀ t : Fin cfg0.N, k0_off2 (grid0.coords t) = ![t.val % 3, 256, 0] := by decide +kernel
theorem off3_eq : ∀ t : Fin cfg0.N, k0_off3 (grid0.coords t) = ![(t.val + 1) % 3, 0, 0] := by decide +kernel
theorem off4_eq : ∀ t : Fin cfg0.N, k0_off4 (grid0.coords t) = ![(t.val + 1) % 3, 128, 0] := by decide +kernel
theorem off5_eq : ∀ t : Fin cfg0.N, k0_off5 (grid0.coords t) = ![(t.val + 1) % 3, 256, 0] := by decide +kernel
theorem off6_eq : ∀ t : Fin cfg0.N, k0_off6 (grid0.coords t) = ![(t.val + 1) % 3, 384, 0] := by decide +kernel
theorem off7_eq : ∀ t : Fin cfg0.N, k0_off7 (grid0.coords t) = ![t.val % 3, 0, 0] := by decide +kernel
theorem off8_eq : ∀ t : Fin cfg0.N, k0_off8 (grid0.coords t) = ![t.val % 3, 256, 0] := by decide +kernel
theorem off9_eq : ∀ t : Fin cfg0.N, k0_off9 (grid0.coords t) = ![(t.val + 1) % 3, 0, 0] := by decide +kernel
theorem off10_eq : ∀ t : Fin cfg0.N, k0_off10 (grid0.coords t) = ![(t.val + 1) % 3, 128, 0] := by decide +kernel
theorem off11_eq : ∀ t : Fin cfg0.N, k0_off11 (grid0.coords t) = ![(t.val + 1) % 3, 256, 0] := by decide +kernel
theorem off12_eq : ∀ t : Fin cfg0.N, k0_off12 (grid0.coords t) = ![(t.val + 1) % 3, 384, 0] := by decide +kernel

/-- The slot a whole tile of the ring sits in. -/
abbrev slot (n : Nat) : Fin 3 := ⟨n % 3, Nat.mod_lt _ (by decide)⟩

/-- 256 normalised rows starting at row `o` are those rows of the normalised tile. -/
theorem xn_piece (X : Vec Ideal S512x1024 .f32) (G : Vec Ideal S2x1024 .f32) (o : Nat)
    (hX : ∀ a, (![o, 0] : Fin 2 → Nat) a + S256x1024.size a ≤ S512x1024.size a) (hG)
    (x : S256x1024.Idx) :
    k0_pay28 (F := Ideal) (View.ld X (Rect.unit (s := S512x1024) ![o, 0] ![256, 1024] hX))
        (View.ld G (Rect.unit (s := S2x1024) ![0, 0] ![1, 1024] hG)) x
      = xnTile X G ((Rect.unit (s := S512x1024) ![o, 0] ![256, 1024] hX).emb x) := by
  rw [xn_pay]
  unfold xnTile
  congr 1
  · funext k
    refine View.ld_unit_apply_of _ _ _ _ _ _ fun a => ?_
    fin_cases a <;> simp [ValueKit.rect_emb_unit_val]
  · funext k
    refine View.ld_unit_apply_of _ _ _ _ _ _ fun a => ?_
    fin_cases a <;> simp
  · apply Fin.ext
    simp [ValueKit.rect_emb_unit_val]

/-- 128 output rows starting at row `o` are those rows of the output tile. -/
theorem out_piece (R : Vec Ideal S3x512x1024 .f32) (Y : Vec Ideal S512x1024 .f32) (G : Vec Ideal S2x1024 .f32)
    (n o : Nat) (off : Fin 3 → Nat) (hoff : off = ![n % 3, o, 0])
    (hR : ∀ a, off a + S1x128x1024.size a ≤ S3x512x1024.size a)
    (hY : ∀ a, (![o, 0] : Fin 2 → Nat) a + S128x1024.size a ≤ S512x1024.size a) (hG)
    (x : S128x1024.Idx) :
    k0_pay33 (F := Ideal) (View.ld R (Rect.unit (s := S3x512x1024) off ![1, 128, 1024] hR))
        (View.ld Y (Rect.unit (s := S512x1024) ![o, 0] ![128, 1024] hY))
        (View.ld G (Rect.unit (s := S2x1024) ![1, 0] ![1, 1024] hG)) x
      = outTile R (slot n) Y G ((Rect.unit (s := S512x1024) ![o, 0] ![128, 1024] hY).emb x) := by
  subst hoff
  rw [out_pay]
  unfold outTile
  congr 1
  · refine View.ld_unit_apply_of _ _ _ _ _ _ fun a => ?_
    fin_cases a <;> simp [ValueKit.rect_emb_unit_val]
  · congr 2
    · funext k
      refine View.ld_unit_apply_of _ _ _ _ _ _ fun a => ?_
      fin_cases a <;> simp [ValueKit.rect_emb_unit_val]
    · funext k
      refine View.ld_unit_apply_of _ _ _ _ _ _ fun a => ?_
      fin_cases a <;> simp
    · apply Fin.ext
      simp [ValueKit.rect_emb_unit_val]

/-- Two pieces of 256 rows stored to the ring's slot `n % 3` over the old ring: where they are the two halves of a tile
`X`, that slot holds the tile, the others are untouched. -/
theorem ring_put_of {sig : RefSig} {κ : Kind} {sp : Space} (v : View sig κ sp S3x512x1024 .f32)
    (f : v.ty.Contents (Elt Ideal)) (X : Vec Ideal S512x1024 .f32) (n : Nat) (off off' : Fin 3 → Nat)
    (hoff : off = ![n % 3, 0, 0]) (hoff' : off' = ![n % 3, 256, 0]) (h h') (p p' : Vec Ideal S1x256x1024 .f32)
    (hp : ∀ (r : Fin 256) (k : Fin 1024), p (ix3 0 r k) = X (ix2 ⟨r.val, by omega⟩ k))
    (hp' : ∀ (r : Fin 256) (k : Fin 1024), p' (ix3 0 r k) = X (ix2 ⟨256 + r.val, by omega⟩ k))
    (L) (i : S3x512x1024.Idx) :
    v.read (Elt Ideal) (v.writes (Elt Ideal) f
        (⟨Rect.unit (s := S3x512x1024) off' ![1, 256, 1024] h', p'⟩ ::
          ⟨Rect.unit (s := S3x512x1024) off ![1, 256, 1024] h, p⟩ :: L)) i
      = if (i 0).val = n % 3 then X (ix2 (i 1) (i 2)) else v.read (Elt Ideal) (v.writes (Elt Ideal) f L) i := by
  have hi1 : (i 1).val < 512 := (i 1).isLt
  have hi2 : (i 2).val < 1024 := (i 2).isLt
  rw [View.read_writes_cons_unit v f h' _ _ i hoff', View.read_writes_cons_unit v f h _ _ i hoff]
  simp only [Fin.forall_fin_succ, Fin.forall_fin_zero]
  by_cases hs : (i 0).val = n % 3
  · rw [if_pos hs]
    by_cases hr : 256 ≤ (i 1).val
    · rw [dif_pos (by simp; omega)]
      refine (congrArg p' (funext fun a => Fin.ext ?_)).trans ((hp' ⟨(i 1).val - 256, by omega⟩ (i 2)).trans
        (congrArg X (funext fun a => Fin.ext ?_)))
      · fin_cases a <;> simp [Rect.unitLocal_val, ix3]
        omega
      · fin_cases a <;> simp [ix2]
        omega
    · rw [dif_neg (by simp; omega), dif_pos (by simp; omega)]
      refine (congrArg p (funext fun a => Fin.ext ?_)).trans (hp ⟨(i 1).val, by omega⟩ (i 2))
      fin_cases a <;> simp [Rect.unitLocal_val, ix3]
      omega
  · rw [if_neg hs, dif_neg (by simp; omega), dif_neg (by simp; omega)]

/-- The ring of the plain call: the two halves of the loaded tile. -/
theorem ring_put {sig : RefSig} {κ : Kind} {sp : Space} (v : View sig κ sp S3x512x1024 .f32)
    (f : v.ty.Contents (Elt Ideal)) (X : Vec Ideal S512x1024 .f32) (n : Nat) (off off' : Fin 3 → Nat)
    (hoff : off = ![n % 3, 0, 0]) (hoff' : off' = ![n % 3, 256, 0]) (h h' hX hX') (L) (i : S3x512x1024.Idx) :
    v.read (Elt Ideal) (v.writes (Elt Ideal) f
        (⟨Rect.unit (s := S3x512x1024) off' ![1, 256, 1024] h',
            k0_pay27 (F := Ideal) (View.ld X (Rect.unit (s := S512x1024) ![256, 0] ![256, 1024] hX'))⟩ ::
          ⟨Rect.unit (s := S3x512x1024) off ![1, 256, 1024] h,
            k0_pay27 (F := Ideal) (View.ld X (Rect.unit (s := S512x1024) ![0, 0] ![256, 1024] hX))⟩ :: L)) i
      = if (i 0).val = n % 3 then X (ix2 (i 1) (i 2)) else v.read (Elt Ideal) (v.writes (Elt Ideal) f L) i := by
  refine ring_put_of v f X n off off' hoff hoff' h h' _ _ (fun r k => ?_) (fun r k => ?_) L i
  all_goals
    rw [ring_pay]
    refine View.ld_unit_apply_of _ _ _ _ _ _ fun a => ?_
    fin_cases a <;> simp [ix2, ix3]

/-- The gated layer's stored tile is the gated layer of the loaded tile, row by row. -/
theorem ffn_piece (N : Vec Ideal S512x1024 .bf16) (Wg Wu : Vec Ideal S1x1x1024x2816 .bf16)
    (Wd : Vec Ideal S1x1x2816x1024 .bf16) (h₀ h₁ h₂ h₃ h₀' h₁' h₂' h₃' d₀ d₁ d₂ d₃) :
    k0_pay3 (F := Ideal) (k0_pay32
      (k0_pay22 N (View.ld Wg (Rect.unit (s := S1x1x1024x2816) ![0, 0, 0, 1536] ![1, 1, 1024, 768] h₂))
        (View.ld Wu (Rect.unit (s := S1x1x1024x2816) ![0, 0, 0, 1536] ![1, 1, 1024, 768] h₂')))
      (k0_pay26 (k0_pay23 N (View.ld Wg (Rect.unit (s := S1x1x1024x2816) ![0, 0, 0, 2304] ![1, 1, 1024, 512] h₃)))
        (k0_pay24 N (View.ld Wu (Rect.unit (s := S1x1x1024x2816) ![0, 0, 0, 2304] ![1, 1, 1024, 512] h₃')))
        (k0_pay25 N (View.ld Wg (Rect.unit (s := S1x1x1024x2816) ![0, 0, 0, 2304] ![1, 1, 1024, 512] h₃))))
      (k0_pay29
        (k0_pay22 N (View.ld Wg (Rect.unit (s := S1x1x1024x2816) ![0, 0, 0, 0] ![1, 1, 1024, 768] h₀))
          (View.ld Wu (Rect.unit (s := S1x1x1024x2816) ![0, 0, 0, 0] ![1, 1, 1024, 768] h₀')))
        (k0_pay22 N (View.ld Wg (Rect.unit (s := S1x1x1024x2816) ![0, 0, 0, 768] ![1, 1, 1024, 768] h₁))
          (View.ld Wu (Rect.unit (s := S1x1x1024x2816) ![0, 0, 0, 768] ![1, 1, 1024, 768] h₁')))
        (View.ld Wd (Rect.unit (s := S1x1x2816x1024) ![0, 0, 0, 0] ![1, 1, 768, 1024] d₀))
        (View.ld Wd (Rect.unit (s := S1x1x2816x1024) ![0, 0, 768, 0] ![1, 1, 768, 1024] d₁)))
      (View.ld Wd (Rect.unit (s := S1x1x2816x1024) ![0, 0, 1536, 0] ![1, 1, 768, 1024] d₂))
      (View.ld Wd (Rect.unit (s := S1x1x2816x1024) ![0, 0, 2304, 0] ![1, 1, 512, 1024] d₃)))
    = ffnTile N Wg Wu Wd := by
  funext x
  rw [down_pay]
  simp only [hidden_pay, hidden_pay_last]
  unfold ffnTile ffn
  rw [sum_chunks]
  congr 1; congr 1; congr 1
  all_goals
    refine Finset.sum_congr rfl fun k _ => ?_
    unfold hidden
    congr 1
    · congr 1
      · congr 1
        · refine Finset.sum_congr rfl fun l _ => congrArg (_ * ·) (View.ld_unit_apply_of _ _ _ _ _ _ fun a => ?_)
          fin_cases a <;> simp
        · congr 1
          refine Finset.sum_congr rfl fun l _ => congrArg (_ * ·) (View.ld_unit_apply_of _ _ _ _ _ _ fun a => ?_)
          fin_cases a <;> simp
      · refine Finset.sum_congr rfl fun l _ => congrArg (_ * ·) (View.ld_unit_apply_of _ _ _ _ _ _ fun a => ?_)
        fin_cases a <;> simp
    · refine View.ld_unit_apply_of _ _ _ _ _ _ fun a => ?_
      fin_cases a <;> simp

end Cert.Ffn
-- ==== Proof.FfnPoints.lean ====
module
public import proofs.«01_k».proof.Proof.FfnPieces
public import Idealize.ShloMosaic.Lib.Pipeline.ReadBack
public import proofs.«01_k».proof.Proof.Gen.Kernel2Ideal.Value
@[expose] public section

/-! # What the feed-forward kernel leaves at each grid point

At point `t` the kernel takes tile `t` in, computes the gated layer of tile `t - 1` and writes out tile `t - 2`.
First the contents after one point in terms of those after the point before; then, three points together, the
output of point `t` in terms of tile `t - 2` alone. -/

noncomputable section
namespace Cert.Ffn
open Idealize.ShloMosaic Cert.Kernel2Ideal Cert.Kernel2Ideal.Gen

variable (m : (ℓ : Loc nD τ sig) → Buf (Elt Ideal) ℓ) (c : Dev nD)

/-- The middle points: the normalised tile left. -/
theorem xn_B (t : Fin cfg0.N) (h0 : ¬t.val % 130 = 0) (h1 : 1 ≤ t.val % 130 ∧ t.val % 130 ≤ 128)
    (h2 : ¬t.val % 130 = 129) :
    (outsAt0 m c t.val t.isLt).2.2.1 = xnTile (iblk m c 0 t) (iblk m c 1 t) := by
  rw [outsAt0_B m c t h0 h1 h2]
  frame_out
  funext y
  refine View.canon_apply_of_pieces (xnTile (iblk m c 0 t) (iblk m c 1 t)) _ ?_ y ?_
  · simp only [List.forall_mem_cons]
    exact ⟨fun x => xn_piece _ _ 256 _ _ x, fun x => xn_piece _ _ 0 _ _ x, by simp⟩
  · exact View.cover_of_tiledL (s := S512x1024) _ S256x1024.size (by sl_kernel_rfl) y

/-- The first point: the normalised tile left. -/
theorem xn_A (t : Fin cfg0.N) (h0 : t.val % 130 = 0) (h1 : ¬(1 ≤ t.val % 130 ∧ t.val % 130 ≤ 128))
    (h2 : ¬t.val % 130 = 129) :
    (outsAt0 m c t.val t.isLt).2.2.1 = xnTile (iblk m c 0 t) (iblk m c 1 t) := by
  rw [outsAt0_A m c t h0 h1 h2]
  frame_out
  funext y
  refine View.canon_apply_of_pieces (xnTile (iblk m c 0 t) (iblk m c 1 t)) _ ?_ y ?_
  · simp only [List.forall_mem_cons]
    exact ⟨fun x => xn_piece _ _ 256 _ _ x, fun x => xn_piece _ _ 0 _ _ x, by simp⟩
  · exact View.cover_of_tiledL (s := S512x1024) _ S256x1024.size (by sl_kernel_rfl) y

/-- The middle points: the gated layer of the normalised tile the point before left. -/
theorem ffn_B (t : Fin cfg0.N) (h0 : ¬t.val % 130 = 0) (h1 : 1 ≤ t.val % 130 ∧ t.val % 130 ≤ 128)
    (h2 : ¬t.val % 130 = 129) (h) :
    (outsAt0 m c t.val t.isLt).2.2.2
      = ffnTile (outsAt0 m c (t.val - 1) h).2.2.1 (iblk m c 2 t) (iblk m c 3 t) (iblk m c 4 t) := by
  rw [outsAt0_B m c t h0 h1 h2]
  frame_out [read_unread_whole, hidden_pay_first, hidden_pay_second]
  exact ffn_piece _ _ _ _ _ _ _ _ _ _ _ _ _ _ _ _

/-- The middle points: the tile goes to its slot of the ring, the other slots keep what they held. -/
theorem ring_B (t : Fin cfg0.N) (h0 : ¬t.val % 130 = 0) (h1 : 1 ≤ t.val % 130 ∧ t.val % 130 ≤ 128)
    (h2 : ¬t.val % 130 = 129) (h) (i : S3x512x1024.Idx) :
    (outsAt0 m c t.val t.isLt).2.1 i
      = if (i 0).val = t.val % 3 then (iblk m c 0 t : Vec Ideal S512x1024 .f32) (ix2 (i 1) (i 2))
        else (outsAt0 m c (t.val - 1) h).2.1 i := by
  rw [outsAt0_B m c t h0 h1 h2]
  frame_out
  refine (ring_put (View.whole cc0_scratch0) _ (iblk m c 0 t) t.val _ _ (off7_eq t) (off8_eq t) _ _ _ _ [] i).trans ?_
  simp only [View.writes_nil, read_unread_whole]

/-- The first point: the tile goes to slot 0 of the ring. -/
theorem ring_A (t : Fin cfg0.N) (h0 : t.val % 130 = 0) (h1 : ¬(1 ≤ t.val % 130 ∧ t.val % 130 ≤ 128))
    (h2 : ¬t.val % 130 = 129) (i : S3x512x1024.Idx) (hi : (i 0).val = t.val % 3) :
    (outsAt0 m c t.val t.isLt).2.1 i = (iblk m c 0 t : Vec Ideal S512x1024 .f32) (ix2 (i 1) (i 2)) := by
  rw [outsAt0_A m c t h0 h1 h2]
  frame_out
  rw [← View.read_writes_junk_eq_canon (View.whole cc0_scratch0)]
  refine (ring_put (View.whole cc0_scratch0) _ (iblk m c 0 t) t.val _ _ (off1_eq t) (off2_eq t) _ _ _ _ _ i).trans ?_
  rw [if_pos hi]

/-- The middle points: the output tile, from the ring and the gated layer the point before left. -/
theorem out_B (t : Fin cfg0.N) (h0 : ¬t.val % 130 = 0) (h1 : 1 ≤ t.val % 130 ∧ t.val % 130 ≤ 128)
    (h2 : ¬t.val % 130 = 129) (h) :
    (outsAt0 m c t.val t.isLt).1
      = outTile (outsAt0 m c (t.val - 1) h).2.1 (slot (t.val + 1)) (outsAt0 m c (t.val - 1) h).2.2.2
          (iblk m c 1 t) := by
  rw [outsAt0_B m c t h0 h1 h2]
  frame_out [read_unread_whole]
  funext y
  refine View.canon_apply_of_pieces (outTile _ _ _ _) _ ?_ y ?_
  · simp only [List.forall_mem_cons]
    exact ⟨fun x => out_piece _ _ _ _ 384 _ (off6_eq t) _ _ _ x, fun x => out_piece _ _ _ _ 256 _ (off5_eq t) _ _ _ x,
      fun x => out_piece _ _ _ _ 128 _ (off4_eq t) _ _ _ x, fun x => out_piece _ _ _ _ 0 _ (off3_eq t) _ _ _ x, by simp⟩
  · exact View.cover_of_tiledL (s := S512x1024) _ S128x1024.size (by sl_kernel_rfl) y

/-- The last point: the output tile, likewise. -/
theorem out_C (t : Fin cfg0.N) (h0 : ¬t.val % 130 = 0) (h1 : ¬(1 ≤ t.val % 130 ∧ t.val % 130 ≤ 128))
    (h2 : t.val % 130 = 129) (h) :
    (outsAt0 m c t.val t.isLt).1
      = outTile (outsAt0 m c (t.val - 1) h).2.1 (slot (t.val + 1)) (outsAt0 m c (t.val - 1) h).2.2.2
          (iblk m c 1 t) := by
  rw [outsAt0_C m c t h0 h1 h2]
  frame_out [read_unread_whole]
  funext y
  refine View.canon_apply_of_pieces (outTile _ _ _ _) _ ?_ y ?_
  · simp only [List.forall_mem_cons]
    exact ⟨fun x => out_piece _ _ _ _ 384 _ (off12_eq t) _ _ _ x, fun x => out_piece _ _ _ _ 256 _ (off11_eq t) _ _ _ x,
      fun x => out_piece _ _ _ _ 128 _ (off10_eq t) _ _ _ x, fun x => out_piece _ _ _ _ 0 _ (off9_eq t) _ _ _ x, by simp⟩
  · exact View.cover_of_tiledL (s := S512x1024) _ S128x1024.size (by sl_kernel_rfl) y

end Cert.Ffn
-- ==== Proof.FfnArray.lean ====
module
public import proofs.«01_k».proof.Proof.FfnPoints
@[expose] public section

/-! # What the feed-forward kernel's result array holds

The three points that work on one tile put together: the output of point `t` is the block of tile `t - 2`. The
written blocks cover the array, so the whole array is the block row by row. -/

noncomputable section
namespace Cert.Ffn
open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (ρ : Dev nD → PrngReg) (c : Dev nD)

/-- The feed-forward block of every row of `x`, with the first set of the weights. -/
def wanted (x : Vec Ideal S65536x1024 .f32) (g : Vec Ideal S2x1024 .f32) (wg wu : Vec Ideal S4x2x1024x2816 .f32)
    (wd : Vec Ideal S4x2x2816x1024 .f32) : Vec Ideal S65536x1024 .f32 :=
  fun i => block (fun k => x (ix2 (i 0) k)) (fun k => g (ix2 0 k)) (fun k => g (ix2 1 k))
    (fun k f => wg (ix4 0 0 k f)) (fun k f => wu (ix4 0 0 k f)) (fun f j => wd (ix4 0 0 f j)) (i 1)

/-- The block indices of the six windows at each point. -/
theorem idx0 : ∀ t : Fin cfg0.N, win0_0.index t = ![min t.val 127, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0, 0] := (by decide +kernel : ∀ t : Fin grid0.N, _)
theorem idx5 : ∀ t : Fin cfg0.N, win0_5.index t = ![min (t.val - 2) 127, 0] := (by decide +kernel : ∀ t : Fin grid0.N, _)
theorem flush5 : ∀ t : Fin cfg0.N, (cfg0.win 5).flush t = true → 2 ≤ t.val := (by decide +kernel : ∀ t : Fin grid0.N, _)

/-- The converted weights at the region's entry are the weights: a conversion is the identity on extended reals. -/
theorem V0 : (V m c main_v0 : Vec Ideal S4x2x1024x2816 .bf16) = m ((c : Thread nD τ).loc main_arg2) := by
  unfold V
  after_results
  rfl
theorem V1 : (V m c main_v1 : Vec Ideal S4x2x1024x2816 .bf16) = m ((c : Thread nD τ).loc main_arg3) := by
  unfold V
  after_results
  rfl
theorem V2 : (V m c main_v2 : Vec Ideal S4x2x2816x1024 .bf16) = m ((c : Thread nD τ).loc main_arg4) := by
  unfold V
  after_results
  rfl

/-- The five input blocks at a point, read off the arrays. -/
theorem in0 (t : Fin cfg0.N) (i : S512x1024.Idx) (h : t.val ≤ 127) :
    (iblk m c 0 t : Vec Ideal S512x1024 .f32) i
      = (m ((c : Thread nD τ).loc main_arg0) : Vec Ideal S65536x1024 .f32)
          (ix2 ⟨t.val * 512 + (i 0).val, by have : (i 0).val < 512 := (i 0).isLt; omega⟩ (i 1)) := by
  rw [← V_main_arg0 m c]
  have e := idx0 t
  rw [Nat.min_eq_left h] at e
  blk_ext [iblk, e]
theorem in1 (t : Fin cfg0.N) (i : S2x1024.Idx) :
    (iblk m c 1 t : Vec Ideal S2x1024 .f32) i = (m ((c : Thread nD τ).loc main_arg1) : Vec Ideal S2x1024 .f32) i := by
  rw [← V_main_arg1 m c]
  blk_ext [iblk, idx1 t]
theorem in2 (t : Fin cfg0.N) (k : Fin 1024) (f : Fin 2816) :
    (iblk m c 2 t : Vec Ideal S1x1x1024x2816 .bf16) (ix4 0 0 k f)
      = (m ((c : Thread nD τ).loc main_arg2) : Vec Ideal S4x2x1024x2816 .f32) (ix4 0 0 k f) := by
  rw [← V0 m c]
  blk_ext [iblk, idx2 t]
theorem in3 (t : Fin cfg0.N) (k : Fin 1024) (f : Fin 2816) :
    (iblk m c 3 t : Vec Ideal S1x1x1024x2816 .bf16) (ix4 0 0 k f)
      = (m ((c : Thread nD τ).loc main_arg3) : Vec Ideal S4x2x1024x2816 .f32) (ix4 0 0 k f) := by
  rw [← V1 m c]
  blk_ext [iblk, idx3 t]
theorem in4 (t : Fin cfg0.N) (f : Fin 2816) (j : Fin 1024) :
    (iblk m c 4 t : Vec Ideal S1x1x2816x1024 .bf16) (ix4 0 0 f j)
      = (m ((c : Thread nD τ).loc main_arg4) : Vec Ideal S4x2x2816x1024 .f32) (ix4 0 0 f j) := by
  rw [← V2 m c]
  blk_ext [iblk, idx4 t]

/-- The normalised tile at any point but the last. -/
theorem xn_at (t : Fin cfg0.N) (h : t.val ≤ 128) :
    (outsAt0 m c t.val t.isLt).2.2.1 = xnTile (iblk m c 0 t) (iblk m c 1 t) := by
  by_cases h0 : t.val = 0
  · exact xn_A m c t (by omega) (by omega) (by omega)
  · exact xn_B m c t (by omega) (by omega) (by omega)

/-- The output tile at any point but the first. -/
theorem out_at (t : Fin cfg0.N) (h : 1 ≤ t.val) (hp) :
    (outsAt0 m c t.val t.isLt).1
      = outTile (outsAt0 m c (t.val - 1) hp).2.1 (slot (t.val + 1)) (outsAt0 m c (t.val - 1) hp).2.2.2
          (iblk m c 1 t) := by
  have hN : cfg0.N = 130 := N_0
  have := t.isLt
  by_cases h0 : t.val = 129
  · exact out_C m c t (by omega) (by omega) (by omega) hp
  · exact out_B m c t (by omega) (by omega) (by omega) hp

/-- The ring's slot of the tile a point put there. -/
theorem ring_at (t : Fin cfg0.N) (h : t.val ≤ 128) (i : S3x512x1024.Idx) (hi : (i 0).val = t.val % 3) :
    (outsAt0 m c t.val t.isLt).2.1 i = (iblk m c 0 t : Vec Ideal S512x1024 .f32) (ix2 (i 1) (i 2)) := by
  by_cases h0 : t.val = 0
  · exact ring_A m c t (by omega) (by omega) (by omega) i hi
  · have hN : cfg0.N = 130 := N_0
    rw [ring_B m c t (by omega) (by omega) (by omega) (by have := t.isLt; omega) i, if_pos hi]

/-- A tile's output is the block of its rows, whenever the ring's slot and the normalised tile come from the same rows. -/
theorem tile_block (R : Vec Ideal S3x512x1024 .f32) (s : Fin 3) (X : Vec Ideal S512x1024 .f32)
    (G G' : Vec Ideal S2x1024 .f32) (Wg Wu : Vec Ideal S1x1x1024x2816 .bf16) (Wd : Vec Ideal S1x1x2816x1024 .bf16)
    (x : Vec Ideal S65536x1024 .f32) (g : Vec Ideal S2x1024 .f32) (wg wu : Vec Ideal S4x2x1024x2816 .f32)
    (wd : Vec Ideal S4x2x2816x1024 .f32) (row : Fin 512 → Fin 65536)
    (hR : ∀ r k, R (ix3 s r k) = x (ix2 (row r) k)) (hX : ∀ r k, X (ix2 r k) = x (ix2 (row r) k))
    (hG : ∀ i, G i = g i) (hG' : ∀ i, G' i = g i) (hg : ∀ k f, Wg (ix4 0 0 k f) = wg (ix4 0 0 k f))
    (hu : ∀ k f, Wu (ix4 0 0 k f) = wu (ix4 0 0 k f)) (hd : ∀ f j, Wd (ix4 0 0 f j) = wd (ix4 0 0 f j))
    (i : S512x1024.Idx) :
    outTile R s (ffnTile (xnTile X G) Wg Wu Wd) G' i = wanted x g wg wu wd (ix2 (row (i 0)) (i 1)) := by
  obtain ⟨r, j, rfl⟩ : ∃ (r : Fin 512) (j : Fin 1024), i = ix2 r j := ⟨i 0, i 1, eq_ix2 i⟩
  have e0 : ∀ (a : Fin 512) (b : Fin 1024), (ix2 a b : S512x1024.Idx) 0 = a := fun _ _ => rfl
  have e1 : ∀ (a : Fin 512) (b : Fin 1024), (ix2 a b : S512x1024.Idx) 1 = b := fun _ _ => rfl
  have f0 : ∀ (a : Fin 65536) (b : Fin 1024), (ix2 a b : S65536x1024.Idx) 0 = a := fun _ _ => rfl
  have f1 : ∀ (a : Fin 65536) (b : Fin 1024), (ix2 a b : S65536x1024.Idx) 1 = b := fun _ _ => rfl
  simp only [outTile, ffnTile, xnTile, wanted, block, e0, e1, f0, f1, hR, hX, hG, hG', hg, hu, hd]

/-- The row of the array that row `r` of tile `n` is. -/
def rowOf (n : Nat) (hn : n ≤ 127) (r : Fin 512) : Fin 65536 := ⟨n * 512 + r.val, by omega⟩

/-- From point 2 on, the output tile is the block of the rows taken in two points before. -/
theorem out_tile (n : Nat) (hn : n ≤ 127) (ht : n + 2 < cfg0.N) (i : S512x1024.Idx) :
    (outsAt0 m c (n + 2) ht).1 i
      = wanted (m ((c : Thread nD τ).loc main_arg0)) (m ((c : Thread nD τ).loc main_arg1))
          (m ((c : Thread nD τ).loc main_arg2)) (m ((c : Thread nD τ).loc main_arg3))
          (m ((c : Thread nD τ).loc main_arg4)) (ix2 (rowOf n hn (i 0)) (i 1)) := by
  have hb : n + 1 < cfg0.N := by omega
  have ha : n < cfg0.N := by omega
  have e2 := out_at m c ⟨n + 2, ht⟩ (by simp only []; omega) hb
  have e1 := ffn_B m c ⟨n + 1, hb⟩ (by simp only []; omega) (by simp only []; omega) (by simp only []; omega) ha
  have e0 := xn_at m c ⟨n, ha⟩ (by simp only []; omega)
  have r1 := ring_B m c ⟨n + 1, hb⟩ (by simp only []; omega) (by simp only []; omega) (by simp only []; omega) ha
  have r0 := ring_at m c ⟨n, ha⟩ (by simp only []; omega)
  have x0 := in0 m c ⟨n, ha⟩
  dsimp only at e2 e1 e0 r1 r0 x0
  rw [e2]
  rw [show (outsAt0 m c (n + 2 - 1) hb).2.2.2 = (outsAt0 m c (n + 1) hb).2.2.2 from rfl, e1]
  rw [show (outsAt0 m c (n + 1 - 1) ha).2.2.1 = (outsAt0 m c n ha).2.2.1 from rfl, e0]
  refine tile_block _ _ _ _ _ _ _ _ _ _ _ _ _ (rowOf n hn) (fun r k => ?_) (fun r k => x0 (ix2 r k) hn)
    (in1 m c _) (in1 m c _) (in2 m c _) (in3 m c _) (in4 m c _) i
  refine (r1 (ix3 (slot (n + 2 + 1)) r k)).trans ?_
  rw [if_neg (by show ¬ (n + 2 + 1) % 3 = (n + 1) % 3; omega)]
  refine (r0 (ix3 (slot (n + 2 + 1)) r k) (by show (n + 2 + 1) % 3 = n % 3; omega)).trans ?_
  exact x0 (ix2 r k) hn

/-- The result array after the run: the block of every row. -/
theorem array_eq : (dats m 0 c).arrAt 5 cfg0.N
    = wanted (m ((c : Thread nD τ).loc main_arg0)) (m ((c : Thread nD τ).loc main_arg1))
        (m ((c : Thread nD τ).loc main_arg2)) (m ((c : Thread nD τ).loc main_arg3))
        (m ((c : Thread nD τ).loc main_arg4)) := by
  have hc : (cfg0.win 5).Covers := by decide +kernel
  refine (dats m 0 c).arrAt_eq_of_cover 5 _ (fun t hf => ?_) (hc.cover _ (Memref.isWhole_whole _))
  have h2 := flush5 t hf
  have ht : t.val < 130 := lt_of_lt_of_eq t.isLt N_0
  have e := idx5 t
  rw [Nat.min_eq_left (by omega)] at e
  rw [Cert.Kernel2Ideal.Value.flushed5]
  funext y
  obtain ⟨n, hn⟩ : ∃ n, t.val = n + 2 := ⟨t.val - 2, by omega⟩
  obtain ⟨t, htt⟩ := t
  obtain rfl : t = n + 2 := hn
  refine (out_tile m c n (by dsimp only at ht; omega) htt y).trans ?_
  dsimp only at e
  blk_ext [e, rowOf]

/-- The run of the kernel: the result is the block of every row, the arguments are unchanged. -/
theorem run_kernel : θ_run defs (onTc (τ := τ) (main (F := Ideal))) ⟨m, fun _ => 0, ρ⟩ fun r => ∀ c : Dev nD,
    r.2.mem ((c : Thread nD τ).loc main_v3)
      = wanted (m ((c : Thread nD τ).loc main_arg0)) (m ((c : Thread nD τ).loc main_arg1))
        (m ((c : Thread nD τ).loc main_arg2)) (m ((c : Thread nD τ).loc main_arg3))
        (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (array_eq m c), (h c).2⟩) (Cert.Kernel2Ideal.Value.run_blocks m ρ)

end Cert.Ffn
-- ==== Proof.FfnClaim.lean ====
module

public import proofs.«01_k».proof.Defs
public import proofs.«01_k».proof.Proof.FfnArray
public import proofs.«01_k».proof.Proof.FfnReference
public import proofs.«01_k».proof.Proof.Gen.Kernel2.Frame
public import proofs.«01_k».proof.Proof.Gen.Kernel2Ideal.Frame
public import proofs.«01_k».proof.Proof.Gen.Reference2Ideal.Read
public import Idealize.ShloMosaic.Lib.Quiescent

@[expose] public section

noncomputable section

namespace Cert.Ffn.Claims

open Idealize.ShloMosaic Idealize.ShloMosaic.TcCoe Idealize.SL.Sem

/-- The call as printed leaves its arguments alone and its counters at zero. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- So does the reference, which is host code and has no counter at all. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result array is the block, row by row. -/
theorem reference_eq (x : Vec Ideal Cert.Kernel2Ideal.S65536x1024 .f32) (g : Vec Ideal Cert.Kernel2Ideal.S2x1024 .f32)
    (wg wu : Vec Ideal Cert.Kernel2Ideal.S4x2x1024x2816 .f32) (wd : Vec Ideal Cert.Kernel2Ideal.S4x2x2816x1024 .f32) :
    Cert.Reference2Ideal.Read.val_main_v43 (F := Ideal) x g wg wu wd = wanted x g wg wu wd := by
  funext i
  rw [eq_ix2 i]
  exact Cert.Ffn.Ref.block_at x g wg wu wd (i 0) (i 1)

/-- Over the extended reals the pipelined call and the reference end with the same array. -/
theorem algebraic : Cert.algebraic_Kernel2Ideal_Reference2Ideal := by
  intro m ρ m' ρ' _ hagree
  refine ⟨fun c => wanted (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))
    (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)),
    run_kernel m ρ, ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4⟩ := hagree c
  rw [Cert.Reference2Ideal.Read.val_main_v43_eq, e0, e1, e2, e3, e4]
  exact reference_eq _ _ _ _ _

end Cert.Ffn.Claims

end
-- ==== Proof.AttnOutPieces.lean ====
module
public import proofs.«01_k».proof.Proof.FfnPieces
public import proofs.«01_k».proof.Proof.Gen.Kernel3Ideal.Skeleton
public import proofs.«01_k».proof.Proof.Gen.Kernel3Ideal.Points
@[expose] public section

/-! # The output projection in front of the last feed-forward block: what is stored

The call `attn_out_ffn` runs the pipeline of the plain feed-forward call on rows that it first makes itself: the
residual plus the normalised projection of the attention's output. -/

noncomputable section
namespace Cert.AttnOut
open Idealize.ShloMosaic Cert.Kernel3Ideal Cert.Kernel3Ideal.Gen
open Cert.Ffn (rms xnTile ffnTile outTile slot)

/-- A row of the residual plus the normalised projection of a row of the attention's output. -/
def proj (x a : Fin 1024 → EReal) (g : Fin 1024 → EReal) (w : Fin 1024 → Fin 1024 → EReal) (j : Fin 1024) : EReal :=
  x j + rms (fun l => ∑ k, a k * w k l) g j

/-- A tile of such rows. -/
def projTile (X : Vec Ideal S512x1024 .f32) (A : Vec Ideal S512x1024 .bf16) (G : Vec Ideal S1x1024 .f32)
    (W : Vec Ideal S1024x1024 .bf16) : Vec Ideal S512x1024 .f32 :=
  fun i => proj (fun k => X (ix2 (i 0) k)) (fun k => A (ix2 (i 0) k)) (fun k => G (ix2 0 k)) (fun k l => W (ix2 k l)) (i 1)

/-- A piece of 256 such rows. -/
theorem proj_pay (x : Vec Ideal S256x1024 .f32) (a : Vec Ideal S256x1024 .bf16) (w : Vec Ideal S1024x1024 .bf16)
    (g : Vec Ideal S1x1024 .f32) (i : S256x1024.Idx) :
    k0_pay9 (F := Ideal) x a w g i
      = proj (fun k => x (ix2 (i 0) k)) (fun k => a (ix2 (i 0) k)) (fun k => g (ix2 0 k)) (fun k l => w (ix2 k l)) (i 1) := by
  unfold k0_pay9
  pointwise
  rw [eq_ix2 i]; rfl

/-- The later pieces are the same function of their loads, and so are the normalised ones. -/
theorem proj_second (x : Vec Ideal S256x1024 .f32) (a : Vec Ideal S256x1024 .bf16) (w : Vec Ideal S1024x1024 .bf16)
    (g : Vec Ideal S1x1024 .f32) : k0_pay1 (F := Ideal) x (k0_pay12 a w g) = k0_pay9 x a w g := rfl
theorem proj_third (x : Vec Ideal S256x1024 .f32) (a : Vec Ideal S256x1024 .bf16) (w : Vec Ideal S1024x1024 .bf16)
    (g : Vec Ideal S1x1024 .f32) : k0_pay31 (F := Ideal) x a w g = k0_pay9 x a w g := rfl
theorem proj_fourth (x : Vec Ideal S256x1024 .f32) (a : Vec Ideal S256x1024 .bf16) (w : Vec Ideal S1024x1024 .bf16)
    (g : Vec Ideal S1x1024 .f32) : k0_pay36 (F := Ideal) x a w g = k0_pay9 x a w g := rfl
theorem xn_eq (h : Vec Ideal S256x1024 .f32) (g : Vec Ideal S1x1024 .f32) :
    k0_pay11 (F := Ideal) h g = Cert.Kernel2Ideal.Gen.k0_pay28 h g := rfl
theorem out_eq (a : Vec Ideal S1x128x1024 .f32) (b : Vec Ideal S128x1024 .f32) (g : Vec Ideal S1x1024 .f32) :
    k0_pay5 (F := Ideal) a b g = Cert.Kernel2Ideal.Gen.k0_pay33 a b g := rfl
theorem hidden_eq (n : Vec Ideal S512x1024 .bf16) (w w' : Vec Ideal S1x1x1024x768 .bf16) :
    k0_pay25 (F := Ideal) n w w' = Cert.Kernel2Ideal.Gen.k0_pay22 n w w' := rfl
/-- A stored ring piece is the piece. -/
theorem ring_pay (h : Vec Ideal S256x1024 .f32) (x : S1x256x1024.Idx) :
    k0_pay10 (F := Ideal) h x = h (ix2 (x 1) (x 2)) := by
  unfold k0_pay10
  pointwise

/-- The ring slots written and read at point `t`, as in the plain call. -/
theorem off1_eq : ∀ t : Fin cfg0.N, k0_off1 (grid0.coords t) = ![t.val % 3, 0, 0] := by decide +kernel
theorem off2_eq : ∀ t : Fin cfg0.N, k0_off2 (grid0.coords t) = ![t.val % 3, 256, 0] := by decide +kernel
theorem off3_eq : ∀ t : Fin cfg0.N, k0_off3 (grid0.coords t) = ![(t.val + 1) % 3, 0, 0] := by decide +kernel
theorem off4_eq : ∀ t : Fin cfg0.N, k0_off4 (grid0.coords t) = ![(t.val + 1) % 3, 128, 0] := by decide +kernel
theorem off5_eq : ∀ t : Fin cfg0.N, k0_off5 (grid0.coords t) = ![(t.val + 1) % 3, 256, 0] := by decide +kernel
theorem off6_eq : ∀ t : Fin cfg0.N, k0_off6 (grid0.coords t) = ![(t.val + 1) % 3, 384, 0] := by decide +kernel
theorem off7_eq : ∀ t : Fin cfg0.N, k0_off7 (grid0.coords t) = ![t.val % 3, 0, 0] := by decide +kernel
theorem off8_eq : ∀ t : Fin cfg0.N, k0_off8 (grid0.coords t) = ![t.val % 3, 256, 0] := by decide +kernel
theorem off9_eq : ∀ t : Fin cfg0.N, k0_off9 (grid0.coords t) = ![(t.val + 1) % 3, 0, 0] := by decide +kernel
theorem off10_eq : ∀ t : Fin cfg0.N, k0_off10 (grid0.coords t) = ![(t.val + 1) % 3, 128, 0] := by decide +kernel
theorem off11_eq : ∀ t : Fin cfg0.N, k0_off11 (grid0.coords t) = ![(t.val + 1) % 3, 256, 0] := by decide +kernel
theorem off12_eq : ∀ t : Fin cfg0.N, k0_off12 (grid0.coords t) = ![(t.val + 1) % 3, 384, 0] := by decide +kernel

/-- 256 rows starting at row `o` are those rows of the tile. -/
theorem proj_piece (X : Vec Ideal S512x1024 .f32) (A : Vec Ideal S512x1024 .bf16) (G : Vec Ideal S1x1024 .f32)
    (W : Vec Ideal S1024x1024 .bf16) (o : Nat) (ho : o + 256 ≤ 512)
    (hX : ∀ a, (![o, 0] : Fin 2 → Nat) a + S256x1024.size a ≤ S512x1024.size a) (hA)
    (r : Fin 256) (k : Fin 1024) :
    k0_pay9 (F := Ideal) (View.ld X (Rect.unit (s := S512x1024) ![o, 0] ![256, 1024] hX))
        (View.ld A (Rect.unit (s := S512x1024) ![o, 0] ![256, 1024] hA)) W G (ix2 r k)
      = projTile X A G W (ix2 ⟨o + r.val, by omega⟩ k) := by
  rw [proj_pay]
  unfold projTile
  congr 1
  all_goals
    funext l
    refine View.ld_unit_apply_of _ _ _ _ _ _ fun a => ?_
    fin_cases a <;> simp [ix2]

/-- 256 normalised rows starting at row `o`, of a piece `p` that holds those rows of the tile `X`. -/
theorem xn_piece (X : Vec Ideal S512x1024 .f32) (P : Vec Ideal S2x1024 .f32) (p : Vec Ideal S256x1024 .f32) (o : Nat)
    (ho : o + 256 ≤ 512) (hX : ∀ a, (![o, 0] : Fin 2 → Nat) a + S256x1024.size a ≤ S512x1024.size a) (hP)
    (hp : ∀ (r : Fin 256) (k : Fin 1024), p (ix2 r k) = X (ix2 ⟨o + r.val, by omega⟩ k)) (x : S256x1024.Idx) :
    Cert.Kernel2Ideal.Gen.k0_pay28 (F := Ideal) p (View.ld P (Rect.unit (s := S2x1024) ![0, 0] ![1, 1024] hP)) x
      = xnTile X P ((Rect.unit (s := S512x1024) ![o, 0] ![256, 1024] hX).emb x) := by
  rw [Cert.Ffn.xn_pay]
  unfold xnTile
  congr 1
  · funext k
    refine (hp (x 0) k).trans (congrArg X (funext fun a => Fin.ext ?_))
    fin_cases a <;> simp [ValueKit.rect_emb_unit_val, ix2]
  · funext k
    refine View.ld_unit_apply_of _ _ _ _ _ _ fun a => ?_
    fin_cases a <;> simp [ix2]
  · apply Fin.ext
    simp [ValueKit.rect_emb_unit_val]

end Cert.AttnOut
-- ==== Proof.AttnOutPoints.lean ====
module
public import proofs.«01_k».proof.Proof.AttnOutPieces
public import Idealize.ShloMosaic.Lib.Pipeline.ReadBack
public import proofs.«01_k».proof.Proof.Gen.Kernel3Ideal.Value
@[expose] public section

/-! # What the call `attn_out_ffn` leaves at each grid point

As for the plain feed-forward call, with the projected rows in the place of the input rows. -/

noncomputable section
namespace Cert.AttnOut
open Idealize.ShloMosaic Cert.Kernel3Ideal Cert.Kernel3Ideal.Gen
open Cert.Ffn (rms xnTile ffnTile outTile slot)

variable (m : (ℓ : Loc nD τ sig) → Buf (Elt Ideal) ℓ) (c : Dev nD)

/-- The projected tile of a point. -/
abbrev hTile (t : Fin cfg0.N) : Vec Ideal S512x1024 .f32 :=
  projTile (iblk m c 1 t) (iblk m c 0 t) (iblk m c 2 t) (iblk m c 3 t)

/-- The two loaded halves, projected, are the halves of that tile. -/
theorem lower_half (t : Fin cfg0.N) (hX hA) (r : Fin 256) (k : Fin 1024) :
    k0_pay9 (F := Ideal) (View.ld (iblk m c 1 t) (Rect.unit (s := S512x1024) ![0, 0] ![256, 1024] hX))
        (View.ld (iblk m c 0 t) (Rect.unit (s := S512x1024) ![0, 0] ![256, 1024] hA)) (iblk m c 3 t) (iblk m c 2 t)
        (ix2 r k)
      = hTile m c t (ix2 ⟨r.val, by omega⟩ k) := by
  rw [proj_piece _ _ _ _ 0 (by omega)]
  exact congrArg (hTile m c t) (congrArg (ix2 · k) (Fin.ext (by simp)))
theorem upper_half (t : Fin cfg0.N) (hX hA) (r : Fin 256) (k : Fin 1024) :
    k0_pay9 (F := Ideal) (View.ld (iblk m c 1 t) (Rect.unit (s := S512x1024) ![256, 0] ![256, 1024] hX))
        (View.ld (iblk m c 0 t) (Rect.unit (s := S512x1024) ![256, 0] ![256, 1024] hA)) (iblk m c 3 t) (iblk m c 2 t)
        (ix2 r k)
      = hTile m c t (ix2 ⟨256 + r.val, by omega⟩ k) :=
  proj_piece _ _ _ _ 256 (by omega) _ _ r k

/-- The middle points: the normalised tile left. -/
theorem xn_B (t : Fin cfg0.N) (h0 : ¬t.val % 130 = 0) (h1 : 1 ≤ t.val % 130 ∧ t.val % 130 ≤ 128)
    (h2 : ¬t.val % 130 = 129) :
    (outsAt0 m c t.val t.isLt).2.2.1 = xnTile (hTile m c t) (iblk m c 4 t) := by
  rw [outsAt0_B m c t h0 h1 h2]
  frame_out
  funext y
  refine View.canon_apply_of_pieces (xnTile (hTile m c t) (iblk m c 4 t)) _ ?_ y ?_
  · simp only [List.forall_mem_cons]
    exact ⟨fun x => xn_piece _ _ _ 256 (by omega) _ _ (upper_half m c t _ _) x,
      fun x => xn_piece _ _ _ 0 (by omega) _ _ (fun r k => proj_piece _ _ _ _ 0 (by omega) _ _ r k) x, by simp⟩
  · exact View.cover_of_tiledL (s := S512x1024) _ S256x1024.size (by sl_kernel_rfl) y

/-- The first point: the normalised tile left. -/
theorem xn_A (t : Fin cfg0.N) (h0 : t.val % 130 = 0) (h1 : ¬(1 ≤ t.val % 130 ∧ t.val % 130 ≤ 128))
    (h2 : ¬t.val % 130 = 129) :
    (outsAt0 m c t.val t.isLt).2.2.1 = xnTile (hTile m c t) (iblk m c 4 t) := by
  rw [outsAt0_A m c t h0 h1 h2]
  frame_out
  funext y
  refine View.canon_apply_of_pieces (xnTile (hTile m c t) (iblk m c 4 t)) _ ?_ y ?_
  · simp only [List.forall_mem_cons]
    exact ⟨fun x => xn_piece _ _ _ 256 (by omega) _ _ (upper_half m c t _ _) x,
      fun x => xn_piece _ _ _ 0 (by omega) _ _ (fun r k => proj_piece _ _ _ _ 0 (by omega) _ _ r k) x, by simp⟩
  · exact View.cover_of_tiledL (s := S512x1024) _ S256x1024.size (by sl_kernel_rfl) y

/-- The middle points: the gated layer of the normalised tile the point before left. -/
theorem ffn_B (t : Fin cfg0.N) (h0 : ¬t.val % 130 = 0) (h1 : 1 ≤ t.val % 130 ∧ t.val % 130 ≤ 128)
    (h2 : ¬t.val % 130 = 129) (h) :
    (outsAt0 m c t.val t.isLt).2.2.2
      = ffnTile (outsAt0 m c (t.val - 1) h).2.2.1 (iblk m c 5 t) (iblk m c 6 t) (iblk m c 7 t) := by
  rw [outsAt0_B m c t h0 h1 h2]
  frame_out [read_unread_whole]
  exact Cert.Ffn.ffn_piece _ _ _ _ _ _ _ _ _ _ _ _ _ _ _ _

/-- The middle points: the tile goes to its slot of the ring, the other slots keep what they held. -/
theorem ring_B (t : Fin cfg0.N) (h0 : ¬t.val % 130 = 0) (h1 : 1 ≤ t.val % 130 ∧ t.val % 130 ≤ 128)
    (h2 : ¬t.val % 130 = 129) (h) (i : S3x512x1024.Idx) :
    (outsAt0 m c t.val t.isLt).2.1 i
      = if (i 0).val = t.val % 3 then hTile m c t (ix2 (i 1) (i 2))
        else (outsAt0 m c (t.val - 1) h).2.1 i := by
  rw [outsAt0_B m c t h0 h1 h2]
  frame_out
  refine (Cert.Ffn.ring_put_of (View.whole cc0_scratch0) _ (hTile m c t) t.val _ _ (off7_eq t) (off8_eq t) _ _ _ _
    (fun r k => (ring_pay _ _).trans (lower_half m c t _ _ r k))
    (fun r k => (ring_pay _ _).trans (upper_half m c t _ _ r k)) [] i).trans ?_
  simp only [View.writes_nil, read_unread_whole]

/-- The first point: the tile goes to slot 0 of the ring. -/
theorem ring_A (t : Fin cfg0.N) (h0 : t.val % 130 = 0) (h1 : ¬(1 ≤ t.val % 130 ∧ t.val % 130 ≤ 128))
    (h2 : ¬t.val % 130 = 129) (i : S3x512x1024.Idx) (hi : (i 0).val = t.val % 3) :
    (outsAt0 m c t.val t.isLt).2.1 i = hTile m c t (ix2 (i 1) (i 2)) := by
  rw [outsAt0_A m c t h0 h1 h2]
  frame_out
  rw [← View.read_writes_junk_eq_canon (View.whole cc0_scratch0)]
  refine (Cert.Ffn.ring_put_of (View.whole cc0_scratch0) _ (hTile m c t) t.val _ _ (off1_eq t) (off2_eq t) _ _ _ _
    (fun r k => (ring_pay _ _).trans (lower_half m c t _ _ r k))
    (fun r k => (ring_pay _ _).trans (upper_half m c t _ _ r k)) _ i).trans ?_
  rw [if_pos hi]

/-- The middle points: the output tile, from the ring and the gated layer the point before left. -/
theorem out_B (t : Fin cfg0.N) (h0 : ¬t.val % 130 = 0) (h1 : 1 ≤ t.val % 130 ∧ t.val % 130 ≤ 128)
    (h2 : ¬t.val % 130 = 129) (h) :
    (outsAt0 m c t.val t.isLt).1
      = outTile (outsAt0 m c (t.val - 1) h).2.1 (slot (t.val + 1)) (outsAt0 m c (t.val - 1) h).2.2.2
          (iblk m c 4 t) := by
  rw [outsAt0_B m c t h0 h1 h2]
  frame_out [read_unread_whole]
  funext y
  refine View.canon_apply_of_pieces (outTile _ _ _ _) _ ?_ y ?_
  · simp only [List.forall_mem_cons]
    exact ⟨fun x => Cert.Ffn.out_piece _ _ _ _ 384 _ (off6_eq t) _ _ _ x,
      fun x => Cert.Ffn.out_piece _ _ _ _ 256 _ (off5_eq t) _ _ _ x,
      fun x => Cert.Ffn.out_piece _ _ _ _ 128 _ (off4_eq t) _ _ _ x,
      fun x => Cert.Ffn.out_piece _ _ _ _ 0 _ (off3_eq t) _ _ _ x, by simp⟩
  · exact View.cover_of_tiledL (s := S512x1024) _ S128x1024.size (by sl_kernel_rfl) y

/-- The last point: the output tile, likewise. -/
theorem out_C (t : Fin cfg0.N) (h0 : ¬t.val % 130 = 0) (h1 : ¬(1 ≤ t.val % 130 ∧ t.val % 130 ≤ 128))
    (h2 : t.val % 130 = 129) (h) :
    (outsAt0 m c t.val t.isLt).1
      = outTile (outsAt0 m c (t.val - 1) h).2.1 (slot (t.val + 1)) (outsAt0 m c (t.val - 1) h).2.2.2
          (iblk m c 4 t) := by
  rw [outsAt0_C m c t h0 h1 h2]
  frame_out [read_unread_whole]
  funext y
  refine View.canon_apply_of_pieces (outTile _ _ _ _) _ ?_ y ?_
  · simp only [List.forall_mem_cons]
    exact ⟨fun x => Cert.Ffn.out_piece _ _ _ _ 384 _ (off12_eq t) _ _ _ x,
      fun x => Cert.Ffn.out_piece _ _ _ _ 256 _ (off11_eq t) _ _ _ x,
      fun x => Cert.Ffn.out_piece _ _ _ _ 128 _ (off10_eq t) _ _ _ x,
      fun x => Cert.Ffn.out_piece _ _ _ _ 0 _ (off9_eq t) _ _ _ x, by simp⟩
  · exact View.cover_of_tiledL (s := S512x1024) _ S128x1024.size (by sl_kernel_rfl) y

end Cert.AttnOut
-- ==== Proof.AttnOutArray.lean ====
module
public import proofs.«01_k».proof.Proof.AttnOutPoints
public import proofs.«01_k».proof.Proof.FfnArray
@[expose] public section

/-! # What the result array of the call `attn_out_ffn` holds

The feed-forward block, with the last layer's second set of weights, of the projected rows. -/

noncomputable section
namespace Cert.AttnOut
open Idealize.ShloMosaic Idealize.ShloMosaic.TcCoe Idealize.SL.Sem Cert.Kernel3Ideal Cert.Kernel3Ideal.Gen
open Idealize.ShloMosaic.Pipeline (Dat)
open Cert.Ffn (rms xnTile ffnTile outTile slot rowOf tile_block)

variable (m : (ℓ : Loc nD τ sig) → Buf (Elt Ideal) ℓ) (ρ : Dev nD → PrngReg) (c : Dev nD)

/-- The residual plus the normalised projection, for every row. -/
def projected (a : Vec Ideal S65536x1024 .bf16) (x : Vec Ideal S65536x1024 .f32) (ga : Vec Ideal S1024 .f32)
    (wa : Vec Ideal S1024x1024 .f32) : Vec Ideal S65536x1024 .f32 :=
  fun i => proj (fun k => x (ix2 (i 0) k)) (fun k => a (ix2 (i 0) k)) (fun k => ga (ix1 k)) (fun k l => wa (ix2 k l)) (i 1)

/-- The last layer's second set of an up or gate weight, alone in an array of the same shape. -/
def pickUp (w : Vec Ideal S4x2x1024x2816 .f32) : Vec Ideal S4x2x1024x2816 .f32 := fun i => w (ix4 3 1 (i 2) (i 3))
/-- The same for the down weight. -/
def pickDown (w : Vec Ideal S4x2x2816x1024 .f32) : Vec Ideal S4x2x2816x1024 .f32 := fun i => w (ix4 3 1 (i 2) (i 3))

/-- The call's result: the feed-forward block of the projected rows. -/
def wanted (a : Vec Ideal S65536x1024 .bf16) (x : Vec Ideal S65536x1024 .f32) (ga : Vec Ideal S1024 .f32)
    (wa : Vec Ideal S1024x1024 .f32) (g : Vec Ideal S2x1024 .f32) (wg wu : Vec Ideal S4x2x1024x2816 .f32)
    (wd : Vec Ideal S4x2x2816x1024 .f32) : Vec Ideal S65536x1024 .f32 :=
  Cert.Ffn.wanted (projected a x ga wa) g (pickUp wg) (pickUp wu) (pickDown wd)

/-- The block indices of the nine windows at each point. -/
theorem idx0 : ∀ t : Fin cfg0.N, win0_0.index t = ![min t.val 127, 0] := (by decide +kernel : ∀ t : Fin grid0.N, _)
theorem idx1 : ∀ t : Fin cfg0.N, win0_1.index t = ![min t.val 127, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![3, 1, 0, 0] := (by decide +kernel : ∀ t : Fin grid0.N, _)
theorem idx6 : ∀ t : Fin cfg0.N, win0_6.index t = ![3, 1, 0, 0] := (by decide +kernel : ∀ t : Fin grid0.N, _)
theorem idx7 : ∀ t : Fin cfg0.N, win0_7.index t = ![3, 1, 0, 0] := (by decide +kernel : ∀ t : Fin grid0.N, _)
theorem idx8 : ∀ t : Fin cfg0.N, win0_8.index t = ![min (t.val - 2) 127, 0] := (by decide +kernel : ∀ t : Fin grid0.N, _)
theorem flush8 : ∀ t : Fin cfg0.N, (cfg0.win 8).flush t = true → 2 ≤ t.val := (by decide +kernel : ∀ t : Fin grid0.N, _)

/-- What the host code hands over: the converted weights are the weights, and the norm's gains are one row. -/
theorem V0 : (V m c main_v0 : Vec Ideal S4x2x1024x2816 .bf16) = m ((c : Thread nD τ).loc main_arg5) := by
  unfold V
  after_results
  rfl
theorem V1 : (V m c main_v1 : Vec Ideal S4x2x1024x2816 .bf16) = m ((c : Thread nD τ).loc main_arg6) := by
  unfold V
  after_results
  rfl
theorem V2 : (V m c main_v2 : Vec Ideal S4x2x2816x1024 .bf16) = m ((c : Thread nD τ).loc main_arg7) := by
  unfold V
  after_results
  rfl
theorem V3 : (V m c main_v3 : Vec Ideal S1024x1024 .bf16) = m ((c : Thread nD τ).loc main_arg3) := by
  unfold V
  after_results
  rfl
theorem V4 : (V m c main_v4 : Vec Ideal S1x1024 .f32)
    = shapeCast S1x1024 (m ((c : Thread nD τ).loc main_arg2) : Vec Ideal S1024 .f32) shapeCasts_S1024_S1x1024 := by
  unfold V
  after_results
  rfl
theorem V4_at (k : Fin 1024) : (V m c main_v4 : Vec Ideal S1x1024 .f32) (ix2 0 k)
    = (m ((c : Thread nD τ).loc main_arg2) : Vec Ideal S1024 .f32) (ix1 k) := by
  rw [V4]
  pointwise

/-- The eight input blocks at a point, read off the arrays. -/
theorem in0 (t : Fin cfg0.N) (i : S512x1024.Idx) (h : t.val ≤ 127) :
    (iblk m c 0 t : Vec Ideal S512x1024 .bf16) i
      = (m ((c : Thread nD τ).loc main_arg0) : Vec Ideal S65536x1024 .bf16)
          (ix2 ⟨t.val * 512 + (i 0).val, by have : (i 0).val < 512 := (i 0).isLt; omega⟩ (i 1)) := by
  rw [← V_main_arg0 m c]
  have e := idx0 t
  rw [Nat.min_eq_left h] at e
  blk_ext [iblk, e]
theorem in1 (t : Fin cfg0.N) (i : S512x1024.Idx) (h : t.val ≤ 127) :
    (iblk m c 1 t : Vec Ideal S512x1024 .f32) i
      = (m ((c : Thread nD τ).loc main_arg1) : Vec Ideal S65536x1024 .f32)
          (ix2 ⟨t.val * 512 + (i 0).val, by have : (i 0).val < 512 := (i 0).isLt; omega⟩ (i 1)) := by
  rw [← V_main_arg1 m c]
  have e := idx1 t
  rw [Nat.min_eq_left h] at e
  blk_ext [iblk, e]
theorem in2 (t : Fin cfg0.N) (k : Fin 1024) :
    (iblk m c 2 t : Vec Ideal S1x1024 .f32) (ix2 0 k)
      = (m ((c : Thread nD τ).loc main_arg2) : Vec Ideal S1024 .f32) (ix1 k) := by
  rw [← V4_at m c]
  blk_ext [iblk, idx2 t]
theorem in3 (t : Fin cfg0.N) (k l : Fin 1024) :
    (iblk m c 3 t : Vec Ideal S1024x1024 .bf16) (ix2 k l)
      = (m ((c : Thread nD τ).loc main_arg3) : Vec Ideal S1024x1024 .f32) (ix2 k l) := by
  rw [← V3 m c]
  blk_ext [iblk, idx3 t]
theorem in4 (t : Fin cfg0.N) (i : S2x1024.Idx) :
    (iblk m c 4 t : Vec Ideal S2x1024 .f32) i = (m ((c : Thread nD τ).loc main_arg4) : Vec Ideal S2x1024 .f32) i := by
  rw [← V_main_arg4 m c]
  blk_ext [iblk, idx4 t]
theorem in5 (t : Fin cfg0.N) (k : Fin 1024) (f : Fin 2816) :
    (iblk m c 5 t : Vec Ideal S1x1x1024x2816 .bf16) (ix4 0 0 k f)
      = pickUp (m ((c : Thread nD τ).loc main_arg5)) (ix4 0 0 k f) := by
  show _ = (m ((c : Thread nD τ).loc main_arg5) : Vec Ideal S4x2x1024x2816 .f32) (ix4 3 1 k f)
  rw [← V0 m c]
  blk_ext [iblk, idx5 t]
theorem in6 (t : Fin cfg0.N) (k : Fin 1024) (f : Fin 2816) :
    (iblk m c 6 t : Vec Ideal S1x1x1024x2816 .bf16) (ix4 0 0 k f)
      = pickUp (m ((c : Thread nD τ).loc main_arg6)) (ix4 0 0 k f) := by
  show _ = (m ((c : Thread nD τ).loc main_arg6) : Vec Ideal S4x2x1024x2816 .f32) (ix4 3 1 k f)
  rw [← V1 m c]
  blk_ext [iblk, idx6 t]
theorem in7 (t : Fin cfg0.N) (f : Fin 2816) (j : Fin 1024) :
    (iblk m c 7 t : Vec Ideal S1x1x2816x1024 .bf16) (ix4 0 0 f j)
      = pickDown (m ((c : Thread nD τ).loc main_arg7)) (ix4 0 0 f j) := by
  show _ = (m ((c : Thread nD τ).loc main_arg7) : Vec Ideal S4x2x2816x1024 .f32) (ix4 3 1 f j)
  rw [← V2 m c]
  blk_ext [iblk, idx7 t]

/-- A point's projected tile holds the projected rows. -/
theorem hTile_at (n : Nat) (hn : n ≤ 127) (ht : n < cfg0.N) (r : Fin 512) (k : Fin 1024) :
    hTile m c ⟨n, ht⟩ (ix2 r k)
      = projected (m ((c : Thread nD τ).loc main_arg0)) (m ((c : Thread nD τ).loc main_arg1))
          (m ((c : Thread nD τ).loc main_arg2)) (m ((c : Thread nD τ).loc main_arg3)) (ix2 (rowOf n hn r) k) := by
  have ex : ∀ l : Fin 1024, (iblk m c 1 ⟨n, ht⟩ : Vec Ideal S512x1024 .f32) (ix2 r l)
      = (m ((c : Thread nD τ).loc main_arg1) : Vec Ideal S65536x1024 .f32) (ix2 (rowOf n hn r) l) :=
    fun l => in1 m c ⟨n, ht⟩ (ix2 r l) hn
  have ea : ∀ l : Fin 1024, (iblk m c 0 ⟨n, ht⟩ : Vec Ideal S512x1024 .bf16) (ix2 r l)
      = (m ((c : Thread nD τ).loc main_arg0) : Vec Ideal S65536x1024 .bf16) (ix2 (rowOf n hn r) l) :=
    fun l => in0 m c ⟨n, ht⟩ (ix2 r l) hn
  show proj (fun l => (iblk m c 1 ⟨n, ht⟩ : Vec Ideal S512x1024 .f32) (ix2 r l))
      (fun l => (iblk m c 0 ⟨n, ht⟩ : Vec Ideal S512x1024 .bf16) (ix2 r l)) _ _ k = _
  simp only [ex, ea, in2, in3]
  rfl

/-- The normalised tile at any point but the last. -/
theorem xn_at (t : Fin cfg0.N) (h : t.val ≤ 128) :
    (outsAt0 m c t.val t.isLt).2.2.1 = xnTile (hTile m c t) (iblk m c 4 t) := by
  by_cases h0 : t.val = 0
  · exact xn_A m c t (by omega) (by omega) (by omega)
  · exact xn_B m c t (by omega) (by omega) (by omega)

/-- The output tile at any point but the first. -/
theorem out_at (t : Fin cfg0.N) (h : 1 ≤ t.val) (hp) :
    (outsAt0 m c t.val t.isLt).1
      = outTile (outsAt0 m c (t.val - 1) hp).2.1 (slot (t.val + 1)) (outsAt0 m c (t.val - 1) hp).2.2.2
          (iblk m c 4 t) := by
  have hN : cfg0.N = 130 := N_0
  have := t.isLt
  by_cases h0 : t.val = 129
  · exact out_C m c t (by omega) (by omega) (by omega) hp
  · exact out_B m c t (by omega) (by omega) (by omega) hp

/-- The ring's slot of the tile a point put there. -/
theorem ring_at (t : Fin cfg0.N) (h : t.val ≤ 128) (i : S3x512x1024.Idx) (hi : (i 0).val = t.val % 3) :
    (outsAt0 m c t.val t.isLt).2.1 i = hTile m c t (ix2 (i 1) (i 2)) := by
  by_cases h0 : t.val = 0
  · exact ring_A m c t (by omega) (by omega) (by omega) i hi
  · have hN : cfg0.N = 130 := N_0
    rw [ring_B m c t (by omega) (by omega) (by omega) (by have := t.isLt; omega) i, if_pos hi]

/-- From point 2 on, the output tile is the result's rows taken in two points before. -/
theorem out_tile (n : Nat) (hn : n ≤ 127) (ht : n + 2 < cfg0.N) (i : S512x1024.Idx) :
    (outsAt0 m c (n + 2) ht).1 i
      = wanted (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (ix2 (rowOf n hn (i 0)) (i 1)) := by
  have hb : n + 1 < cfg0.N := by omega
  have ha : n < cfg0.N := by omega
  have e2 := out_at m c ⟨n + 2, ht⟩ (by simp only []; omega) hb
  have e1 := ffn_B m c ⟨n + 1, hb⟩ (by simp only []; omega) (by simp only []; omega) (by simp only []; omega) ha
  have e0 := xn_at m c ⟨n, ha⟩ (by simp only []; omega)
  have r1 := ring_B m c ⟨n + 1, hb⟩ (by simp only []; omega) (by simp only []; omega) (by simp only []; omega) ha
  have r0 := ring_at m c ⟨n, ha⟩ (by simp only []; omega)
  dsimp only at e2 e1 e0 r1 r0
  rw [e2]
  rw [show (outsAt0 m c (n + 2 - 1) hb).2.2.2 = (outsAt0 m c (n + 1) hb).2.2.2 from rfl, e1]
  rw [show (outsAt0 m c (n + 1 - 1) ha).2.2.1 = (outsAt0 m c n ha).2.2.1 from rfl, e0]
  refine tile_block _ _ _ _ _ _ _ _ _ _ _ _ _ (rowOf n hn) (fun r k => ?_) (hTile_at m c n hn ha)
    (in4 m c _) (in4 m c _) (in5 m c _) (in6 m c _) (in7 m c _) i
  refine (r1 (ix3 (slot (n + 2 + 1)) r k)).trans ?_
  rw [if_neg (by show ¬ (n + 2 + 1) % 3 = (n + 1) % 3; omega)]
  refine (r0 (ix3 (slot (n + 2 + 1)) r k) (by show (n + 2 + 1) % 3 = n % 3; omega)).trans ?_
  exact hTile_at m c n hn ha r k

/-- The result array after the run. -/
theorem array_eq : (dats m 0 c).arrAt 8 cfg0.N
    = wanted (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  have hc : (cfg0.win 8).Covers := by decide +kernel
  refine (dats m 0 c).arrAt_eq_of_cover 8 _ (fun t hf => ?_) (hc.cover _ (Memref.isWhole_whole _))
  have h2 := flush8 t hf
  have ht : t.val < 130 := lt_of_lt_of_eq t.isLt N_0
  have e := idx8 t
  rw [Nat.min_eq_left (by omega)] at e
  rw [Cert.Kernel3Ideal.Value.flushed8]
  funext y
  obtain ⟨n, hn⟩ : ∃ n, t.val = n + 2 := ⟨t.val - 2, by omega⟩
  obtain ⟨t, htt⟩ := t
  obtain rfl : t = n + 2 := hn
  refine (out_tile m c n (by dsimp only at ht; omega) htt y).trans ?_
  dsimp only at e
  blk_ext [e, rowOf]

/-- The run of the kernel: the result is the block of every projected row, the arguments are unchanged. -/
theorem run_kernel : θ_run defs (onTc (τ := τ) (main (F := Ideal))) ⟨m, fun _ => 0, ρ⟩ fun r => ∀ c : Dev nD,
    r.2.mem ((c : Thread nD τ).loc main_v5)
      = wanted (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun _ h c => ⟨(h c).1.trans (array_eq m c), (h c).2⟩) (Cert.Kernel3Ideal.Value.run_blocks m ρ)

end Cert.AttnOut
-- ==== Proof.AttnOutReference.lean ====
module
public import proofs.«01_k».proof.Proof.FfnReference
public import proofs.«01_k».proof.Proof.AttnOutArray
public import proofs.«01_k».proof.Proof.Gen.Reference3Ideal.Read
@[expose] public section

/-! # What the reference of the last half step computes

Behind the projected rows it is the reference of the plain feed-forward call, with the last layer's weights. -/

noncomputable section
namespace Cert.AttnOut.Ref
open Idealize.ShloMosaic Cert.Reference3Ideal Cert.Reference3Ideal.Gen Cert.Reference3Ideal.Read
open Cert.AttnOut (proj projected pickUp pickDown wanted)
open Cert.Ffn (rms)
open Cert.Ffn.Ref (w_zero)

variable (a : Vec Ideal S65536x1024 .bf16) (x : Vec Ideal S65536x1024 .f32) (ga : Vec Ideal S1024 .f32)
    (wa : Vec Ideal S1024x1024 .f32) (g : Vec Ideal S2x1024 .f32) (wg wu : Vec Ideal S4x2x1024x2816 .f32)
    (wd : Vec Ideal S4x2x2816x1024 .f32)

/-- The projection of the attention's output. -/
theorem dot_at (r : Fin 65536) (j : Fin 1024) :
    val_main_v1 (F := Ideal) a wa (ix2 r j) = ∑ k : Fin 1024, a (ix2 r k) * wa (ix2 k j) := by
  have el : ∀ k : Fin 1024, lidx_main_v1 (ix2 r j) k = ix2 r k := fun k => by funext a; fin_cases a <;> rfl
  have er : ∀ k : Fin 1024, ridx_main_v1 (ix2 r j) k = ix2 k j := fun k => by funext a; fin_cases a <;> rfl
  rw [val_main_v1_apply]
  simp only [el, er]
  rfl

/-- The projected rows. -/
theorem projected_at (r : Fin 65536) (j : Fin 1024) :
    val_main_v15 (F := Ideal) a x ga wa (ix2 r j) = projected a x ga wa (ix2 r j) := by
  have e : ∀ l : Fin 1024, idx_main_v3 (idx_main_v4 (idx_main_v10 (ix2 r j))) l = ix2 r l := fun l => by
    funext a; fin_cases a <;> rfl
  have eg : idx_main_v12 (idx_main_v13 (ix2 r j)) = ix1 j := by funext a; fin_cases a; rfl
  rw [val_main_v15_apply, val_main_v14_apply, val_main_v13_apply, val_main_v12_apply, eg, val_main_v11_apply,
    val_main_v10_apply, val_main_v9_apply, val_main_v8_apply, val_main_v6_apply, val_main_v7_apply,
    val_main_v5_apply, val_main_v4_apply, val_main_v3_apply]
  simp only [e, dot_at, val_main_v2_apply, val_main_cst_apply, val_main_cst_0_apply, val_main_cst_1_apply,
    Ideal.ofBits_def, w_zero, zero_add]
  rfl

/-- The last layer's second sets, cut out of the weights. -/
theorem wg_eq : val_main_v32 (F := Ideal) wg = Cert.Reference2Ideal.Read.val_main_v16 (pickUp wg) := by
  funext i
  obtain ⟨k, f, rfl⟩ : ∃ (k : Fin 1024) (f : Fin 2816), i = ix2 k f := ⟨i 0, i 1, eq_ix2 i⟩
  refine Eq.trans ?_ (Cert.Ffn.Ref.wg_at _ k f).symm
  rw [val_main_v32_apply, val_main_v31_apply]
  refine congrArg wg (funext fun a => Fin.ext ?_)
  fin_cases a <;> simp [ix2, ix4] <;> omega
theorem wu_eq : val_main_v36 (F := Ideal) wu = Cert.Reference2Ideal.Read.val_main_v20 (pickUp wu) := by
  funext i
  obtain ⟨k, f, rfl⟩ : ∃ (k : Fin 1024) (f : Fin 2816), i = ix2 k f := ⟨i 0, i 1, eq_ix2 i⟩
  refine Eq.trans ?_ (Cert.Ffn.Ref.wu_at _ k f).symm
  rw [val_main_v36_apply, val_main_v35_apply]
  refine congrArg wu (funext fun a => Fin.ext ?_)
  fin_cases a <;> simp [ix2, ix4] <;> omega
theorem wd_eq : val_main_v40 (F := Ideal) wd = Cert.Reference2Ideal.Read.val_main_v24 (pickDown wd) := by
  funext i
  obtain ⟨k, f, rfl⟩ : ∃ (k : Fin 2816) (f : Fin 1024), i = ix2 k f := ⟨i 0, i 1, eq_ix2 i⟩
  refine Eq.trans ?_ (Cert.Ffn.Ref.wd_at _ k f).symm
  rw [val_main_v40_apply, val_main_v39_apply]
  refine congrArg wd (funext fun a => Fin.ext ?_)
  fin_cases a <;> simp [ix2, ix4] <;> omega

/-- Behind the projected rows the reference is the plain one. -/
theorem tail_eq : val_main_v59 (F := Ideal) a x ga wa g wg wu wd
    = Cert.Reference2Ideal.Read.val_main_v43 (val_main_v15 (F := Ideal) a x ga wa) g (pickUp wg) (pickUp wu)
        (pickDown wd) := by
  have e33 : val_main_v33 (F := Ideal) a x ga wa g wg
      = Cert.Reference2Ideal.Read.val_main_v17 (val_main_v15 (F := Ideal) a x ga wa) g (pickUp wg) := by
    unfold val_main_v33; rw [wg_eq]; rfl
  have e37 : val_main_v37 (F := Ideal) a x ga wa g wu
      = Cert.Reference2Ideal.Read.val_main_v21 (val_main_v15 (F := Ideal) a x ga wa) g (pickUp wu) := by
    unfold val_main_v37; rw [wu_eq]; rfl
  have e38 : val_main_v38 (F := Ideal) a x ga wa g wg wu
      = Cert.Reference2Ideal.Read.val_main_v22 (val_main_v15 (F := Ideal) a x ga wa) g (pickUp wg) (pickUp wu) := by
    unfold val_main_v38 val_main_v34 val_main_call0_v5 val_main_call0_v3 val_main_call0_v1 val_main_call0_v0
    rw [e33, e37]; rfl
  have e41 : val_main_v41 (F := Ideal) a x ga wa g wg wu wd
      = Cert.Reference2Ideal.Read.val_main_v25 (val_main_v15 (F := Ideal) a x ga wa) g (pickUp wg) (pickUp wu)
          (pickDown wd) := by
    unfold val_main_v41; rw [wd_eq, e38]; rfl
  unfold val_main_v59 val_main_v58 val_main_v56 val_main_v53 val_main_v52 val_main_v51 val_main_v50 val_main_v48
    val_main_v46 val_main_v45 val_main_v44
  rw [e41]; rfl

/-- The reference's result array is the kernel's. -/
theorem reference_eq : val_main_v59 (F := Ideal) a x ga wa g wg wu wd = wanted a x ga wa g wg wu wd := by
  have e : val_main_v15 (F := Ideal) a x ga wa = projected a x ga wa := by
    funext i
    rw [eq_ix2 i]
    exact projected_at a x ga wa (i 0) (i 1)
  rw [tail_eq, e]
  funext i
  rw [eq_ix2 i]
  exact Cert.Ffn.Ref.block_at _ _ _ _ _ (i 0) (i 1)

end Cert.AttnOut.Ref
-- ==== Proof.AttnOutClaim.lean ====
/- The claims about the last layer's call: its frames, and that its result is the output projection and the second
feed-forward half step for every row. -/
module

public import proofs.«01_k».proof.Defs
public import proofs.«01_k».proof.Proof.AttnOutArray
public import proofs.«01_k».proof.Proof.AttnOutReference
public import proofs.«01_k».proof.Proof.Gen.Kernel3.Frame
public import proofs.«01_k».proof.Proof.Gen.Kernel3Ideal.Frame
public import proofs.«01_k».proof.Proof.Gen.Reference3Ideal.Read
public import Idealize.ShloMosaic.Lib.Quiescent

@[expose] public section

noncomputable section

namespace Cert.AttnOut.Claims

open Idealize.ShloMosaic Idealize.ShloMosaic.TcCoe Idealize.SL.Sem

/-- The call as printed leaves its arguments alone and its counters at zero. -/
theorem frame_kernel : Cert.quiescent_Kernel3 := fun m ρ _ => Cert.Kernel3.Gen.frame m ρ

/-- So does its idealization. -/
theorem frame_ideal : Cert.quiescent_Kernel3Ideal := fun m ρ _ => Cert.Kernel3Ideal.Gen.frame m ρ

/-- So does the reference, which is host code and has no counter at all. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the call and its reference end with the same array. -/
theorem algebraic : Cert.algebraic_Kernel3Ideal_Reference3Ideal := by
  intro m ρ m' ρ' _ hagree
  refine ⟨fun c => wanted (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
    (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))
    (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5))
    (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)), run_kernel m ρ, ?_⟩
  refine (θ_run Cert.Reference3Ideal.defs _ _).mono (fun _ h c => ⟨(h c).1.trans ?_, (h c).2⟩)
    (Cert.Reference3Ideal.Value.run (F := Ideal) m' ρ')
  obtain ⟨e0, e1, e2, e3, e4, e5, e6, e7⟩ := hagree c
  rw [Cert.Reference3Ideal.Read.val_main_v59_eq, e0, e1, e2, e3, e4, e5, e6, e7]
  exact Cert.AttnOut.Ref.reference_eq _ _ _ _ _ _ _ _

end Cert.AttnOut.Claims

end
-- ==== Proof.S5Row.lean ====
module
public import proofs.«01_k».proof.Proof.NaValue
@[expose] public section

/-! # A row projected and then normalised, or normalised and then projected

The call `s5_in` projects a row times the norm's weights and scales the result by the row's inverse root mean square; the
reference normalises first. Over the extended reals both are the same whatever the entries are, since the inverse root
mean square is always a real number that is not negative. -/

noncomputable section
namespace Cert.S5
open Idealize.ShloMosaic
open Cert.Na (inv inv_real inv_inf)
open Cert.Ffn (rms)

/-- Column `j` of a row's projection, as the call computes it. -/
def projRow (x g : Fin 1024 → EReal) (w : Fin 1024 → Fin 1024 → EReal) (j : Fin 1024) : EReal :=
  (∑ k, x k * g k * w k j) * inv x

/-- The inverse root mean square of any row. -/
theorem inv_any (x : Fin 1024 → EReal) : ∃ s : ℝ, 0 ≤ s ∧ inv x = s := by
  by_cases hx : ∀ k, ∃ r : ℝ, x k = r
  · choose X hX using hx
    obtain rfl : x = fun k => (X k : EReal) := funext hX
    exact inv_real X
  · obtain ⟨k, hk⟩ := not_forall.1 hx
    exact ⟨0, le_rfl, inv_inf x k hk⟩

/-- Scaling by a real that is not negative goes through a sum. -/
theorem sum_scale {ι : Type} (t : Finset ι) (f : ι → EReal) (s : ℝ) (hs : 0 ≤ s) :
    (∑ i ∈ t, f i) * (s : EReal) = ∑ i ∈ t, f i * (s : EReal) := by
  classical
  induction t using Finset.induction_on with
  | empty => simp
  | insert a t h ih =>
    rw [Finset.sum_insert h, Finset.sum_insert h,
      EReal.right_distrib_of_nonneg_of_ne_top (EReal.coe_nonneg.2 hs) (EReal.coe_ne_top s), ih]

/-- Normalised before or after, the projection is the same. -/
theorem projRow_eq (x g : Fin 1024 → EReal) (w : Fin 1024 → Fin 1024 → EReal) (j : Fin 1024) :
    projRow x g w j = ∑ k, rms x g k * w k j := by
  obtain ⟨s, hs, e⟩ := inv_any x
  unfold projRow
  rw [e, sum_scale _ _ _ hs]
  refine Finset.sum_congr rfl fun k _ => ?_
  show _ = x k * inv x * g k * w k j
  rw [e, mul_right_comm (x k) (s : EReal) (g k), mul_right_comm (x k * g k)]

end Cert.S5
-- ==== Proof.S5Tile.lean ====
module
public import proofs.«01_k».proof.Proof.S5Row
public import proofs.«01_k».proof.Proof.Gen.Kernel4Ideal.Value
@[expose] public section

/-! # The projection's tile: rows laid in order of time through a strided scratch

A tile of 128 tokens of each of the eight sequences goes into the scratch a sequence and 128 lanes at a time, every eighth
row, so that row `8 t + b` of the scratch is token `t` of sequence `b`. What the call stores is `projRow` of those rows. -/

noncomputable section
namespace Cert.S5
open Idealize.ShloMosaic Cert.Kernel4Ideal Cert.Kernel4Ideal.Gen Idealize.ShloMosaic.TcCoe
open Cert.Na (inv)

/-- The rows of a tile in order of time. -/
def timed (X : Vec Ideal S8x128x1024 .f32) (r k : Fin 1024) : EReal :=
  X (ix3 ⟨r.val % 8, by omega⟩ ⟨r.val / 8, by omega⟩ k)

/-- What the scratch holds once it is full: 128 lanes of those rows at a time. -/
def slabOf (X : Vec Ideal S8x128x1024 .f32) : Vec Ideal S8x1024x128 .f32 := fun y =>
  timed X (y 1) ⟨128 * (y 0).val + (y 2).val, by
    have h0 : (y 0).val < 8 := (y 0).isLt
    have h2 : (y 2).val < 128 := (y 2).isLt
    omega⟩

/-- A tile of rows projected. -/
def tileOf (X : Vec Ideal S8x128x1024 .f32) (G : Vec Ideal S1x1024 .f32) (W : Vec Ideal S1024x1024 .bf16) :
    Vec Ideal S1024x1024 .bf16 :=
  fun i => projRow (timed X (i 0)) (fun k => G (ix2 0 k)) (fun k j => W (ix2 k j)) (i 1)

/-- The rectangle that sequence `b` takes of lanes `s` of the scratch. -/
def slabRect (s b : Fin 8) : Rect S8x1024x128 where
  off := ![s.val, b.val, 0]
  size := S1x128x128.size
  stride := ![1, 8, 1]
  inb a := by
    have := s.isLt; have := b.isLt
    fin_cases a
    · exact Or.inr (show s.val + 1 * (1 - 1) < 8 by omega)
    · exact Or.inr (show b.val + 8 * (128 - 1) < 1024 by omega)
    · exact Or.inr (show 0 + 1 * (128 - 1) < 128 by omega)
  stride_pos a := by fin_cases a <;> decide

/-- Where sequence `b`'s lanes `s` lie in the input block. -/
theorem src_inb (s b : Fin 8) : ∀ a : Fin 3, (![b.val, 0, 128 * s.val] : Fin 3 → ℕ) a + S1x128x128.size a ≤ S8x128x1024.size a := by
  have := s.isLt; have := b.isLt
  intro a
  fin_cases a
  · show b.val + 1 ≤ 8; omega
  · show 0 + 128 ≤ 128; omega
  · show 128 * s.val + 128 ≤ 1024; omega

variable (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S8x1024x128 .f32) (harg5 : arg5.IsWhole)
  (X : Vec Ideal S8x128x1024 .f32) (G : Vec Ideal S1x1024 .f32) (W : Vec Ideal S1024x1024 .bf16)

/-- Reading a rectangle of a whole buffer reads its contents there. -/
theorem ld_apply {s : Shape} {e : EltTy} {m : Memref sig .tc .vmem s e} (h : m.IsWhole) (X : s.Idx → Elt Ideal e)
    (off size inb) (x : (Rect.unit (s := s) off size inb).shape.Idx) (i : s.Idx) (hi : ∀ a, (i a : Nat) = off a + x a) :
    m.view.readAt (Elt Ideal) (Rect.unit (s := s) off size inb).toLoadRect (h.unread X) x = X i :=
  (h.readAt_unread X _ x).trans (View.ld_unit_apply_of X off size inb x i hi)

/-- What is stored there. -/
def slabPiece (s b : Fin 8) : View.Piece (Elt Ideal) S8x1024x128 .f32 :=
  ⟨slabRect s b, k0_pay1 (F := Ideal) (arg1.view.readAt (Elt Ideal)
    (Rect.unit (s := S8x128x1024) ![b.val, 0, 128 * s.val] S1x128x128.size (src_inb s b)).toLoadRect (harg1.unread X))⟩

/-- Where an entry of such a rectangle lies. -/
theorem slab_emb (s b : Fin 8) (x : S1x128x128.Idx) (r : Fin 1024) (l : Fin 128) (hr : r.val = b.val + 8 * (x 1).val)
    (hl : l.val = (x 2).val) : (slabRect s b).emb x = ix3 s r l := by
  have h0 : (x 0).val < 1 := (x 0).isLt
  funext a
  refine Fin.ext ?_
  fin_cases a
  · show s.val + 1 * (x 0).val = s.val; omega
  · show b.val + 8 * (x 1).val = r.val; omega
  · show 0 + 1 * (x 2).val = l.val; omega

/-- Each of these stores leaves the rows in order of time. -/
theorem slabPiece_apply (s b : Fin 8) (x : S1x128x128.Idx) :
    (slabPiece arg1 harg1 X s b).2 x = slabOf X ((slabRect s b).emb x) := by
  obtain ⟨z, r, l, rfl⟩ : ∃ (z : Fin 1) (r l : Fin 128), x = ix3 z r l := ⟨x 0, x 1, x 2, eq_ix3 x⟩
  have hb := b.isLt
  have hs := s.isLt
  rw [slab_emb s b _ ⟨b.val + 8 * r.val, by omega⟩ l rfl rfl]
  unfold slabPiece k0_pay1
  dsimp only
  rw [shapeCast_apply _ _ _ (ix2 r l) (by
      rewrite [Shape.rowMajor_val_two, Shape.rowMajor_val_three]
      show r.val * 128 + l.val = (z.val * 128 + r.val) * 128 + l.val; omega),
    shapeCast_apply _ _ _ (ix3 0 r l) (by
      rewrite [Shape.rowMajor_val_two, Shape.rowMajor_val_three]
      show (0 * 128 + r.val) * 128 + l.val = r.val * 128 + l.val; omega)]
  refine ld_apply harg1 X _ _ _ _ _ fun a => ?_
  fin_cases a
  · show (b.val + 8 * r.val) % 8 = b.val + 0; omega
  · show (b.val + 8 * r.val) / 8 = 0 + r.val; omega
  · show 128 * s.val + l.val = 128 * s.val + l.val; rfl

set_option maxRecDepth 65536 in
/-- The scratch's 64 stores are those. -/
theorem pieces_eq : kernelRun0_A.sl.HS0_64 (F := Ideal) c arg1 harg1 X
    = (List.finRange 64).map fun n => slabPiece arg1 harg1 X ⟨7 - n.val % 8, by omega⟩ ⟨7 - n.val / 8, by omega⟩ := rfl

/-- So a read of the full scratch reads the rows in order of time. -/
theorem slab_read (s : Fin 8) (inb) (r : Fin 1024) (l : Fin 128) :
    arg5.view.readCov (kernelRun0_A.sl.HS0_64 (F := Ideal) c arg1 harg1 X)
        (Rect.unit (s := S8x1024x128) ![s.val, 0, 0] S1x1024x128.size inb).toLoadRect (ix3 0 r l)
      = timed X r ⟨128 * s.val + l.val, by omega⟩ := by
  have e : (Rect.unit (s := S8x1024x128) ![s.val, 0, 0] S1x1024x128.size inb).toLoadRect.idx (ix3 0 r l) = ix3 s r l := by
    funext a
    refine Fin.ext ?_
    fin_cases a
    · show s.val + 1 * 0 = s.val; omega
    · show 0 + 1 * r.val = r.val; omega
    · show 0 + 1 * l.val = l.val; omega
  rw [View.readCov_eq_canon']
  show View.canon _ _ = slabOf X (ix3 s r l)
  rw [pieces_eq, e]
  refine View.canon_apply_of_pieces (slabOf X) _ (fun p hp => ?_) _ ?_
  · obtain ⟨n, -, rfl⟩ := List.mem_map.1 hp
    exact slabPiece_apply arg1 harg1 X _ _
  · refine ⟨_, List.mem_map.2 ⟨⟨8 * (7 - r.val % 8) + (7 - s.val), by omega⟩, List.mem_finRange _, rfl⟩, ?_⟩
    have hs := s.isLt
    have e1 : (⟨7 - (8 * (7 - r.val % 8) + (7 - s.val)) % 8, by omega⟩ : Fin 8) = s := Fin.ext (by dsimp only; omega)
    have e2 : (⟨7 - (8 * (7 - r.val % 8) + (7 - s.val)) / 8, by omega⟩ : Fin 8) = ⟨r.val % 8, by omega⟩ :=
      Fin.ext (by dsimp only; omega)
    dsimp only
    rw [e1, e2, ← slab_emb s ⟨r.val % 8, by omega⟩ (ix3 0 ⟨r.val / 8, by omega⟩ l) r l (by
      show r.val = r.val % 8 + 8 * (r.val / 8); omega) rfl]
    exact (slabRect s _).toLoadRect.idx_mem _

/-- The eight slabs side by side, and what the call computes of them. -/
theorem pay_apply (v : Fin 8 → Vec Ideal S1x1024x128 .f32) (T : Fin 1024 → Fin 1024 → EReal)
    (hv : ∀ (s : Fin 8) (r : Fin 1024) (l : Fin 128), v s (ix3 0 r l) = T r ⟨128 * s.val + l.val, by omega⟩) (r j : Fin 1024) :
    k0_pay67 (F := Ideal) (k0_pay65 (v 0)) (k0_pay66 (v 1)) (v 2) (v 3) (v 4) (v 5) (v 6) (v 7) G W (ix2 r j)
      = projRow (T r) (fun k => G (ix2 0 k)) (fun k j => W (ix2 k j)) j := by
  have hc : ∀ (h) (r k : Fin 1024), concatenate S1024x1024 1 (List.ofFn fun s : Fin 8 =>
      (⟨S1024x128, shapeCast S1024x128 (v s) shapeCasts_S1x1024x128_S1024x128⟩ : (s : Shape) × (s.Idx → Elt Ideal .f32))) h (ix2 r k)
      = T r k := fun h r k => by
    refine (concatenate_ofFn_apply (1 : Fin S1024x1024.rank) _ h rfl 128 rfl (ix2 r k) ⟨k.val / 128, by omega⟩ rfl
      (ix2 r ⟨k.val % 128, by omega⟩) rfl fun b hb => ?_).trans ?_
    · fin_cases b
      · rfl
      · exact absurd rfl hb
    · rw [shapeCast_apply _ _ _ (ix3 0 r ⟨k.val % 128, by omega⟩) (by
        rewrite [Shape.rowMajor_val_two, Shape.rowMajor_val_three]
        show (0 * 1024 + r.val) * 128 + k.val % 128 = r.val * 128 + k.val % 128; omega), hv]
      exact congrArg (T r) (Fin.ext (by show 128 * (k.val / 128) + k.val % 128 = k.val; omega))
  unfold k0_pay67 k0_pay65 k0_pay66
  dsimp only
  generalize hY : concatenate S1024x1024 1 _ _ = Y
  have hT : ∀ r k : Fin 1024, Y (ix2 r k) = T r k := fun r k => by rw [← hY]; exact hc _ r k
  pointwise
  simp only [hT]
  rfl

/-- The tile is left. -/
theorem out_eq : out0_A_3 (F := Ideal) c i arg1 harg1 arg2 harg2 arg3 harg3 arg4 harg4 arg5 harg5 X G W = tileOf X G W := by
  have hG : ∀ inb (k : Fin 1024), arg2.view.readAt (Elt Ideal) (Rect.unit (s := S1x1024) ![0, 0] S1x1024.size inb).toLoadRect (harg2.unread G) (ix2 0 k) = G (ix2 0 k) :=
    fun inb k => ld_apply harg2 G _ _ _ _ _ fun b => by fin_cases b <;> simp [ix2]
  have hW : ∀ inb (k j : Fin 1024), arg3.view.readAt (Elt Ideal) (Rect.unit (s := S1024x1024) ![0, 0] S1024x1024.size inb).toLoadRect (harg3.unread W) (ix2 k j) = W (ix2 k j) :=
    fun inb k j => ld_apply harg3 W _ _ _ _ _ fun b => by fin_cases b <;> simp [ix2]
  funext y
  unfold out0_A_3
  refine View.read_writes_apply_of_pieces _ _ (tileOf X G W) _ (fun p hp => ?_) y
    (cover0_A_3 c i arg1 harg1 arg2 harg2 arg3 harg3 arg4 harg4 arg5 harg5 X G W y)
  unfold kernelRun0_A at hp
  simp only [List.mem_cons] at hp
  rcases hp with rfl | hp
  · intro x
    obtain ⟨r, j, rfl⟩ : ∃ r j : Fin 1024, x = ix2 r j := ⟨x 0, x 1, eq_ix2 x⟩
    have he : (Rect.unit (s := S1024x1024) ![0, 0] S1024x1024.size inb_S1024x1024_S1024x1024_0_0).emb (ix2 r j) = ix2 r j := by
      funext b; apply Fin.ext
      refine (ValueKit.rect_emb_unit_val _ _ _ _ _).trans ?_
      fin_cases b <;> simp [ix2]
    refine Eq.trans ?_ (congrArg (tileOf X G W) he.symm)
    have inb : ∀ s : Fin 8, ∀ a : Fin 3, (![s.val, 0, 0] : Fin 3 → ℕ) a + S1x1024x128.size a ≤ S8x1024x128.size a :=
      fun s a => by
        have := s.isLt
        fin_cases a
        · show s.val + 1 ≤ 8; omega
        · show 0 + 1024 ≤ 1024; omega
        · show 0 + 128 ≤ 128; omega
    refine (pay_apply _ _ (fun s => arg5.view.readCov (kernelRun0_A.sl.HS0_64 (F := Ideal) c arg1 harg1 X)
        (Rect.unit (s := S8x1024x128) ![s.val, 0, 0] S1x1024x128.size (inb s)).toLoadRect) (timed X)
      (fun s r l => slab_read c arg1 harg1 arg5 X s (inb s) r l) r j).trans ?_
    simp only [hG, hW]
    rfl
  · cases hp

end Cert.S5
-- ==== Proof.S5Array.lean ====
module
public import proofs.«01_k».proof.Proof.S5Tile
public import proofs.«01_k».proof.Proof.Gen.Kernel4Ideal.Value
public import proofs.«01_k».proof.Proof.Gen.Reference4Ideal.Read
public import proofs.«01_k».proof.Proof.FfnReference
@[expose] public section

/-! # The projection's whole result, and the reference's

The tiles cover the result, so row `8 t + b` of the result is `projRow` of token `t` of sequence `b`. The reference
normalises all rows, projects them, and puts them in that order. -/

noncomputable section
namespace Cert.S5
open Idealize.ShloMosaic Cert.Kernel4Ideal Cert.Kernel4Ideal.Gen Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Where token `r / 8` of sequence `r % 8` lies in the input. -/
def source (r : Fin 65536) : Fin 65536 := ⟨r.val % 8 * 8192 + r.val / 8, by omega⟩

/-- The projection of every row, in order of time. -/
def wanted (x : Vec Ideal S65536x1024 .f32) (g : Vec Ideal S1024 .f32) (w : Vec Ideal S1024x1024 .f32) :
    Vec Ideal S65536x1024 .bf16 :=
  fun i => projRow (fun k => x (ix2 (source (i 0)) k)) (fun k => g (ix1 k)) (fun k j => w (ix2 k j)) (i 1)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- What the host hands the call: the rows by sequence, the norm's weights as a row, the weights converted. -/
theorem V0 : (V m c main_v0 : Vec Ideal S8x8192x1024 .f32)
    = shapeCast S8x8192x1024 (m ((c : Thread nD τ).loc main_arg0) : Vec Ideal S65536x1024 .f32) shapeCasts_S65536x1024_S8x8192x1024 := by
  unfold V
  after_results
  rfl
theorem V1 : (V m c main_v1 : Vec Ideal S1x1024 .f32)
    = shapeCast S1x1024 (m ((c : Thread nD τ).loc main_arg1) : Vec Ideal S1024 .f32) shapeCasts_S1024_S1x1024 := by
  unfold V
  after_results
  rfl
theorem V2 : (V m c main_v2 : Vec Ideal S1024x1024 .bf16) = m ((c : Thread nD τ).loc main_arg2) := by
  unfold V
  after_results
  rfl

theorem in0 (t : Fin cfg0.N) (b : Fin 8) (r : Fin 128) (k : Fin 1024) :
    (iblk m c 0 t : Vec Ideal S8x128x1024 .f32) (ix3 b r k)
      = (m ((c : Thread nD τ).loc main_arg0) : Vec Ideal S65536x1024 .f32)
          (ix2 ⟨b.val * 8192 + (t.val * 128 + r.val), by have := lt_of_lt_of_eq t.isLt N_0; omega⟩ k) := by
  have ht : t.val < 64 := lt_of_lt_of_eq t.isLt N_0
  have e : (iblk m c 0 t : Vec Ideal S8x128x1024 .f32) (ix3 b r k)
      = (V m c main_v0 : Vec Ideal S8x8192x1024 .f32) (ix3 b ⟨t.val * 128 + r.val, by omega⟩ k) := by
    blk_ext [iblk, idx0 t]
  rw [e, V0]
  refine shapeCast_apply _ _ _ _ ?_
  show (S65536x1024.rowMajor _).val = _
  rewrite [Shape.rowMajor_val_two, Shape.rowMajor_val_three]
  show (b.val * 8192 + (t.val * 128 + r.val)) * 1024 + k.val = (b.val * 8192 + (t.val * 128 + r.val)) * 1024 + k.val
  rfl
theorem in1 (t : Fin cfg0.N) (k : Fin 1024) :
    (iblk m c 1 t : Vec Ideal S1x1024 .f32) (ix2 0 k) = (m ((c : Thread nD τ).loc main_arg1) : Vec Ideal S1024 .f32) (ix1 k) := by
  have e : (iblk m c 1 t : Vec Ideal S1x1024 .f32) (ix2 0 k) = (V m c main_v1 : Vec Ideal S1x1024 .f32) (ix2 0 k) := by
    blk_ext [iblk, idx1 t]
  rw [e, V1]
  refine shapeCast_apply _ _ _ _ ?_
  show (S1024.rowMajor _).val = _
  rewrite [Shape.rowMajor_val_two, Shape.rowMajor_val_one]
  show k.val = 0 * 1024 + k.val
  omega
theorem in2 (t : Fin cfg0.N) (k j : Fin 1024) :
    (iblk m c 2 t : Vec Ideal S1024x1024 .bf16) (ix2 k j) = (m ((c : Thread nD τ).loc main_arg2) : Vec Ideal S1024x1024 .f32) (ix2 k j) := by
  rw [← V2 m c]
  blk_ext [iblk, idx2 t]

/-- The result array after the run. -/
theorem array_eq : (dats m 0 c).arrAt 3 cfg0.N
    = wanted (m ((c : Thread nD τ).loc main_arg0)) (m ((c : Thread nD τ).loc main_arg1)) (m ((c : Thread nD τ).loc main_arg2)) := by
  have hc : (cfg0.win 3).Covers := by decide +kernel
  refine (dats m 0 c).arrAt_eq_of_cover 3 _ (fun t _ => ?_) (hc.cover _ (Memref.isWhole_whole _))
  have ht : t.val < 64 := lt_of_lt_of_eq t.isLt N_0
  have e := idx3 t
  rw [Cert.Kernel4Ideal.Value.flushed3]
  unfold outsAt0
  rw [out_eq]
  funext y
  obtain ⟨r, j, rfl⟩ : ∃ r j : Fin 1024, y = ix2 r j := ⟨y 0, y 1, eq_ix2 y⟩
  have key : tileOf (iblk m c 0 t) (iblk m c 1 t) (iblk m c 2 t) (ix2 r j)
      = wanted (m ((c : Thread nD τ).loc main_arg0)) (m ((c : Thread nD τ).loc main_arg1)) (m ((c : Thread nD τ).loc main_arg2))
          (ix2 ⟨t.val * 1024 + r.val, by omega⟩ j) := by
    have hs : source ⟨t.val * 1024 + r.val, by omega⟩ = ⟨r.val % 8 * 8192 + (t.val * 128 + r.val / 8), by omega⟩ :=
      Fin.ext (by show (t.val * 1024 + r.val) % 8 * 8192 + (t.val * 1024 + r.val) / 8 = r.val % 8 * 8192 + (t.val * 128 + r.val / 8); omega)
    show projRow (fun k => (iblk m c 0 t : Vec Ideal S8x128x1024 .f32) (ix3 ⟨r.val % 8, by omega⟩ ⟨r.val / 8, by omega⟩ k))
      (fun k => (iblk m c 1 t : Vec Ideal S1x1024 .f32) (ix2 0 k))
      (fun k j => (iblk m c 2 t : Vec Ideal S1024x1024 .bf16) (ix2 k j)) j
      = projRow (fun k => (m ((c : Thread nD τ).loc main_arg0) : Vec Ideal S65536x1024 .f32) (ix2 (source ⟨t.val * 1024 + r.val, by omega⟩) k)) _ _ j
    simp only [in0, in1, in2, hs]
  refine key.trans ?_
  blk_ext [e]

/-- The run of the call: its result is the projection, the arguments are unchanged. -/
theorem run_kernel : θ_run defs (onTc (τ := τ) (main (F := Ideal))) ⟨m, fun _ => 0, ρ⟩ fun r => ∀ c : Dev nD,
    r.2.mem ((c : Thread nD τ).loc main_v3)
      = wanted (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array_eq m c), (h c).2⟩) (Cert.Kernel4Ideal.Value.run_blocks m ρ)

/-! ## The reference -/

section Reference
open Cert.Reference4Ideal.Read
open Cert.Ffn (rms)

variable (x : Vec Ideal S65536x1024 .f32) (g : Vec Ideal S1024 .f32) (w : Vec Ideal S1024x1024 .f32)

theorem by_seq (b : Fin 8) (t : Fin 8192) (k : Fin 1024) :
    val_main_v0 (F := Ideal) x (ix3 b t k) = x (ix2 ⟨b.val * 8192 + t.val, by omega⟩ k) := by
  rw [val_main_v0_apply]
  refine congrArg x (funext fun a => Fin.ext ?_)
  fin_cases a
  · show ((b.val * 8192 + t.val) * 1024 + k.val) / 1024 = b.val * 8192 + t.val; omega
  · show ((b.val * 8192 + t.val) * 1024 + k.val) % 1024 = k.val; omega

/-- The reference's normalisation of a row. -/
theorem norm_at (b : Fin 8) (t : Fin 8192) (k : Fin 1024) :
    val_main_v13 (F := Ideal) x g (ix3 b t k)
      = rms (fun l => x (ix2 ⟨b.val * 8192 + t.val, by omega⟩ l)) (fun l => g (ix1 l)) k := by
  have e : ∀ l : Fin 1024, idx_main_v2 (idx_main_v3 (idx_main_v9 (ix3 b t k))) l = ix3 b t l := fun l => by
    funext a; fin_cases a <;> rfl
  have eg : idx_main_v11 (idx_main_v12 (ix3 b t k)) = ix1 k := by
    funext a; fin_cases a; rfl
  rw [val_main_v13_apply, val_main_v12_apply, val_main_v11_apply, val_main_v10_apply, val_main_v9_apply, val_main_v8_apply,
    val_main_v7_apply, val_main_v6_apply, val_main_v5_apply, val_main_v4_apply, val_main_v3_apply, val_main_v2_apply, eg]
  simp only [e, val_main_v1_apply, by_seq, val_main_cst_apply, val_main_cst_0_apply, val_main_cst_1_apply,
    Ideal.ofBits_def, Cert.Ffn.Ref.w_zero, zero_add]
  rfl

/-- The reference's result is the projection of every row, in order of time. -/
theorem reference_eq : val_main_v17 (F := Ideal) x g w = wanted x g w := by
  funext i
  obtain ⟨r, j, rfl⟩ : ∃ (r : Fin 65536) (j : Fin 1024), i = ix2 r j := ⟨i 0, i 1, eq_ix2 i⟩
  have e : idx_main_v15 (idx_main_v16 (ix2 r j)) = ix3 ⟨r.val % 8, by omega⟩ ⟨r.val / 8, by omega⟩ j := by
    funext a
    refine Fin.ext ?_
    fin_cases a
    · show (r.val * 1024 + j.val) / 1024 % 8 = r.val % 8; omega
    · show (r.val * 1024 + j.val) / 8192 = r.val / 8; omega
    · show (r.val * 1024 + j.val) % 1024 = j.val; omega
  have el : ∀ (b : Fin 8) (t : Fin 8192) (k : Fin 1024), lidx_main_v14 (ix3 b t j) k = ix3 b t k := fun b t k => by
    funext a; fin_cases a <;> rfl
  have er : ∀ (b : Fin 8) (t : Fin 8192) (k : Fin 1024), ridx_main_v14 (ix3 b t j) k = ix2 k j := fun b t k => by
    funext a; fin_cases a <;> rfl
  rw [val_main_v17_apply, val_main_v16_apply, val_main_v15_apply, e, val_main_v14_apply]
  simp only [el, er, norm_at]
  exact (projRow_eq (fun k => x (ix2 (source r) k)) (fun k => g (ix1 k)) (fun k j => w (ix2 k j)) j).symm

end Reference

end Cert.S5
-- ==== Proof.S5Claim.lean ====
module

public import proofs.«01_k».proof.Defs
public import proofs.«01_k».proof.Proof.S5Array
public import proofs.«01_k».proof.Proof.Gen.Kernel4.Frame
public import proofs.«01_k».proof.Proof.Gen.Kernel4Ideal.Frame
public import proofs.«01_k».proof.Proof.Gen.Reference4Ideal.Read
public import Idealize.ShloMosaic.Lib.Quiescent

@[expose] public section

noncomputable section

namespace Cert.S5.Claims

open Idealize.ShloMosaic Idealize.ShloMosaic.TcCoe Idealize.SL.Sem

/-- The call as printed leaves its arguments alone and its counters at zero. -/
theorem frame_kernel : Cert.quiescent_Kernel4 := fun m ρ _ => Cert.Kernel4.Gen.frame m ρ

/-- So does its idealization. -/
theorem frame_ideal : Cert.quiescent_Kernel4Ideal := fun m ρ _ => Cert.Kernel4Ideal.Gen.frame m ρ

/-- So does the reference, which is host code and has no counter at all. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the call and the reference end with the same array. -/
theorem algebraic : Cert.algebraic_Kernel4Ideal_Reference4Ideal := by
  intro m ρ m' ρ' _ hagree
  refine ⟨fun c => wanted (m ((c : Thread Cert.Kernel4Ideal.nD Cert.Kernel4Ideal.τ).loc Cert.Kernel4Ideal.main_arg0))
    (m ((c : Thread Cert.Kernel4Ideal.nD Cert.Kernel4Ideal.τ).loc Cert.Kernel4Ideal.main_arg1))
    (m ((c : Thread Cert.Kernel4Ideal.nD Cert.Kernel4Ideal.τ).loc Cert.Kernel4Ideal.main_arg2)), run_kernel m ρ, ?_⟩
  refine (θ_run Cert.Reference4Ideal.defs _ _).mono (fun _ h c => ⟨(h c).1.trans ?_, (h c).2⟩)
    (Cert.Reference4Ideal.Value.run (F := Ideal) m' ρ')
  obtain ⟨e0, e1, e2⟩ := hagree c
  rw [Cert.Reference4Ideal.Read.val_main_v17_eq, e0, e1, e2]
  exact reference_eq _ _ _

end Cert.S5.Claims

end
-- ==== Proof.S5PostLast.lean ====
/- The last grid point of the call after the scan: it runs the write-out only. -/
module

public import proofs.«01_k».proof.Proof.Gen.Kernel5Ideal.Frame.RunC

@[expose] public section

set_option maxRecDepth 16384

noncomputable section

namespace Cert.S5Post

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1660000 in
/-- The body at the last grid point: the stores it makes, and that it runs. The branches are decided before the parts of
    the one taken are opened. -/
noncomputable def kernelRun0_D (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : ¬cond0_2 i) (hc3 : cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) :
    Σ' (L13 : List (View.Piece (Elt F) S8x128x1024 .f32)), Σ' (LS2 : List (View.Piece (Elt F) S1024x1024 .f32)), Σ' (LT0 : List (View.Piece (Elt F) S8x1024x128 .f32)), { LT1 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LT0) ∗ (∃ d, owns (c : Thread nD τ) arg16 fullShare d) ∗ owns (c : Thread nD τ) arg17 fullShare xs2) -∗ K ⟨⟩))
          ⊢ wp frame (wpE (defs₀ (F := F)) Variants.none c none) E (cc0_s5_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, [], fun E K => ?run⟩
  case run =>
    simp only [cc0_s5_post_eq_skeleton]; unfold cc0_s5_post_skel
    simp only [dif_neg hc0, dif_neg hc1, dif_neg hc2, dif_pos hc3]
    simp only [k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [HS0]; · iexists _; iexact HS0
    isplitl [HS1]
    · iexists _, _; isplitr; swap; · iexact HS1
      ipureintro; rfl
    iexists _; isplitr; · ipureintro; exact harg17.read_unread _
    iexact HS2

end Cert.S5Post

end
-- ==== Proof.S5PostRun.lean ====
/- The call after the scan as a whole: what each grid point leaves, and that every execution ends with the arguments
   unchanged and the counters at zero. -/
module

public import proofs.«01_k».proof.Proof.S5PostLast
public import Idealize.ShloMosaic.Lib.Claim

@[expose] public section

set_option maxRecDepth 16384

noncomputable section

namespace Cert.S5Post

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point the stores to the result's block cover it. -/
theorem cover0_A_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (y : S8x128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).1 S1x128x128.size (by sl_kernel_rfl) y

/-- What the first point leaves in the result's block. -/
def out0_A_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) : Vec F S8x128x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).1)

/-- At the first point the stores to the kept array cover it. -/
theorem scover0_A_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).2.1 S1024x1024.size (by sl_kernel_rfl) y

def sout0_A_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) : Vec F S1024x1024 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12).2.1)

theorem cover0_B_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) (y : S8x128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1 S1x128x128.size (by sl_kernel_rfl) y

def out0_B_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S8x128x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1)

theorem scover0_B_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1 S1024x1024.size (by sl_kernel_rfl) y

def sout0_B_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S1024x1024 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1)

theorem cover0_C_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) (y : S8x128x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1 S1x128x128.size (by sl_kernel_rfl) y

def out0_C_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S8x128x1024 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1)

theorem scover0_C_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) (y : S1024x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1 S1024x1024.size (by sl_kernel_rfl) y

def sout0_C_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : cond0_1 i) (hc2 : ¬cond0_2 i) (hc3 : ¬cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S1024x1024 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).2.1)

theorem cover0_D_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : ¬cond0_2 i) (hc3 : cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) (y : S8x128x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1 S1x128x128.size (by sl_kernel_rfl) y

def out0_D_13 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : ¬cond0_2 i) (hc3 : cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S8x128x1024 .f32 :=
  VO0_13.read (Elt F) (VO0_13.writes (Elt F) VO0_13.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 xs2).1)

def sout0_D_2 (c : Dev nD) (i : grid0.Coords) (arg1 : Memref sig .tc .vmem S8x128x1024 .f32) (harg1 : arg1.IsWhole) (arg2 : Memref sig .tc .vmem S1024x1024 .bf16) (harg2 : arg2.IsWhole) (arg3 : Memref sig .tc .vmem S64x512 .bf16) (harg3 : arg3.IsWhole) (arg4 : Memref sig .tc .vmem S64x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S8x1024x128 .f32) (harg15 : arg15.IsWhole) (arg16 : Memref sig .tc .vmem S1152x512 .f32) (harg16 : arg16.IsWhole) (arg17 : Memref sig .tc .vmem S1024x1024 .f32) (harg17 : arg17.IsWhole) (hc0 : ¬cond0_0 i) (hc1 : ¬cond0_1 i) (hc2 : ¬cond0_2 i) (hc3 : cond0_3 i)
    (x0 : Vec F S8x128x1024 .f32) (x1 : Vec F S1024x1024 .bf16) (x2 : Vec F S64x512 .bf16) (x3 : Vec F S64x512 .bf16) (x4 : Vec F S1024x512 .f32) (x5 : Vec F S1024x512 .f32) (x6 : Vec F S1x1024 .f32) (x7 : Vec F S1x512 .f32) (x8 : Vec F S512x512 .bf16) (x9 : Vec F S1x512 .f32) (x10 : Vec F S4x128x128 .bf16) (x11 : Vec F S1x512 .f32) (x12 : Vec F S1024x1024 .bf16) (xs2 : Vec F S1024x1024 .f32) : Vec F S1024x1024 .f32 := xs2

/-- What the result's block and the kept array hold after each grid point. -/
def outsAt0 (c : Dev nD) : (n : ℕ) → n < cfg0.N → Vec F S8x128x1024 .f32 × Vec F S1024x1024 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 65 = 0 then
      if h1 : (n + 1) % 63 = 0 then
        if h2 : (1 ≤ (n + 1) % 65 ∧ (n + 1) % 65 ≤ 62) then
          False.elim (by have hN : n + 1 < 65 := lt_of_lt_of_eq hn (show cfg0.N = 65 from N_0); omega)
        else
          if h3 : (n + 1) % 65 = 64 then
            False.elim (by have hN : n + 1 < 65 := lt_of_lt_of_eq hn (show cfg0.N = 65 from N_0); omega)
          else
            (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
      else
        False.elim (by have hN : n + 1 < 65 := lt_of_lt_of_eq hn (show cfg0.N = 65 from N_0); omega)
    else
      if h1 : (n + 1) % 63 = 0 then
        if h2 : (1 ≤ (n + 1) % 65 ∧ (n + 1) % 65 ≤ 62) then
          False.elim (by have hN : n + 1 < 65 := lt_of_lt_of_eq hn (show cfg0.N = 65 from N_0); omega)
        else
          if h3 : (n + 1) % 65 = 64 then
            False.elim (by have hN : n + 1 < 65 := lt_of_lt_of_eq hn (show cfg0.N = 65 from N_0); omega)
          else
            (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
      else
        if h2 : (1 ≤ (n + 1) % 65 ∧ (n + 1) % 65 ≤ 62) then
          if h3 : (n + 1) % 65 = 64 then
            False.elim (by have hN : n + 1 < 65 := lt_of_lt_of_eq hn (show cfg0.N = 65 from N_0); omega)
          else
            (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
        else
          if h3 : (n + 1) % 65 = 64 then
            (out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
          else
            False.elim (by have hN : n + 1 < 65 := lt_of_lt_of_eq hn (show cfg0.N = 65 from N_0); omega)

theorem outsAt0_A (c : Dev nD) (t : Fin cfg0.N) (h0 : t.val % 65 = 0) (h1 : t.val % 63 = 0) (h2 : ¬(1 ≤ t.val % 65 ∧ t.val % 65 ≤ 62)) (h3 : ¬t.val % 65 = 64) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_pos h1).trans ((dif_neg h2).trans ((dif_neg h3).trans rfl)))

theorem outsAt0_B (c : Dev nD) (t : Fin cfg0.N) (h0 : ¬t.val % 65 = 0) (h1 : ¬t.val % 63 = 0) (h2 : (1 ≤ t.val % 65 ∧ t.val % 65 ≤ 62)) (h3 : ¬t.val % 65 = 64) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt0_C (c : Dev nD) (t : Fin cfg0.N) (h0 : ¬t.val % 65 = 0) (h1 : t.val % 63 = 0) (h2 : ¬(1 ≤ t.val % 65 ∧ t.val % 65 ≤ 62)) (h3 : ¬t.val % 65 = 64) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt0_D (c : Dev nD) (t : Fin cfg0.N) (h0 : ¬t.val % 65 = 0) (h1 : ¬t.val % 63 = 0) (h2 : ¬(1 ≤ t.val % 65 ∧ t.val % 65 ≤ 62)) (h3 : t.val % 65 = 64) :
    outsAt0 m c t.val t.isLt = (out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2)) ∗ (∃ r, prngReg c r)) := by
  cases n with
  | zero => exact absurd rfl hz
  | succ n => rfl

/-- What each block holds before and after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 25600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val % 63 = 0
    · by_cases h2 : (1 ≤ t.val % 65 ∧ t.val % 65 ≤ 62)
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h)) (fun h => h3 ((hcond0_3 t).mp h))], after0_13]
          by_cases hz : t.val = 0
          · rw [PhiS_castSucc m c t, PhiS_zero m c _ _ hz, PhiA0_eq]
            rw [outsAt0_A m c t h0 h1 h2 h3]
            unfold out0_A_13 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexists _; iexact H13
            isplitl [HS0]; · iexact HS0
            isplitl [HS1]; · iexact HS1
            isplitl [HS2]; · iexact HS2
            iintro ⟨H0, H1, H2, H3, H4, H5, H6, H7, H8, H9, H10, H11, H12, ⟨%e13, H13⟩, ⟨%fT0, HS0⟩, ⟨%fT1, HS1⟩, ⟨%es2, HS2⟩⟩
            isplitl [HS0 HS1 HS2 Hg]
            · isplitl [HS0 HS1 HS2]
              · isplitl [HS0]
                · iexists _; unfold owns; iexists _; isplitr
                  swap; · iexact HS0
                  ipureintro; rfl
                isplitl [HS1]
                · iexists _; unfold owns; iexists _; isplitr
                  swap; · iexact HS1
                  ipureintro; rfl
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
          · exfalso; have hN : t.val < 65 := lt_of_lt_of_eq t.isLt (show cfg0.N = 65 from N_0); omega
    · exfalso; omega
  · by_cases h1 : t.val % 63 = 0
    · by_cases h2 : (1 ≤ t.val % 65 ∧ t.val % 65 ≤ 62)
      · exfalso; have hN : t.val < 65 := lt_of_lt_of_eq t.isLt (show cfg0.N = 65 from N_0); have h : t.val = 0 ∨ t.val = 63 := by omega
        rcases h with h | h <;> omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_1 t).mpr h1) (fun h => h2 ((hcond0_2 t).mp h)) (fun h => h3 ((hcond0_3 t).mp h))], after0_13]
          by_cases hz : t.val = 0
          · exfalso; have hN : t.val < 65 := lt_of_lt_of_eq t.isLt (show cfg0.N = 65 from N_0); omega
          · rw [PhiS_castSucc m c t, PhiS_pos m c _ _ hz]
            rw [outsAt0_C m c t h0 h1 h2 h3]
            unfold out0_C_13 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexists _; iexact H13
            isplitl [HS0]; · iexact HS0
            isplitl [HS1]; · iexact HS1
            isplitl [HS2]; · iexact HS2
            iintro ⟨H0, H1, H2, H3, H4, H5, H6, H7, H8, H9, H10, H11, H12, ⟨%e13, H13⟩, ⟨%fT0, HS0⟩, ⟨%fT1, HS1⟩, ⟨%es2, HS2⟩⟩
            isplitl [HS0 HS1 HS2 Hg]
            · isplitl [HS0 HS1 HS2]
              · isplitl [HS0]
                · iexists _; unfold owns; iexists _; isplitr
                  swap; · iexact HS0
                  ipureintro; rfl
                isplitl [HS1]
                · iexists _; unfold owns; iexists _; isplitr
                  swap; · iexact HS1
                  ipureintro; rfl
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _)
    · by_cases h2 : (1 ≤ t.val % 65 ∧ t.val % 65 ≤ 62)
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13_B t (fun h => h0 ((hcond0_0 t).mp h)) (fun h => h1 ((hcond0_1 t).mp h)) ((hcond0_2 t).mpr h2) (fun h => h3 ((hcond0_3 t).mp h))], after0_13]
          by_cases hz : t.val = 0
          · exfalso; have hN : t.val < 65 := lt_of_lt_of_eq t.isLt (show cfg0.N = 65 from N_0); omega
          · rw [PhiS_castSucc m c t, PhiS_pos m c _ _ hz]
            rw [outsAt0_B m c t h0 h1 h2 h3]
            unfold out0_B_13 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexists _; iexact H13
            isplitl [HS0]; · iexact HS0
            isplitl [HS1]; · iexact HS1
            isplitl [HS2]; · iexact HS2
            iintro ⟨H0, H1, H2, H3, H4, H5, H6, H7, H8, H9, H10, H11, H12, ⟨%e13, H13⟩, ⟨%fT0, HS0⟩, ⟨%fT1, HS1⟩, ⟨%es2, HS2⟩⟩
            isplitl [HS0 HS1 HS2 Hg]
            · isplitl [HS0 HS1 HS2]
              · isplitl [HS0]
                · iexists _; unfold owns; iexists _; isplitr
                  swap; · iexact HS0
                  ipureintro; rfl
                isplitl [HS1]
                · iexists _; unfold owns; iexists _; isplitr
                  swap; · iexact HS1
                  ipureintro; rfl
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _)
      · by_cases h3 : t.val % 65 = 64
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13_D t (fun h => h0 ((hcond0_0 t).mp h)) (fun h => h1 ((hcond0_1 t).mp h)) (fun h => h2 ((hcond0_2 t).mp h)) ((hcond0_3 t).mpr h3)], after0_13]
          by_cases hz : t.val = 0
          · exfalso; have hN : t.val < 65 := lt_of_lt_of_eq t.isLt (show cfg0.N = 65 from N_0); omega
          · rw [PhiS_castSucc m c t, PhiS_pos m c _ _ hz]
            rw [outsAt0_D m c t h0 h1 h2 h3]
            unfold out0_D_13 sout0_D_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
            iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexists _; iexact H13
            isplitl [HS0]; · iexact HS0
            isplitl [HS1]; · iexact HS1
            isplitl [HS2]; · iexact HS2
            iintro ⟨H0, H1, H2, H3, H4, H5, H6, H7, H8, H9, H10, H11, H12, ⟨%e13, H13⟩, ⟨%fT0, HS0⟩, HS1, HS2⟩
            isplitl [HS0 HS1 HS2 Hg]
            · isplitl [HS0 HS1 HS2]
              · isplitl [HS0]
                · iexists _; unfold owns; iexists _; isplitr
                  swap; · iexact HS0
                  ipureintro; rfl
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            unfold owns; iexists _; isplitr
            swap; · iexact H13
            ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

/-- The body keeps, at every grid point, what the description of the arrays says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
/-- Every execution ends with the arrays as described above and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- Every execution ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.S5Post

end
-- ==== Proof.S5PostClaim.lean ====
/- The claims about the call after the scan: its frames. -/
module

public import proofs.«01_k».proof.Defs
public import proofs.«01_k».proof.Proof.S5PostRun
public import proofs.«01_k».proof.Proof.Gen.Kernel5
public import Idealize.ShloMosaic.Lib.Quiescent

@[expose] public section

noncomputable section

namespace Cert.S5Post.Claims

open Idealize.ShloMosaic Idealize.ShloMosaic.TcCoe Idealize.SL.Sem

/-- The idealization of the call leaves its arguments alone and its counters at zero. -/
theorem frame_ideal : Cert.quiescent_Kernel5Ideal := fun m ρ _ => Cert.S5Post.frame m ρ

variable {F : FTy → Type} [FloatOps F]

set_option maxRecDepth 100000 in
/-- The call as printed has the same body, -/
theorem body_eq : Cert.Kernel5.cc0_s5_post (F := F) = Cert.Kernel5Ideal.cc0_s5_post (F := F) := by
  with_unfolding_all rfl

set_option maxRecDepth 100000 in
/-- in the same table, -/
theorem table_eq : Cert.Kernel5.defs₀ (F := F) = Cert.Kernel5Ideal.defs₀ (F := F) := by
  refine congrArg Defs.onTc ?_
  funext l x
  fin_cases l
  obtain ⟨t, s⟩ := x
  dsimp only
  rw [body_eq]
  rfl

/-- run by the same pipeline, -/
theorem defs_eq : Cert.Kernel5.defs (F := F) = Cert.Kernel5Ideal.defs (F := F) :=
  congrArg (Pipeline.defs Cert.Kernel5Ideal.pcfgs) table_eq

set_option maxRecDepth 100000 in
/-- from the same host code. -/
theorem main_eq : Cert.Kernel5.main (F := F) = Cert.Kernel5Ideal.main (F := F) := by
  with_unfolding_all rfl

/-- So it does the same. -/
theorem frame_kernel : Cert.quiescent_Kernel5 := fun m ρ _ => by
  rw [defs_eq, main_eq]
  exact Cert.S5Post.frame (F := Bits) m ρ

end Cert.S5Post.Claims

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5Ideal.Frame.RunC
public import proofs.«01_k».proof.Proof.NaClaim
public import proofs.«01_k».proof.Proof.FfnClaim
public import proofs.«01_k».proof.Proof.AttnOutClaim
public import proofs.«01_k».proof.Proof.S5Claim
public import proofs.«01_k».proof.Proof.S5PostClaim

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Na.pre_facts,
    Cert.Na.Claims.frame_kernel, Cert.Na.Claims.frame_ideal, Cert.Na.Claims.frame_ideal_finite,
    Cert.Na.Claims.frame_reference, Cert.Na.Claims.frame_reference_finite,
    Cert.Ffn.Claims.frame_kernel, Cert.Ffn.Claims.frame_ideal, Cert.Ffn.Claims.frame_reference,
    Cert.AttnOut.Claims.frame_kernel, Cert.AttnOut.Claims.frame_ideal, Cert.AttnOut.Claims.frame_reference,
    Cert.S5.Claims.frame_kernel, Cert.S5.Claims.frame_ideal, Cert.S5.Claims.frame_reference,
    Cert.S5Post.Claims.frame_kernel, Cert.S5Post.Claims.frame_ideal,
    Cert.Na.Claims.preserves, Cert.Na.Claims.algebraic,
    trivial, Cert.Ffn.Claims.algebraic, trivial, Cert.AttnOut.Claims.algebraic,
    trivial, Cert.S5.Claims.algebraic, trivial⟩

end Cert.Proof

end
